-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v63_0)) (v1 : (c : Dev Cert.Kernel2Ideal.nD) → Buf (Elt Ideal) ((c.tc : Thread Cert.Kernel2Ideal.nD Cert.Kernel2Ideal.τ).loc Cert.Kernel2Ideal.main_v63_1)) (v2 : (c : Dev Cert.Kernel2Ideal.nD) → Buf (Elt Ideal) ((c.tc : Thread Cert.Kernel2Ideal.nD Cert.Kernel2Ideal.τ).loc Cert.Kernel2Ideal.main_v63_2)) (v3 : (c : Dev Cert.Kernel2Ideal.nD) → Buf (Elt Ideal) ((c.tc : Thread Cert.Kernel2Ideal.nD Cert.Kernel2Ideal.τ).loc Cert.Kernel2Ideal.main_v63_3)) (v4 : (c : Dev Cert.Kernel2Ideal.nD) → Buf (Elt Ideal) ((c.tc : Thread Cert.Kernel2Ideal.nD Cert.Kernel2Ideal.τ).loc Cert.Kernel2Ideal.main_v63_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63_0) = v0 c
          ∧ r.2.mem ((c.tc : Thread Cert.Kernel2Ideal.nD Cert.Kernel2Ideal.τ).loc Cert.Kernel2Ideal.main_v63_1) = v1 c
          ∧ r.2.mem ((c.tc : Thread Cert.Kernel2Ideal.nD Cert.Kernel2Ideal.τ).loc Cert.Kernel2Ideal.main_v63_2) = v2 c
          ∧ r.2.mem ((c.tc : Thread Cert.Kernel2Ideal.nD Cert.Kernel2Ideal.τ).loc Cert.Kernel2Ideal.main_v63_3) = v3 c
          ∧ r.2.mem ((c.tc : Thread Cert.Kernel2Ideal.nD Cert.Kernel2Ideal.τ).loc Cert.Kernel2Ideal.main_v63_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_v109) = v1 c
          ∧ r.2.mem ((c.tc : Thread Cert.Reference2Ideal.nD Cert.Reference2Ideal.τ).loc Cert.Reference2Ideal.main_v110) = v2 c
          ∧ r.2.mem ((c.tc : Thread Cert.Reference2Ideal.nD Cert.Reference2Ideal.τ).loc Cert.Reference2Ideal.main_v111) = v3 c
          ∧ r.2.mem ((c.tc : Thread Cert.Reference2Ideal.nD Cert.Reference2Ideal.τ).loc Cert.Reference2Ideal.main_v112) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16384x1024 : Shape := ⟨2, ![16384, 1024]⟩
abbrev S256x1024 : Shape := ⟨2, ![256, 1024]⟩
abbrev S_ : Shape := ⟨0, ![]⟩
abbrev S64 : Shape := ⟨1, ![64]⟩
abbrev S128 : Shape := ⟨1, ![128]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v29 : IVec S_ 1) (main_v33 : IVec S_ 1) : IVec S_ 1 :=
  let main_v34 : IVec S_ 1 := andi main_v29 main_v33
  let main_v35 : FVec F S64 .f32 := Host.absf main_arg8
  let main_cst_12 : FVec F S_ .f32 := constant S_ .f32 0x7F800000#32
  let main_v36 : FVec F S64 .f32 := broadcastInDim S64 ![] bcast_S_S64 main_cst_12
  let main_v37 : IVec S64 1 := cmpf .olt main_v35 main_v36
  let main_c_13 : IVec S_ 1 := constantI S_ 1 1#1
  let main_v38 : IVec S_ 1 := (fun x v => Host.reduce IntOp.andi x v reducesTo_S64_S_d0 h_S_) main_v37 main_c_13
  let main_v39 : IVec S_ 1 := andi main_v34 main_v38
  let main_v40 : FVec F S64 .f32 := Host.absf main_arg9
  let main_cst_14 : FVec F S_ .f32 := constant S_ .f32 0x7F800000#32
  let main_v41 : FVec F S64 .f32 := broadcastInDim S64 ![] bcast_S_S64 main_cst_14
  let main_v42 : IVec S64 1 := cmpf .olt main_v40 main_v41
  let main_c_15 : IVec S_ 1 := constantI S_ 1 1#1
  let main_v43 : IVec S_ 1 := (fun x v => Host.reduce IntOp.andi x v reducesTo_S64_S_d0 h_S_) main_v42 main_c_15
  let main_v44 : IVec S_ 1 := andi main_v39 main_v43
  let main_v45 : FVec F S64 .f32 := Host.absf main_arg10
  let main_cst_16 : FVec F S_ .f32 := constant S_ .f32 0x7F800000#32
  let main_v46 : FVec F S64 .f32 := broadcastInDim S64 ![] bcast_S_S64 main_cst_16
  let main_v47 : IVec S64 1 := cmpf .olt main_v45 main_v46
  let main_c_17 : IVec S_ 1 := constantI S_ 1 1#1
  let main_v48 : IVec S_ 1 := (fun x v => Host.reduce IntOp.andi x v reducesTo_S64_S_d0 h_S_) main_v47 main_c_17
  let main_v49 : IVec S_ 1 := andi main_v44 main_v48
  main_v49

def fn_part1 {F : FTy → Type} [FloatOps F] (main_arg4 : FVec F S16384x1024 .f32) (main_arg5 : FVec F S_ .f32) (main_arg6 : FVec F S_ .f32) (main_arg7 : FVec F S64 .f32) (main_arg8 : FVec F S64 .f32) (main_arg9 : FVec F S64 .f32) (main_arg10 : FVec F S64 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_v26 : IVec S_ 1 := andi main_v23 main_v25
  let main_v27 : FVec F S_ .f32 := Host.absf main_arg6
  let main_cst_9 : FVec F S_ .f32 := constant S_ .f32 0x7F800000#32
  let main_v28 : IVec S_ 1 := cmpf .olt main_v27 main_cst_9
  let main_v29 : IVec S_ 1 := andi main_v26 main_v28
  let main_v30 : FVec F S64 .f32 := Host.absf main_arg7
  let main_cst_10 : FVec F S_ .f32 := constant S_ .f32 0x7F800000#32
  let main_v31 : FVec F S64 .f32 := broadcastInDim S64 ![] bcast_S_S64 main_cst_10
  let main_v32 : IVec S64 1 := cmpf .olt main_v30 main_v31
  let main_c_11 : IVec S_ 1 := constantI S_ 1 1#1
  let main_v33 : IVec S_ 1 := (fun x v => Host.reduce IntOp.andi x v reducesTo_S64_S_d0 h_S_) main_v32 main_c_11
  fn_part2 (F := F) main_arg8 main_arg9 main_arg10 main_v29 main_v33

def fn {F : FTy → Type} [FloatOps F] (main_arg0 : FVec F S16384x1024 .f32) (main_arg1 : FVec F S256x1024 .f32) (main_arg2 : FVec F S16384x1024 .f32) (main_arg3 : FVec F S256x1024 .f32) (main_arg4 : FVec F S16384x1024 .f32) (main_arg5 : FVec F S_ .f32) (main_arg6 : FVec F S_ .f32) (main_arg7 : FVec F S64 .f32) (main_arg8 : FVec F S64 .f32) (main_arg9 : FVec F S64 .f32) (main_arg10 : FVec F S64 .f32) (main_arg11 : FVec F S128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S256x1024 : Shape := ⟨2, ![256, 1024]⟩
abbrev S_ : Shape := ⟨0, ![]⟩
abbrev S64 : Shape := ⟨1, ![64]⟩
abbrev S128 : Shape := ⟨1, ![128]⟩
abbrev S16640x1024 : Shape := ⟨2, ![16640, 1024]⟩
abbrev S8x128 : Shape := ⟨2, ![8, 128]⟩
abbrev S1 : Shape := ⟨1, ![1]⟩
abbrev S2 : Shape := ⟨1, ![2]⟩
abbrev S8x2x256x16384 : Shape := ⟨4, ![8, 2, 256, 16384]⟩
abbrev S2048x128 : Shape := ⟨2, ![2048, 128]⟩
abbrev S1x2x256x2048 : Shape := ⟨4, ![1, 2, 256, 2048]⟩
abbrev S128x2048 : Shape := ⟨2, ![128, 2048]⟩
abbrev S1x1x128x2048 : Shape := ⟨4, ![1, 1, 128, 2048]⟩
abbrev S8x2x16640x256 : Shape := ⟨4, ![8, 2, 16640, 256]⟩
abbrev S3328x128 : Shape := ⟨2, ![3328, 128]⟩
abbrev S1x2x3328x256 : Shape := ⟨4, ![1, 2, 3328, 256]⟩
abbrev S1x1x3328x128 : Shape := ⟨4, ![1, 1, 3328, 128]⟩
abbrev S8x5x144x3328 : Shape := ⟨4, ![8, 5, 144, 3328]⟩
abbrev S1x1x144x3328 : Shape := ⟨4, ![1, 1, 144, 3328]⟩
abbrev S128x3328 : Shape := ⟨2, ![128, 3328]⟩
abbrev S1x1x128x3328 : Shape := ⟨4, ![1, 1, 128, 3328]⟩
abbrev S16x3328 : Shape := ⟨2, ![16, 3328]⟩
abbrev S1x1x16x3328 : Shape := ⟨4, ![1, 1, 16, 3328]⟩
abbrev S8x2x5x3328x256 : Shape := ⟨5, ![8, 2, 5, 3328, 256]⟩
abbrev S128x1 : Shape := ⟨2, ![128, 1]⟩
abbrev S1x2x256x512 : Shape := ⟨4, ![1, 2, 256, 512]⟩
abbrev S1x2x5x3328x256 : Shape := ⟨5, ![1, 2, 5, 3328, 256]⟩
abbrev S1x5x144x3328 : Shape := ⟨4, ![1, 5, 144, 3328]⟩
abbrev S512x128 : Shape := ⟨2, ![512, 128]⟩
abbrev S144x512 : Shape := ⟨2, ![144, 512]⟩
abbrev S2x3328x512 : Shape := ⟨3, ![2, 3328, 512]⟩
abbrev S1x1x256x512 : Shape := ⟨4, ![1, 1, 256, 512]⟩
abbrev S256x512 : Shape := ⟨2, ![256, 512]⟩
abbrev S1x512 : Shape := ⟨2, ![1, 512]⟩
abbrev S1x1x1x256x256 : Shape := ⟨5, ![1, 1, 1, 256, 256]⟩
abbrev S256x256 : Shape := ⟨2, ![256, 256]⟩
abbrev S1x256x512 : Shape := ⟨3, ![1, 256, 512]⟩
abbrev S512 : Shape := ⟨1, ![512]⟩
abbrev S1x1x144x256 : Shape := ⟨4, ![1, 1, 144, 256]⟩
abbrev S144x256 : Shape := ⟨2, ![144, 256]⟩
abbrev S1x128 : Shape := ⟨2, ![1, 128]⟩
abbrev S1x1 : Shape := ⟨2, ![1, 1]⟩
abbrev S128x512 : Shape := ⟨2, ![128, 512]⟩

abbrev nBuf : Space → Nat
  | .hbm => 99
  | .vmem => 24
  | .smem => 3
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16384x1024, .f32⟩
  | .hbm, ⟨3, _⟩ => ⟨S256x1024, .f32⟩
  | .hbm, ⟨4, _⟩ => ⟨S16384x1024, .f32⟩
  | .hbm, ⟨5, _⟩ => ⟨S_, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S256x1024, .bf16⟩
  | .hbm, ⟨20, _⟩ => ⟨S16384x1024, .bf16⟩
  | .hbm, ⟨21, _⟩ => ⟨S16640x1024, .bf16⟩
  | .hbm, ⟨22, _⟩ => ⟨S256x1024, .bf16⟩
  | .hbm, ⟨23, _⟩ => ⟨S16384x1024, .bf16⟩
  | .hbm, ⟨24, _⟩ => ⟨S16640x1024, .bf16⟩
  | .hbm, ⟨25, _⟩ => ⟨S_, .f32⟩
  | .hbm, ⟨26, _⟩ => ⟨S8x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S8x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S8x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S8x128, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1, .f32⟩
  | .hbm, ⟨88, _⟩ => ⟨S8x2x256x16384, .fp8e4m3⟩
  | .hbm, ⟨89, _⟩ => ⟨S1, .f32⟩
  | .hbm, ⟨90, _⟩ => ⟨S8x2x16640x256, .fp8e4m3⟩
  | .hbm, ⟨91, _⟩ => ⟨S8x5x144x3328, .bf16⟩
  | .hbm, ⟨92, _⟩ => ⟨S8x2x5x3328x256, .fp8e4m3⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1, .f32⟩
  | .hbm, ⟨97, _⟩ => ⟨S128x1, .f32⟩
  | .hbm, ⟨98, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S1x2x256x2048, .fp8e4m3⟩
  | .local _ .vmem, ⟨3, _⟩ => ⟨S1x2x256x2048, .fp8e4m3⟩
  | .local _ .vmem, ⟨4, _⟩ => ⟨S3328x128, .bf16⟩
  | .local _ .vmem, ⟨5, _⟩ => ⟨S3328x128, .bf16⟩
  | .local _ .vmem, ⟨6, _⟩ => ⟨S1x2x3328x256, .fp8e4m3⟩
  | .local _ .vmem, ⟨7, _⟩ => ⟨S1x2x3328x256, .fp8e4m3⟩
  | .local _ .vmem, ⟨8, _⟩ => ⟨S3328x128, .bf16⟩
  | .local _ .vmem, ⟨9, _⟩ => ⟨S3328x128, .bf16⟩
  | .local _ .vmem, ⟨10, _⟩ => ⟨S1x1x144x3328, .bf16⟩
  | .local _ .vmem, ⟨11, _⟩ => ⟨S1x1x144x3328, .bf16⟩
  | .local _ .vmem, ⟨12, _⟩ => ⟨S8x128, .f32⟩
  | .local _ .vmem, ⟨13, _⟩ => ⟨S128x1, .f32⟩
  | .local _ .vmem, ⟨14, _⟩ => ⟨S1x2x256x512, .fp8e4m3⟩
  | .local _ .vmem, ⟨15, _⟩ => ⟨S1x2x256x512, .fp8e4m3⟩
  | .local _ .vmem, ⟨16, _⟩ => ⟨S1x2x5x3328x256, .fp8e4m3⟩
  | .local _ .vmem, ⟨17, _⟩ => ⟨S1x5x144x3328, .bf16⟩
  | .local _ .vmem, ⟨18, _⟩ => ⟨S512x128, .bf16⟩
  | .local _ .vmem, ⟨19, _⟩ => ⟨S512x128, .bf16⟩
  | .local _ .vmem, ⟨20, _⟩ => ⟨S144x512, .f32⟩
  | .local _ .vmem, ⟨21, _⟩ => ⟨S144x512, .f32⟩
  | .local _ .vmem, ⟨22, _⟩ => ⟨S2x3328x512, .f32⟩
  | .local _ .vmem, ⟨23, _⟩ => ⟨S2x3328x512, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_cst_12 : Ref sig .tc := ⟨.hbm, 60, rfl⟩
abbrev main_call0_v0 : Ref sig .tc := ⟨.hbm, 61, rfl⟩
abbrev main_v34 : Ref sig .tc := ⟨.hbm, 62, rfl⟩
abbrev main_cst_13 : Ref sig .tc := ⟨.hbm, 63, rfl⟩
abbrev main_v35 : Ref sig .tc := ⟨.hbm, 64, rfl⟩
abbrev main_cst_14 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_15 : Ref sig .tc := ⟨.hbm, 69, rfl⟩
abbrev main_v39 : Ref sig .tc := ⟨.hbm, 70, rfl⟩
abbrev main_v40 : Ref sig .tc := ⟨.hbm, 71, rfl⟩
abbrev main_cst_16 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_17 : Ref sig .tc := ⟨.hbm, 76, rfl⟩
abbrev main_v44 : Ref sig .tc := ⟨.hbm, 77, rfl⟩
abbrev main_cst_18 : Ref sig .tc := ⟨.hbm, 78, rfl⟩
abbrev main_call1_v0 : Ref sig .tc := ⟨.hbm, 79, rfl⟩
abbrev main_v45 : Ref sig .tc := ⟨.hbm, 80, rfl⟩
abbrev main_cst_19 : Ref sig .tc := ⟨.hbm, 81, rfl⟩
abbrev main_v46 : Ref sig .tc := ⟨.hbm, 82, rfl⟩
abbrev main_cst_20 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_21 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg3_1 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg6_1 : Ref sig .tc := ⟨.vmem, 19, rfl⟩
abbrev cc3_scratch0 : Ref sig .tc := ⟨.vmem, 20, rfl⟩
abbrev cc3_scratch1 : Ref sig .tc := ⟨.vmem, 21, rfl⟩
abbrev cc3_scratch2 : Ref sig .tc := ⟨.vmem, 22, rfl⟩
abbrev cc3_scratch3 : Ref sig .tc := ⟨.vmem, 23, rfl⟩
abbrev cc0_stg0_0 : Ref sig .tc := ⟨.smem, 0, rfl⟩
abbrev cc1_stg0_0 : Ref sig .tc := ⟨.smem, 1, rfl⟩
abbrev cc3_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem1_0 : DmaSem sig := 15
abbrev cc3_sem2_0 : DmaSem sig := 16
abbrev cc3_sem3_0 : DmaSem sig := 17
abbrev cc3_sem3_1 : DmaSem sig := 18
abbrev cc3_sem4_0 : DmaSem sig := 19
abbrev cc3_sem5_0 : DmaSem sig := 20
abbrev cc3_sem6_0 : DmaSem sig := 21
abbrev cc3_sem6_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 5], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S3328x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x3328x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S3328x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x144x3328 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![8, 32], ![false, false]⟩

@[reducible] def k3_t1_loop : Scf.Loop 32 :=
  let c0_i32 : BitVec 32 := 0#32
  let c4_i32 : BitVec 32 := 4#32
  let v247 : BitVec 32 := Scalar.addi c0_i32 c4_i32
  let c1_i32 : BitVec 32 := 1#32
  ⟨c0_i32, v247, c1_i32⟩
def k3_cond1 (k3_t1 : Fin k3_t1_loop.trips) : BitVec 1 :=
  let c0_i32 : BitVec 32 := 0#32
  let c1_i32 : BitVec 32 := 1#32
  let arg13 : BitVec 32 := Scf.iv c0_i32 c1_i32 k3_t1
  let c2_i32 : BitVec 32 := 2#32
  let c0_i32_445 : BitVec 32 := 0#32
  let v604 : BitVec 1 := Scalar.cmpi .eq c2_i32 c0_i32_445
  let c1_i32_446 : BitVec 32 := 1#32
  let v605 : BitVec 32 := Scalar.select v604 c1_i32_446 c2_i32
  let v606 : BitVec 32 := Scalar.remsi arg13 v605
  let c0_i32_448 : BitVec 32 := 0#32
  let v608 : BitVec 1 := Scalar.cmpi .slt v606 c0_i32_448
  let c0_i32_449 : BitVec 32 := 0#32
  let v609 : BitVec 1 := Scalar.cmpi .slt v605 c0_i32_449
  let v610 : BitVec 1 := Scalar.xori v608 v609
  let c0_i32_447 : BitVec 32 := 0#32
  let v607 : BitVec 1 := Scalar.cmpi .ne v606 c0_i32_447
  let v611 : BitVec 1 := Scalar.andi v610 v607
  let v612 : BitVec 32 := Scalar.addi v606 v605
  let v613 : BitVec 32 := Scalar.select v611 v612 v606
  let c0_i32_450 : BitVec 32 := 0#32
  let v614 : BitVec 1 := Scalar.cmpi .eq v613 c0_i32_450
  let v615 : BitVec 32 := Scalar.extui v614
  let c0_i32_451 : BitVec 32 := 0#32
  let v616 : BitVec 1 := Scalar.cmpi .ne v615 c0_i32_451
  v616

def k3_off1 (k3_t1 : Fin k3_t1_loop.trips) : Fin 4 → Nat :=
  let c0_452 : Index := 0#32
  let c0_i32 : BitVec 32 := 0#32
  let c1_i32 : BitVec 32 := 1#32
  let arg13 : BitVec 32 := Scf.iv c0_i32 c1_i32 k3_t1
  let v620 : Index := Scalar.indexCast arg13
  let c0_453 : Index := 0#32
  let c0_454 : Index := 0#32
  ![0, v620.toNat, 0, 0]
def k3_off2 (k3_t1 : Fin k3_t1_loop.trips) : Fin 5 → Nat :=
  let c0_456 : Index := 0#32
  let c0_457 : Index := 0#32
  let c0_i32 : BitVec 32 := 0#32
  let c1_i32 : BitVec 32 := 1#32
  let arg13 : BitVec 32 := Scf.iv c0_i32 c1_i32 k3_t1
  let c1_i32_455 : BitVec 32 := 1#32
  let v623 : BitVec 32 := Scalar.addi arg13 c1_i32_455
  let v624 : Index := Scalar.indexCast v623
  let c0_458 : Index := 0#32
  let c0_459 : Index := 0#32
  ![0, 0, v624.toNat, 0, 0]
def k3_off3 (k3_t1 : Fin k3_t1_loop.trips) : Fin 5 → Nat :=
  let c0_470 : Index := 0#32
  let c1_471 : Index := 1#32
  let c0_i32 : BitVec 32 := 0#32
  let c1_i32 : BitVec 32 := 1#32
  let arg13 : BitVec 32 := Scf.iv c0_i32 c1_i32 k3_t1
  let c1_i32_469 : BitVec 32 := 1#32
  let v642 : BitVec 32 := Scalar.addi arg13 c1_i32_469
  let v643 : Index := Scalar.indexCast v642
  let c0_472 : Index := 0#32
  let c0_473 : Index := 0#32
  ![0, 1, v643.toNat, 0, 0]
def k3_off4 (k3_t1 : Fin k3_t1_loop.trips) : Fin 4 → Nat :=
  let c0_483 : Index := 0#32
  let c0_i32 : BitVec 32 := 0#32
  let c1_i32 : BitVec 32 := 1#32
  let arg13 : BitVec 32 := Scf.iv c0_i32 c1_i32 k3_t1
  let v661 : Index := Scalar.indexCast arg13
  let c0_484 : Index := 0#32
  let c256_485 : Index := 256#32
  ![0, v661.toNat, 0, 256]
def k3_off5 (k3_t1 : Fin k3_t1_loop.trips) : Fin 5 → Nat :=
  let c0_487 : Index := 0#32
  let c0_488 : Index := 0#32
  let c0_i32 : BitVec 32 := 0#32
  let c1_i32 : BitVec 32 := 1#32
  let arg13 : BitVec 32 := Scf.iv c0_i32 c1_i32 k3_t1
  let c1_i32_486 : BitVec 32 := 1#32
  let v664 : BitVec 32 := Scalar.addi arg13 c1_i32_486
  let v665 : Index := Scalar.indexCast v664
  let c256_489 : Index := 256#32
  let c0_490 : Index := 0#32
  ![0, 0, v665.toNat, 256, 0]
def k3_off6 (k3_t1 : Fin k3_t1_loop.trips) : Fin 5 → Nat :=
  let c0_501 : Index := 0#32
  let c1_502 : Index := 1#32
  let c0_i32 : BitVec 32 := 0#32
  let c1_i32 : BitVec 32 := 1#32
  let arg13 : BitVec 32 := Scf.iv c0_i32 c1_i32 k3_t1
  let c1_i32_500 : BitVec 32 := 1#32
  let v685 : BitVec 32 := Scalar.addi arg13 c1_i32_500
  let v686 : Index := Scalar.indexCast v685
  let c256_503 : Index := 256#32
  let c0_504 : Index := 0#32
  ![0, 1, v686.toNat, 256, 0]
def k3_off7 (k3_t1 : Fin k3_t1_loop.trips) : Fin 4 → Nat :=
  let c0_514 : Index := 0#32
  let c0_i32 : BitVec 32 := 0#32
  let c1_i32 : BitVec 32 := 1#32
  let arg13 : BitVec 32 := Scf.iv c0_i32 c1_i32 k3_t1
  let v706 : Index := Scalar.indexCast arg13
  let c0_515 : Index := 0#32
  let c512_516 : Index := 512#32
  ![0, v706.toNat, 0, 512]
def k3_off8 (k3_t1 : Fin k3_t1_loop.trips) : Fin 5 → Nat :=
  let c0_518 : Index := 0#32
  let c0_519 : Index := 0#32
  let c0_i32 : BitVec 32 := 0#32
  let c1_i32 : BitVec 32 := 1#32
  let arg13 : BitVec 32 := Scf.iv c0_i32 c1_i32 k3_t1
  let c1_i32_517 : BitVec 32 := 1#32
  let v709 : BitVec 32 := Scalar.addi arg13 c1_i32_517
  let v710 : Index := Scalar.indexCast v709
  let c512_520 : Index := 512#32
  let c0_521 : Index := 0#32
  ![0, 0, v710.toNat, 512, 0]
def k3_off9 (k3_t1 : Fin k3_t1_loop.trips) : Fin 5 → Nat :=
  let c0_532 : Index := 0#32
  let c1_533 : Index := 1#32
  let c0_i32 : BitVec 32 := 0#32
  let c1_i32 : BitVec 32 := 1#32
  let arg13 : BitVec 32 := Scf.iv c0_i32 c1_i32 k3_t1
  let c1_i32_531 : BitVec 32 := 1#32
  let v730 : BitVec 32 := Scalar.addi arg13 c1_i32_531
  let v731 : Index := Scalar.indexCast v730
  let c512_534 : Index := 512#32
  let c0_535 : Index := 0#32
  ![0, 1, v731.toNat, 512, 0]
def k3_off10 (k3_t1 : Fin k3_t1_loop.trips) : Fin 4 → Nat :=
  let c0_545 : Index := 0#32
  let c0_i32 : BitVec 32 := 0#32
  let c1_i32 : BitVec 32 := 1#32
  let arg13 : BitVec 32 := Scf.iv c0_i32 c1_i32 k3_t1
  let v751 : Index := Scalar.indexCast arg13
  let c0_546 : Index := 0#32
  let c768_547 : Index := 768#32
  ![0, v751.toNat, 0, 768]
def k3_off11 (k3_t1 : Fin k3_t1_loop.trips) : Fin 5 → Nat :=
  let c0_549 : Index := 0#32
  let c0_550 : Index := 0#32
  let c0_i32 : BitVec 32 := 0#32
  let c1_i32 : BitVec 32 := 1#32
  let arg13 : BitVec 32 := Scf.iv c0_i32 c1_i32 k3_t1
  let c1_i32_548 : BitVec 32 := 1#32
  let v754 : BitVec 32 := Scalar.addi arg13 c1_i32_548
  let v755 : Index := Scalar.indexCast v754
  let c768_551 : Index := 768#32
  let c0_552 : Index := 0#32
  ![0, 0, v755.toNat, 768, 0]
def k3_off12 (k3_t1 : Fin k3_t1_loop.trips) : Fin 5 → Nat :=
  let c0_563 : Index := 0#32
  let c1_564 : Index := 1#32
  let c0_i32 : BitVec 32 := 0#32
  let c1_i32 : BitVec 32 := 1#32
  let arg13 : BitVec 32 := Scf.iv c0_i32 c1_i32 k3_t1
  let c1_i32_562 : BitVec 32 := 1#32
  let v775 : BitVec 32 := Scalar.addi arg13 c1_i32_562
  let v776 : Index := Scalar.indexCast v775
  let c768_565 : Index := 768#32
  let c0_566 : Index := 0#32
  ![0, 1, v776.toNat, 768, 0]
def k3_off13 (k3_t1 : Fin k3_t1_loop.trips) : Fin 4 → Nat :=
  let c0_576 : Index := 0#32
  let c0_i32 : BitVec 32 := 0#32
  let c1_i32 : BitVec 32 := 1#32
  let arg13 : BitVec 32 := Scf.iv c0_i32 c1_i32 k3_t1
  let v796 : Index := Scalar.indexCast arg13
  let c0_577 : Index := 0#32
  let c1024_578 : Index := 1024#32
  ![0, v796.toNat, 0, 1024]
def k3_off14 (k3_t1 : Fin k3_t1_loop.trips) : Fin 5 → Nat :=
  let c0_580 : Index := 0#32
  let c0_581 : Index := 0#32
  let c0_i32 : BitVec 32 := 0#32
  let c1_i32 : BitVec 32 := 1#32
  let arg13 : BitVec 32 := Scf.iv c0_i32 c1_i32 k3_t1
  let c1_i32_579 : BitVec 32 := 1#32
  let v799 : BitVec 32 := Scalar.addi arg13 c1_i32_579
  let v800 : Index := Scalar.indexCast v799
  let c1024_582 : Index := 1024#32
  let c0_583 : Index := 0#32
  ![0, 0, v800.toNat, 1024, 0]
def k3_off15 (k3_t1 : Fin k3_t1_loop.trips) : Fin 5 → Nat :=
  let c0_594 : Index := 0#32
  let c1_595 : Index := 1#32
  let c0_i32 : BitVec 32 := 0#32
  let c1_i32 : BitVec 32 := 1#32
  let arg13 : BitVec 32 := Scf.iv c0_i32 c1_i32 k3_t1
  let c1_i32_593 : BitVec 32 := 1#32
  let v820 : BitVec 32 := Scalar.addi arg13 c1_i32_593
  let v821 : Index := Scalar.indexCast v820
  let c1024_596 : Index := 1024#32
  let c0_597 : Index := 0#32
  ![0, 1, v821.toNat, 1024, 0]
def k3_off16 (k3_t1 : Fin k3_t1_loop.trips) : Fin 4 → Nat :=
  let c0_607 : Index := 0#32
  let c0_i32 : BitVec 32 := 0#32
  let c1_i32 : BitVec 32 := 1#32
  let arg13 : BitVec 32 := Scf.iv c0_i32 c1_i32 k3_t1
  let v841 : Index := Scalar.indexCast arg13
  let c0_608 : Index := 0#32
  let c1280_609 : Index := 1280#32
  ![0, v841.toNat, 0, 1280]
def k3_off17 (k3_t1 : Fin k3_t1_loop.trips) : Fin 5 → Nat :=
  let c0_611 : Index := 0#32
  let c0_612 : Index := 0#32
  let c0_i32 : BitVec 32 := 0#32
  let c1_i32 : BitVec 32 := 1#32
  let arg13 : BitVec 32 := Scf.iv c0_i32 c1_i32 k3_t1
  let c1_i32_610 : BitVec 32 := 1#32
  let v844 : BitVec 32 := Scalar.addi arg13 c1_i32_610
  let v845 : Index := Scalar.indexCast v844
  let c1280_613 : Index := 1280#32
  let c0_614 : Index := 0#32
  ![0, 0, v845.toNat, 1280, 0]
def k3_off18 (k3_t1 : Fin k3_t1_loop.trips) : Fin 5 → Nat :=
  let c0_625 : Index := 0#32
  let c1_626 : Index := 1#32
  let c0_i32 : BitVec 32 := 0#32
  let c1_i32 : BitVec 32 := 1#32
  let arg13 : BitVec 32 := Scf.iv c0_i32 c1_i32 k3_t1
  let c1_i32_624 : BitVec 32 := 1#32
  let v865 : BitVec 32 := Scalar.addi arg13 c1_i32_624
  let v866 : Index := Scalar.indexCast v865
  let c1280_627 : Index := 1280#32
  let c0_628 : Index := 0#32
  ![0, 1, v866.toNat, 1280, 0]
def k3_off19 (k3_t1 : Fin k3_t1_loop.trips) : Fin 4 → Nat :=
  let c0_638 : Index := 0#32
  let c0_i32 : BitVec 32 := 0#32
  let c1_i32 : BitVec 32 := 1#32
  let arg13 : BitVec 32 := Scf.iv c0_i32 c1_i32 k3_t1
  let v886 : Index := Scalar.indexCast arg13
  let c0_639 : Index := 0#32
  let c1536_640 : Index := 1536#32
  ![0, v886.toNat, 0, 1536]
def k3_off20 (k3_t1 : Fin k3_t1_loop.trips) : Fin 5 → Nat :=
  let c0_642 : Index := 0#32
  let c0_643 : Index := 0#32
  let c0_i32 : BitVec 32 := 0#32
  let c1_i32 : BitVec 32 := 1#32
  let arg13 : BitVec 32 := Scf.iv c0_i32 c1_i32 k3_t1
  let c1_i32_641 : BitVec 32 := 1#32
  let v889 : BitVec 32 := Scalar.addi arg13 c1_i32_641
  let v890 : Index := Scalar.indexCast v889
  let c1536_644 : Index := 1536#32
  let c0_645 : Index := 0#32
  ![0, 0, v890.toNat, 1536, 0]
def k3_off21 (k3_t1 : Fin k3_t1_loop.trips) : Fin 5 → Nat :=
  let c0_656 : Index := 0#32
  let c1_657 : Index := 1#32
  let c0_i32 : BitVec 32 := 0#32
  let c1_i32 : BitVec 32 := 1#32
  let arg13 : BitVec 32 := Scf.iv c0_i32 c1_i32 k3_t1
  let c1_i32_655 : BitVec 32 := 1#32
  let v910 : BitVec 32 := Scalar.addi arg13 c1_i32_655
  let v911 : Index := Scalar.indexCast v910
  let c1536_658 : Index := 1536#32
  let c0_659 : Index := 0#32
  ![0, 1, v911.toNat, 1536, 0]
def k3_off22 (k3_t1 : Fin k3_t1_loop.trips) : Fin 4 → Nat :=
  let c0_669 : Index := 0#32
  let c0_i32 : BitVec 32 := 0#32
  let c1_i32 : BitVec 32 := 1#32
  let arg13 : BitVec 32 := Scf.iv c0_i32 c1_i32 k3_t1
  let v931 : Index := Scalar.indexCast arg13
  let c0_670 : Index := 0#32
  let c1792_671 : Index := 1792#32
  ![0, v931.toNat, 0, 1792]
def k3_off23 (k3_t1 : Fin k3_t1_loop.trips) : Fin 5 → Nat :=
  let c0_673 : Index := 0#32
  let c0_674 : Index := 0#32
  let c0_i32 : BitVec 32 := 0#32
  let c1_i32 : BitVec 32 := 1#32
  let arg13 : BitVec 32 := Scf.iv c0_i32 c1_i32 k3_t1
  let c1_i32_672 : BitVec 32 := 1#32
  let v934 : BitVec 32 := Scalar.addi arg13 c1_i32_672
  let v935 : Index := Scalar.indexCast v934
  let c1792_675 : Index := 1792#32
  let c0_676 : Index := 0#32
  ![0, 0, v935.toNat, 1792, 0]
def k3_off24 (k3_t1 : Fin k3_t1_loop.trips) : Fin 5 → Nat :=
  let c0_687 : Index := 0#32
  let c1_688 : Index := 1#32
  let c0_i32 : BitVec 32 := 0#32
  let c1_i32 : BitVec 32 := 1#32
  let arg13 : BitVec 32 := Scf.iv c0_i32 c1_i32 k3_t1
  let c1_i32_686 : BitVec 32 := 1#32
  let v955 : BitVec 32 := Scalar.addi arg13 c1_i32_686
  let v956 : Index := Scalar.indexCast v955
  let c1792_689 : Index := 1792#32
  let c0_690 : Index := 0#32
  ![0, 1, v956.toNat, 1792, 0]
def k3_off25 (k3_t1 : Fin k3_t1_loop.trips) : Fin 4 → Nat :=
  let c0_700 : Index := 0#32
  let c0_i32 : BitVec 32 := 0#32
  let c1_i32 : BitVec 32 := 1#32
  let arg13 : BitVec 32 := Scf.iv c0_i32 c1_i32 k3_t1
  let v976 : Index := Scalar.indexCast arg13
  let c0_701 : Index := 0#32
  let c2048_702 : Index := 2048#32
  ![0, v976.toNat, 0, 2048]
def k3_off26 (k3_t1 : Fin k3_t1_loop.trips) : Fin 5 → Nat :=
  let c0_704 : Index := 0#32
  let c0_705 : Index := 0#32
  let c0_i32 : BitVec 32 := 0#32
  let c1_i32 : BitVec 32 := 1#32
  let arg13 : BitVec 32 := Scf.iv c0_i32 c1_i32 k3_t1
  let c1_i32_703 : BitVec 32 := 1#32
  let v979 : BitVec 32 := Scalar.addi arg13 c1_i32_703
  let v980 : Index := Scalar.indexCast v979
  let c2048_706 : Index := 2048#32
  let c0_707 : Index := 0#32
  ![0, 0, v980.toNat, 2048, 0]
def k3_off27 (k3_t1 : Fin k3_t1_loop.trips) : Fin 5 → Nat :=
  let c0_718 : Index := 0#32
  let c1_719 : Index := 1#32
  let c0_i32 : BitVec 32 := 0#32
  let c1_i32 : BitVec 32 := 1#32
  let arg13 : BitVec 32 := Scf.iv c0_i32 c1_i32 k3_t1
  let c1_i32_717 : BitVec 32 := 1#32
  let v1000 : BitVec 32 := Scalar.addi arg13 c1_i32_717
  let v1001 : Index := Scalar.indexCast v1000
  let c2048_720 : Index := 2048#32
  let c0_721 : Index := 0#32
  ![0, 1, v1001.toNat, 2048, 0]
def k3_off28 (k3_t1 : Fin k3_t1_loop.trips) : Fin 4 → Nat :=
  let c0_731 : Index := 0#32
  let c0_i32 : BitVec 32 := 0#32
  let c1_i32 : BitVec 32 := 1#32
  let arg13 : BitVec 32 := Scf.iv c0_i32 c1_i32 k3_t1
  let v1021 : Index := Scalar.indexCast arg13
  let c0_732 : Index := 0#32
  let c2304_733 : Index := 2304#32
  ![0, v1021.toNat, 0, 2304]
def k3_off29 (k3_t1 : Fin k3_t1_loop.trips) : Fin 5 → Nat :=
  let c0_735 : Index := 0#32
  let c0_736 : Index := 0#32
  let c0_i32 : BitVec 32 := 0#32
  let c1_i32 : BitVec 32 := 1#32
  let arg13 : BitVec 32 := Scf.iv c0_i32 c1_i32 k3_t1
  let c1_i32_734 : BitVec 32 := 1#32
  let v1024 : BitVec 32 := Scalar.addi arg13 c1_i32_734
  let v1025 : Index := Scalar.indexCast v1024
  let c2304_737 : Index := 2304#32
  let c0_738 : Index := 0#32
  ![0, 0, v1025.toNat, 2304, 0]
def k3_off30 (k3_t1 : Fin k3_t1_loop.trips) : Fin 5 → Nat :=
  let c0_749 : Index := 0#32
  let c1_750 : Index := 1#32
  let c0_i32 : BitVec 32 := 0#32
  let c1_i32 : BitVec 32 := 1#32
  let arg13 : BitVec 32 := Scf.iv c0_i32 c1_i32 k3_t1
  let c1_i32_748 : BitVec 32 := 1#32
  let v1045 : BitVec 32 := Scalar.addi arg13 c1_i32_748
  let v1046 : Index := Scalar.indexCast v1045
  let c2304_751 : Index := 2304#32
  let c0_752 : Index := 0#32
  ![0, 1, v1046.toNat, 2304, 0]
def k3_off31 (k3_t1 : Fin k3_t1_loop.trips) : Fin 4 → Nat :=
  let c0_762 : Index := 0#32
  let c0_i32 : BitVec 32 := 0#32
  let c1_i32 : BitVec 32 := 1#32
  let arg13 : BitVec 32 := Scf.iv c0_i32 c1_i32 k3_t1
  let v1066 : Index := Scalar.indexCast arg13
  let c0_763 : Index := 0#32
  let c2560_764 : Index := 2560#32
  ![0, v1066.toNat, 0, 2560]
def k3_off32 (k3_t1 : Fin k3_t1_loop.trips) : Fin 5 → Nat :=
  let c0_766 : Index := 0#32
  let c0_767 : Index := 0#32
  let c0_i32 : BitVec 32 := 0#32
  let c1_i32 : BitVec 32 := 1#32
  let arg13 : BitVec 32 := Scf.iv c0_i32 c1_i32 k3_t1
  let c1_i32_765 : BitVec 32 := 1#32
  let v1069 : BitVec 32 := Scalar.addi arg13 c1_i32_765
  let v1070 : Index := Scalar.indexCast v1069
  let c2560_768 : Index := 2560#32
  let c0_769 : Index := 0#32
  ![0, 0, v1070.toNat, 2560, 0]
def k3_off33 (k3_t1 : Fin k3_t1_loop.trips) : Fin 5 → Nat :=
  let c0_780 : Index := 0#32
  let c1_781 : Index := 1#32
  let c0_i32 : BitVec 32 := 0#32
  let c1_i32 : BitVec 32 := 1#32
  let arg13 : BitVec 32 := Scf.iv c0_i32 c1_i32 k3_t1
  let c1_i32_779 : BitVec 32 := 1#32
  let v1090 : BitVec 32 := Scalar.addi arg13 c1_i32_779
  let v1091 : Index := Scalar.indexCast v1090
  let c2560_782 : Index := 2560#32
  let c0_783 : Index := 0#32
  ![0, 1, v1091.toNat, 2560, 0]
def k3_off34 (k3_t1 : Fin k3_t1_loop.trips) : Fin 4 → Nat :=
  let c0_793 : Index := 0#32
  let c0_i32 : BitVec 32 := 0#32
  let c1_i32 : BitVec 32 := 1#32
  let arg13 : BitVec 32 := Scf.iv c0_i32 c1_i32 k3_t1
  let v1111 : Index := Scalar.indexCast arg13
  let c0_794 : Index := 0#32
  let c2816_795 : Index := 2816#32
  ![0, v1111.toNat, 0, 2816]
def k3_off35 (k3_t1 : Fin k3_t1_loop.trips) : Fin 5 → Nat :=
  let c0_797 : Index := 0#32
  let c0_798 : Index := 0#32
  let c0_i32 : BitVec 32 := 0#32
  let c1_i32 : BitVec 32 := 1#32
  let arg13 : BitVec 32 := Scf.iv c0_i32 c1_i32 k3_t1
  let c1_i32_796 : BitVec 32 := 1#32
  let v1114 : BitVec 32 := Scalar.addi arg13 c1_i32_796
  let v1115 : Index := Scalar.indexCast v1114
  let c2816_799 : Index := 2816#32
  let c0_800 : Index := 0#32
  ![0, 0, v1115.toNat, 2816, 0]
def k3_off36 (k3_t1 : Fin k3_t1_loop.trips) : Fin 5 → Nat :=
  let c0_811 : Index := 0#32
  let c1_812 : Index := 1#32
  let c0_i32 : BitVec 32 := 0#32
  let c1_i32 : BitVec 32 := 1#32
  let arg13 : BitVec 32 := Scf.iv c0_i32 c1_i32 k3_t1
  let c1_i32_810 : BitVec 32 := 1#32
  let v1135 : BitVec 32 := Scalar.addi arg13 c1_i32_810
  let v1136 : Index := Scalar.indexCast v1135
  let c2816_813 : Index := 2816#32
  let c0_814 : Index := 0#32
  ![0, 1, v1136.toNat, 2816, 0]
def k3_off37 (k3_t1 : Fin k3_t1_loop.trips) : Fin 4 → Nat :=
  let c0_824 : Index := 0#32
  let c0_i32 : BitVec 32 := 0#32
  let c1_i32 : BitVec 32 := 1#32
  let arg13 : BitVec 32 := Scf.iv c0_i32 c1_i32 k3_t1
  let v1156 : Index := Scalar.indexCast arg13
  let c0_825 : Index := 0#32
  let c3072_826 : Index := 3072#32
  ![0, v1156.toNat, 0, 3072]
def k3_off38 (k3_t1 : Fin k3_t1_loop.trips) : Fin 5 → Nat :=
  let c0_828 : Index := 0#32
  let c0_829 : Index := 0#32
  let c0_i32 : BitVec 32 := 0#32
  let c1_i32 : BitVec 32 := 1#32
  let arg13 : BitVec 32 := Scf.iv c0_i32 c1_i32 k3_t1
  let c1_i32_827 : BitVec 32 := 1#32
  let v1159 : BitVec 32 := Scalar.addi arg13 c1_i32_827
  let v1160 : Index := Scalar.indexCast v1159
  let c3072_830 : Index := 3072#32
  let c0_831 : Index := 0#32
  ![0, 0, v1160.toNat, 3072, 0]
def k3_off39 (k3_t1 : Fin k3_t1_loop.trips) : Fin 5 → Nat :=
  let c0_842 : Index := 0#32
  let c1_843 : Index := 1#32
  let c0_i32 : BitVec 32 := 0#32
  let c1_i32 : BitVec 32 := 1#32
  let arg13 : BitVec 32 := Scf.iv c0_i32 c1_i32 k3_t1
  let c1_i32_841 : BitVec 32 := 1#32
  let v1180 : BitVec 32 := Scalar.addi arg13 c1_i32_841
  let v1181 : Index := Scalar.indexCast v1180
  let c3072_844 : Index := 3072#32
  let c0_845 : Index := 0#32
  ![0, 1, v1181.toNat, 3072, 0]
def k3_off40 (k3_t1 : Fin k3_t1_loop.trips) : Fin 4 → Nat :=
  let c0_452 : Index := 0#32
  let c0_i32 : BitVec 32 := 0#32
  let c1_i32 : BitVec 32 := 1#32
  let arg13 : BitVec 32 := Scf.iv c0_i32 c1_i32 k3_t1
  let v620 : Index := Scalar.indexCast arg13
  let c0_453 : Index := 0#32
  let c0_454 : Index := 0#32
  ![0, v620.toNat, 0, 0]
def k3_off41 (k3_t1 : Fin k3_t1_loop.trips) : Fin 5 → Nat :=
  let c0_456 : Index := 0#32
  let c0_457 : Index := 0#32
  let c0_i32 : BitVec 32 := 0#32
  let c1_i32 : BitVec 32 := 1#32
  let arg13 : BitVec 32 := Scf.iv c0_i32 c1_i32 k3_t1
  let c1_i32_455 : BitVec 32 := 1#32
  let v623 : BitVec 32 := Scalar.addi arg13 c1_i32_455
  let v624 : Index := Scalar.indexCast v623
  let c0_458 : Index := 0#32
  let c0_459 : Index := 0#32
  ![0, 0, v624.toNat, 0, 0]
def k3_off42 (k3_t1 : Fin k3_t1_loop.trips) : Fin 5 → Nat :=
  let c0_470 : Index := 0#32
  let c1_471 : Index := 1#32
  let c0_i32 : BitVec 32 := 0#32
  let c1_i32 : BitVec 32 := 1#32
  let arg13 : BitVec 32 := Scf.iv c0_i32 c1_i32 k3_t1
  let c1_i32_469 : BitVec 32 := 1#32
  let v642 : BitVec 32 := Scalar.addi arg13 c1_i32_469
  let v643 : Index := Scalar.indexCast v642
  let c0_472 : Index := 0#32
  let c0_473 : Index := 0#32
  ![0, 1, v643.toNat, 0, 0]
def k3_off43 (k3_t1 : Fin k3_t1_loop.trips) : Fin 4 → Nat :=
  let c0_483 : Index := 0#32
  let c0_i32 : BitVec 32 := 0#32
  let c1_i32 : BitVec 32 := 1#32
  let arg13 : BitVec 32 := Scf.iv c0_i32 c1_i32 k3_t1
  let v661 : Index := Scalar.indexCast arg13
  let c0_484 : Index := 0#32
  let c256_485 : Index := 256#32
  ![0, v661.toNat, 0, 256]
def k3_off44 (k3_t1 : Fin k3_t1_loop.trips) : Fin 5 → Nat :=
  let c0_487 : Index := 0#32
  let c0_488 : Index := 0#32
  let c0_i32 : BitVec 32 := 0#32
  let c1_i32 : BitVec 32 := 1#32
  let arg13 : BitVec 32 := Scf.iv c0_i32 c1_i32 k3_t1
  let c1_i32_486 : BitVec 32 := 1#32
  let v664 : BitVec 32 := Scalar.addi arg13 c1_i32_486
  let v665 : Index := Scalar.indexCast v664
  let c256_489 : Index := 256#32
  let c0_490 : Index := 0#32
  ![0, 0, v665.toNat, 256, 0]
def k3_off45 (k3_t1 : Fin k3_t1_loop.trips) : Fin 5 → Nat :=
  let c0_501 : Index := 0#32
  let c1_502 : Index := 1#32
  let c0_i32 : BitVec 32 := 0#32
  let c1_i32 : BitVec 32 := 1#32
  let arg13 : BitVec 32 := Scf.iv c0_i32 c1_i32 k3_t1
  let c1_i32_500 : BitVec 32 := 1#32
  let v685 : BitVec 32 := Scalar.addi arg13 c1_i32_500
  let v686 : Index := Scalar.indexCast v685
  let c256_503 : Index := 256#32
  let c0_504 : Index := 0#32
  ![0, 1, v686.toNat, 256, 0]
def k3_off46 (k3_t1 : Fin k3_t1_loop.trips) : Fin 4 → Nat :=
  let c0_514 : Index := 0#32
  let c0_i32 : BitVec 32 := 0#32
  let c1_i32 : BitVec 32 := 1#32
  let arg13 : BitVec 32 := Scf.iv c0_i32 c1_i32 k3_t1
  let v706 : Index := Scalar.indexCast arg13
  let c0_515 : Index := 0#32
  let c512_516 : Index := 512#32
  ![0, v706.toNat, 0, 512]
def k3_off47 (k3_t1 : Fin k3_t1_loop.trips) : Fin 5 → Nat :=
  let c0_518 : Index := 0#32
  let c0_519 : Index := 0#32
  let c0_i32 : BitVec 32 := 0#32
  let c1_i32 : BitVec 32 := 1#32
  let arg13 : BitVec 32 := Scf.iv c0_i32 c1_i32 k3_t1
  let c1_i32_517 : BitVec 32 := 1#32
  let v709 : BitVec 32 := Scalar.addi arg13 c1_i32_517
  let v710 : Index := Scalar.indexCast v709
  let c512_520 : Index := 512#32
  let c0_521 : Index := 0#32
  ![0, 0, v710.toNat, 512, 0]
def k3_off48 (k3_t1 : Fin k3_t1_loop.trips) : Fin 5 → Nat :=
  let c0_532 : Index := 0#32
  let c1_533 : Index := 1#32
  let c0_i32 : BitVec 32 := 0#32
  let c1_i32 : BitVec 32 := 1#32
  let arg13 : BitVec 32 := Scf.iv c0_i32 c1_i32 k3_t1
  let c1_i32_531 : BitVec 32 := 1#32
  let v730 : BitVec 32 := Scalar.addi arg13 c1_i32_531
  let v731 : Index := Scalar.indexCast v730
  let c512_534 : Index := 512#32
  let c0_535 : Index := 0#32
  ![0, 1, v731.toNat, 512, 0]
def k3_off49 (k3_t1 : Fin k3_t1_loop.trips) : Fin 4 → Nat :=
  let c0_545 : Index := 0#32
  let c0_i32 : BitVec 32 := 0#32
  let c1_i32 : BitVec 32 := 1#32
  let arg13 : BitVec 32 := Scf.iv c0_i32 c1_i32 k3_t1
  let v751 : Index := Scalar.indexCast arg13
  let c0_546 : Index := 0#32
  let c768_547 : Index := 768#32
  ![0, v751.toNat, 0, 768]
def k3_off50 (k3_t1 : Fin k3_t1_loop.trips) : Fin 5 → Nat :=
  let c0_549 : Index := 0#32
  let c0_550 : Index := 0#32
  let c0_i32 : BitVec 32 := 0#32
  let c1_i32 : BitVec 32 := 1#32
  let arg13 : BitVec 32 := Scf.iv c0_i32 c1_i32 k3_t1
  let c1_i32_548 : BitVec 32 := 1#32
  let v754 : BitVec 32 := Scalar.addi arg13 c1_i32_548
  let v755 : Index := Scalar.indexCast v754
  let c768_551 : Index := 768#32
  let c0_552 : Index := 0#32
  ![0, 0, v755.toNat, 768, 0]
def k3_off51 (k3_t1 : Fin k3_t1_loop.trips) : Fin 5 → Nat :=
  let c0_563 : Index := 0#32
  let c1_564 : Index := 1#32
  let c0_i32 : BitVec 32 := 0#32
  let c1_i32 : BitVec 32 := 1#32
  let arg13 : BitVec 32 := Scf.iv c0_i32 c1_i32 k3_t1
  let c1_i32_562 : BitVec 32 := 1#32
  let v775 : BitVec 32 := Scalar.addi arg13 c1_i32_562
  let v776 : Index := Scalar.indexCast v775
  let c768_565 : Index := 768#32
  let c0_566 : Index := 0#32
  ![0, 1, v776.toNat, 768, 0]
def k3_off52 (k3_t1 : Fin k3_t1_loop.trips) : Fin 4 → Nat :=
  let c0_576 : Index := 0#32
  let c0_i32 : BitVec 32 := 0#32
  let c1_i32 : BitVec 32 := 1#32
  let arg13 : BitVec 32 := Scf.iv c0_i32 c1_i32 k3_t1
  let v796 : Index := Scalar.indexCast arg13
  let c0_577 : Index := 0#32
  let c1024_578 : Index := 1024#32
  ![0, v796.toNat, 0, 1024]
def k3_off53 (k3_t1 : Fin k3_t1_loop.trips) : Fin 5 → Nat :=
  let c0_580 : Index := 0#32
  let c0_581 : Index := 0#32
  let c0_i32 : BitVec 32 := 0#32
  let c1_i32 : BitVec 32 := 1#32
  let arg13 : BitVec 32 := Scf.iv c0_i32 c1_i32 k3_t1
  let c1_i32_579 : BitVec 32 := 1#32
  let v799 : BitVec 32 := Scalar.addi arg13 c1_i32_579
  let v800 : Index := Scalar.indexCast v799
  let c1024_582 : Index := 1024#32
  let c0_583 : Index := 0#32
  ![0, 0, v800.toNat, 1024, 0]
def k3_off54 (k3_t1 : Fin k3_t1_loop.trips) : Fin 5 → Nat :=
  let c0_594 : Index := 0#32
  let c1_595 : Index := 1#32
  let c0_i32 : BitVec 32 := 0#32
  let c1_i32 : BitVec 32 := 1#32
  let arg13 : BitVec 32 := Scf.iv c0_i32 c1_i32 k3_t1
  let c1_i32_593 : BitVec 32 := 1#32
  let v820 : BitVec 32 := Scalar.addi arg13 c1_i32_593
  let v821 : Index := Scalar.indexCast v820
  let c1024_596 : Index := 1024#32
  let c0_597 : Index := 0#32
  ![0, 1, v821.toNat, 1024, 0]
def k3_off55 (k3_t1 : Fin k3_t1_loop.trips) : Fin 4 → Nat :=
  let c0_607 : Index := 0#32
  let c0_i32 : BitVec 32 := 0#32
  let c1_i32 : BitVec 32 := 1#32
  let arg13 : BitVec 32 := Scf.iv c0_i32 c1_i32 k3_t1
  let v841 : Index := Scalar.indexCast arg13
  let c0_608 : Index := 0#32
  let c1280_609 : Index := 1280#32
  ![0, v841.toNat, 0, 1280]
def k3_off56 (k3_t1 : Fin k3_t1_loop.trips) : Fin 5 → Nat :=
  let c0_611 : Index := 0#32
  let c0_612 : Index := 0#32
  let c0_i32 : BitVec 32 := 0#32
  let c1_i32 : BitVec 32 := 1#32
  let arg13 : BitVec 32 := Scf.iv c0_i32 c1_i32 k3_t1
  let c1_i32_610 : BitVec 32 := 1#32
  let v844 : BitVec 32 := Scalar.addi arg13 c1_i32_610
  let v845 : Index := Scalar.indexCast v844
  let c1280_613 : Index := 1280#32
  let c0_614 : Index := 0#32
  ![0, 0, v845.toNat, 1280, 0]
def k3_off57 (k3_t1 : Fin k3_t1_loop.trips) : Fin 5 → Nat :=
  let c0_625 : Index := 0#32
  let c1_626 : Index := 1#32
  let c0_i32 : BitVec 32 := 0#32
  let c1_i32 : BitVec 32 := 1#32
  let arg13 : BitVec 32 := Scf.iv c0_i32 c1_i32 k3_t1
  let c1_i32_624 : BitVec 32 := 1#32
  let v865 : BitVec 32 := Scalar.addi arg13 c1_i32_624
  let v866 : Index := Scalar.indexCast v865
  let c1280_627 : Index := 1280#32
  let c0_628 : Index := 0#32
  ![0, 1, v866.toNat, 1280, 0]
def k3_off58 (k3_t1 : Fin k3_t1_loop.trips) : Fin 4 → Nat :=
  let c0_638 : Index := 0#32
  let c0_i32 : BitVec 32 := 0#32
  let c1_i32 : BitVec 32 := 1#32
  let arg13 : BitVec 32 := Scf.iv c0_i32 c1_i32 k3_t1
  let v886 : Index := Scalar.indexCast arg13
  let c0_639 : Index := 0#32
  let c1536_640 : Index := 1536#32
  ![0, v886.toNat, 0, 1536]
def k3_off59 (k3_t1 : Fin k3_t1_loop.trips) : Fin 5 → Nat :=
  let c0_642 : Index := 0#32
  let c0_643 : Index := 0#32
  let c0_i32 : BitVec 32 := 0#32
  let c1_i32 : BitVec 32 := 1#32
  let arg13 : BitVec 32 := Scf.iv c0_i32 c1_i32 k3_t1
  let c1_i32_641 : BitVec 32 := 1#32
  let v889 : BitVec 32 := Scalar.addi arg13 c1_i32_641
  let v890 : Index := Scalar.indexCast v889
  let c1536_644 : Index := 1536#32
  let c0_645 : Index := 0#32
  ![0, 0, v890.toNat, 1536, 0]
def k3_off60 (k3_t1 : Fin k3_t1_loop.trips) : Fin 5 → Nat :=
  let c0_656 : Index := 0#32
  let c1_657 : Index := 1#32
  let c0_i32 : BitVec 32 := 0#32
  let c1_i32 : BitVec 32 := 1#32
  let arg13 : BitVec 32 := Scf.iv c0_i32 c1_i32 k3_t1
  let c1_i32_655 : BitVec 32 := 1#32
  let v910 : BitVec 32 := Scalar.addi arg13 c1_i32_655
  let v911 : Index := Scalar.indexCast v910
  let c1536_658 : Index := 1536#32
  let c0_659 : Index := 0#32
  ![0, 1, v911.toNat, 1536, 0]
def k3_off61 (k3_t1 : Fin k3_t1_loop.trips) : Fin 4 → Nat :=
  let c0_669 : Index := 0#32
  let c0_i32 : BitVec 32 := 0#32
  let c1_i32 : BitVec 32 := 1#32
  let arg13 : BitVec 32 := Scf.iv c0_i32 c1_i32 k3_t1
  let v931 : Index := Scalar.indexCast arg13
  let c0_670 : Index := 0#32
  let c1792_671 : Index := 1792#32
  ![0, v931.toNat, 0, 1792]
def k3_off62 (k3_t1 : Fin k3_t1_loop.trips) : Fin 5 → Nat :=
  let c0_673 : Index := 0#32
  let c0_674 : Index := 0#32
  let c0_i32 : BitVec 32 := 0#32
  let c1_i32 : BitVec 32 := 1#32
  let arg13 : BitVec 32 := Scf.iv c0_i32 c1_i32 k3_t1
  let c1_i32_672 : BitVec 32 := 1#32
  let v934 : BitVec 32 := Scalar.addi arg13 c1_i32_672
  let v935 : Index := Scalar.indexCast v934
  let c1792_675 : Index := 1792#32
  let c0_676 : Index := 0#32
  ![0, 0, v935.toNat, 1792, 0]
def k3_off63 (k3_t1 : Fin k3_t1_loop.trips) : Fin 5 → Nat :=
  let c0_687 : Index := 0#32
  let c1_688 : Index := 1#32
  let c0_i32 : BitVec 32 := 0#32
  let c1_i32 : BitVec 32 := 1#32
  let arg13 : BitVec 32 := Scf.iv c0_i32 c1_i32 k3_t1
  let c1_i32_686 : BitVec 32 := 1#32
  let v955 : BitVec 32 := Scalar.addi arg13 c1_i32_686
  let v956 : Index := Scalar.indexCast v955
  let c1792_689 : Index := 1792#32
  let c0_690 : Index := 0#32
  ![0, 1, v956.toNat, 1792, 0]
def k3_off64 (k3_t1 : Fin k3_t1_loop.trips) : Fin 4 → Nat :=
  let c0_700 : Index := 0#32
  let c0_i32 : BitVec 32 := 0#32
  let c1_i32 : BitVec 32 := 1#32
  let arg13 : BitVec 32 := Scf.iv c0_i32 c1_i32 k3_t1
  let v976 : Index := Scalar.indexCast arg13
  let c0_701 : Index := 0#32
  let c2048_702 : Index := 2048#32
  ![0, v976.toNat, 0, 2048]
def k3_off65 (k3_t1 : Fin k3_t1_loop.trips) : Fin 5 → Nat :=
  let c0_704 : Index := 0#32
  let c0_705 : Index := 0#32
  let c0_i32 : BitVec 32 := 0#32
  let c1_i32 : BitVec 32 := 1#32
  let arg13 : BitVec 32 := Scf.iv c0_i32 c1_i32 k3_t1
  let c1_i32_703 : BitVec 32 := 1#32
  let v979 : BitVec 32 := Scalar.addi arg13 c1_i32_703
  let v980 : Index := Scalar.indexCast v979
  let c2048_706 : Index := 2048#32
  let c0_707 : Index := 0#32
  ![0, 0, v980.toNat, 2048, 0]
def k3_off66 (k3_t1 : Fin k3_t1_loop.trips) : Fin 5 → Nat :=
  let c0_718 : Index := 0#32
  let c1_719 : Index := 1#32
  let c0_i32 : BitVec 32 := 0#32
  let c1_i32 : BitVec 32 := 1#32
  let arg13 : BitVec 32 := Scf.iv c0_i32 c1_i32 k3_t1
  let c1_i32_717 : BitVec 32 := 1#32
  let v1000 : BitVec 32 := Scalar.addi arg13 c1_i32_717
  let v1001 : Index := Scalar.indexCast v1000
  let c2048_720 : Index := 2048#32
  let c0_721 : Index := 0#32
  ![0, 1, v1001.toNat, 2048, 0]
def k3_off67 (k3_t1 : Fin k3_t1_loop.trips) : Fin 4 → Nat :=
  let c0_731 : Index := 0#32
  let c0_i32 : BitVec 32 := 0#32
  let c1_i32 : BitVec 32 := 1#32
  let arg13 : BitVec 32 := Scf.iv c0_i32 c1_i32 k3_t1
  let v1021 : Index := Scalar.indexCast arg13
  let c0_732 : Index := 0#32
  let c2304_733 : Index := 2304#32
  ![0, v1021.toNat, 0, 2304]
def k3_off68 (k3_t1 : Fin k3_t1_loop.trips) : Fin 5 → Nat :=
  let c0_735 : Index := 0#32
  let c0_736 : Index := 0#32
  let c0_i32 : BitVec 32 := 0#32
  let c1_i32 : BitVec 32 := 1#32
  let arg13 : BitVec 32 := Scf.iv c0_i32 c1_i32 k3_t1
  let c1_i32_734 : BitVec 32 := 1#32
  let v1024 : BitVec 32 := Scalar.addi arg13 c1_i32_734
  let v1025 : Index := Scalar.indexCast v1024
  let c2304_737 : Index := 2304#32
  let c0_738 : Index := 0#32
  ![0, 0, v1025.toNat, 2304, 0]
def k3_off69 (k3_t1 : Fin k3_t1_loop.trips) : Fin 5 → Nat :=
  let c0_749 : Index := 0#32
  let c1_750 : Index := 1#32
  let c0_i32 : BitVec 32 := 0#32
  let c1_i32 : BitVec 32 := 1#32
  let arg13 : BitVec 32 := Scf.iv c0_i32 c1_i32 k3_t1
  let c1_i32_748 : BitVec 32 := 1#32
  let v1045 : BitVec 32 := Scalar.addi arg13 c1_i32_748
  let v1046 : Index := Scalar.indexCast v1045
  let c2304_751 : Index := 2304#32
  let c0_752 : Index := 0#32
  ![0, 1, v1046.toNat, 2304, 0]
def k3_off70 (k3_t1 : Fin k3_t1_loop.trips) : Fin 4 → Nat :=
  let c0_762 : Index := 0#32
  let c0_i32 : BitVec 32 := 0#32
  let c1_i32 : BitVec 32 := 1#32
  let arg13 : BitVec 32 := Scf.iv c0_i32 c1_i32 k3_t1
  let v1066 : Index := Scalar.indexCast arg13
  let c0_763 : Index := 0#32
  let c2560_764 : Index := 2560#32
  ![0, v1066.toNat, 0, 2560]
def k3_off71 (k3_t1 : Fin k3_t1_loop.trips) : Fin 5 → Nat :=
  let c0_766 : Index := 0#32
  let c0_767 : Index := 0#32
  let c0_i32 : BitVec 32 := 0#32
  let c1_i32 : BitVec 32 := 1#32
  let arg13 : BitVec 32 := Scf.iv c0_i32 c1_i32 k3_t1
  let c1_i32_765 : BitVec 32 := 1#32
  let v1069 : BitVec 32 := Scalar.addi arg13 c1_i32_765
  let v1070 : Index := Scalar.indexCast v1069
  let c2560_768 : Index := 2560#32
  let c0_769 : Index := 0#32
  ![0, 0, v1070.toNat, 2560, 0]
def k3_off72 (k3_t1 : Fin k3_t1_loop.trips) : Fin 5 → Nat :=
  let c0_780 : Index := 0#32
  let c1_781 : Index := 1#32
  let c0_i32 : BitVec 32 := 0#32
  let c1_i32 : BitVec 32 := 1#32
  let arg13 : BitVec 32 := Scf.iv c0_i32 c1_i32 k3_t1
  let c1_i32_779 : BitVec 32 := 1#32
  let v1090 : BitVec 32 := Scalar.addi arg13 c1_i32_779
  let v1091 : Index := Scalar.indexCast v1090
  let c2560_782 : Index := 2560#32
  let c0_783 : Index := 0#32
  ![0, 1, v1091.toNat, 2560, 0]
def k3_off73 (k3_t1 : Fin k3_t1_loop.trips) : Fin 4 → Nat :=
  let c0_793 : Index := 0#32
  let c0_i32 : BitVec 32 := 0#32
  let c1_i32 : BitVec 32 := 1#32
  let arg13 : BitVec 32 := Scf.iv c0_i32 c1_i32 k3_t1
  let v1111 : Index := Scalar.indexCast arg13
  let c0_794 : Index := 0#32
  let c2816_795 : Index := 2816#32
  ![0, v1111.toNat, 0, 2816]
def k3_off74 (k3_t1 : Fin k3_t1_loop.trips) : Fin 5 → Nat :=
  let c0_797 : Index := 0#32
  let c0_798 : Index := 0#32
  let c0_i32 : BitVec 32 := 0#32
  let c1_i32 : BitVec 32 := 1#32
  let arg13 : BitVec 32 := Scf.iv c0_i32 c1_i32 k3_t1
  let c1_i32_796 : BitVec 32 := 1#32
  let v1114 : BitVec 32 := Scalar.addi arg13 c1_i32_796
  let v1115 : Index := Scalar.indexCast v1114
  let c2816_799 : Index := 2816#32
  let c0_800 : Index := 0#32
  ![0, 0, v1115.toNat, 2816, 0]
def k3_off75 (k3_t1 : Fin k3_t1_loop.trips) : Fin 5 → Nat :=
  let c0_811 : Index := 0#32
  let c1_812 : Index := 1#32
  let c0_i32 : BitVec 32 := 0#32
  let c1_i32 : BitVec 32 := 1#32
  let arg13 : BitVec 32 := Scf.iv c0_i32 c1_i32 k3_t1
  let c1_i32_810 : BitVec 32 := 1#32
  let v1135 : BitVec 32 := Scalar.addi arg13 c1_i32_810
  let v1136 : Index := Scalar.indexCast v1135
  let c2816_813 : Index := 2816#32
  let c0_814 : Index := 0#32
  ![0, 1, v1136.toNat, 2816, 0]
def k3_off76 (k3_t1 : Fin k3_t1_loop.trips) : Fin 4 → Nat :=
  let c0_824 : Index := 0#32
  let c0_i32 : BitVec 32 := 0#32
  let c1_i32 : BitVec 32 := 1#32
  let arg13 : BitVec 32 := Scf.iv c0_i32 c1_i32 k3_t1
  let v1156 : Index := Scalar.indexCast arg13
  let c0_825 : Index := 0#32
  let c3072_826 : Index := 3072#32
  ![0, v1156.toNat, 0, 3072]
def k3_off77 (k3_t1 : Fin k3_t1_loop.trips) : Fin 5 → Nat :=
  let c0_828 : Index := 0#32
  let c0_829 : Index := 0#32
  let c0_i32 : BitVec 32 := 0#32
  let c1_i32 : BitVec 32 := 1#32
  let arg13 : BitVec 32 := Scf.iv c0_i32 c1_i32 k3_t1
  let c1_i32_827 : BitVec 32 := 1#32
  let v1159 : BitVec 32 := Scalar.addi arg13 c1_i32_827
  let v1160 : Index := Scalar.indexCast v1159
  let c3072_830 : Index := 3072#32
  let c0_831 : Index := 0#32
  ![0, 0, v1160.toNat, 3072, 0]
def k3_off78 (k3_t1 : Fin k3_t1_loop.trips) : Fin 5 → Nat :=
  let c0_842 : Index := 0#32
  let c1_843 : Index := 1#32
  let c0_i32 : BitVec 32 := 0#32
  let c1_i32 : BitVec 32 := 1#32
  let arg13 : BitVec 32 := Scf.iv c0_i32 c1_i32 k3_t1
  let c1_i32_841 : BitVec 32 := 1#32
  let v1180 : BitVec 32 := Scalar.addi arg13 c1_i32_841
  let v1181 : Index := Scalar.indexCast v1180
  let c3072_844 : Index := 3072#32
  let c0_845 : Index := 0#32
  ![0, 1, v1181.toNat, 3072, 0]
def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc3_transform_4 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x2x256x512 .fp8e4m3 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x2x5x3328x256 .fp8e4m3 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, false]

abbrev stage3_5 : Fin 1 → Memref sig .tc .vmem S1x5x144x3328 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, false]

abbrev stage3_6 : Fin 2 → Memref sig .tc .vmem S512x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== ReferenceIdeal.lean ====
abbrev S16384x1024 : Shape := ⟨2, ![16384, 1024]⟩
abbrev S256x1024 : Shape := ⟨2, ![256, 1024]⟩
abbrev S_ : Shape := ⟨0, ![]⟩
abbrev S64 : Shape := ⟨1, ![64]⟩
abbrev S128 : Shape := ⟨1, ![128]⟩
abbrev S16384x8x2x64 : Shape := ⟨4, ![16384, 8, 2, 64]⟩
abbrev S8x2x16384x64 : Shape := ⟨4, ![8, 2, 16384, 64]⟩
abbrev S16640x1024 : Shape := ⟨2, ![16640, 1024]⟩
abbrev S16640x8x2x64 : Shape := ⟨4, ![16640, 8, 2, 64]⟩
abbrev S8x2x16640x64 : Shape := ⟨4, ![8, 2, 16640, 64]⟩
abbrev S16640x8x128 : Shape := ⟨3, ![16640, 8, 128]⟩
abbrev S8x16640x128 : Shape := ⟨3, ![8, 16640, 128]⟩
abbrev S8x2x16384x16640 : Shape := ⟨4, ![8, 2, 16384, 16640]⟩
abbrev S8x2x16384 : Shape := ⟨3, ![8, 2, 16384]⟩
abbrev S8x2x16384x1 : Shape := ⟨4, ![8, 2, 16384, 1]⟩
abbrev S8x1x16384x16640 : Shape := ⟨4, ![8, 1, 16384, 16640]⟩
abbrev S8x16384x16640 : Shape := ⟨3, ![8, 16384, 16640]⟩
abbrev S8x16384x128 : Shape := ⟨3, ![8, 16384, 128]⟩
abbrev S8x16384 : Shape := ⟨2, ![8, 16384]⟩
abbrev S8x16384x1 : Shape := ⟨3, ![8, 16384, 1]⟩
abbrev S1x1x128 : Shape := ⟨3, ![1, 1, 128]⟩
abbrev S16384x8x128 : Shape := ⟨3, ![16384, 8, 128]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16384x1024, .f32⟩
  | .hbm, ⟨3, _⟩ => ⟨S256x1024, .f32⟩
  | .hbm, ⟨4, _⟩ => ⟨S16384x1024, .f32⟩
  | .hbm, ⟨5, _⟩ => ⟨S_, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x8x2x64, .f32⟩
  | .hbm, ⟨24, _⟩ => ⟨S8x2x16384x64, .f32⟩
  | .hbm, ⟨25, _⟩ => ⟨S16640x1024, .f32⟩
  | .hbm, ⟨26, _⟩ => ⟨S16640x8x2x64, .f32⟩
  | .hbm, ⟨27, _⟩ => ⟨S8x2x16640x64, .f32⟩
  | .hbm, ⟨28, _⟩ => ⟨S16640x1024, .f32⟩
  | .hbm, ⟨29, _⟩ => ⟨S16640x8x128, .f32⟩
  | .hbm, ⟨30, _⟩ => ⟨S8x16640x128, .f32⟩
  | .hbm, ⟨31, _⟩ => ⟨S8x2x16384x16640, .f32⟩
  | .hbm, ⟨32, _⟩ => ⟨S_, .f32⟩
  | .hbm, ⟨33, _⟩ => ⟨S8x2x16384x16640, .f32⟩
  | .hbm, ⟨34, _⟩ => ⟨S8x2x16384x16640, .f32⟩
  | .hbm, ⟨35, _⟩ => ⟨S_, .f32⟩
  | .hbm, ⟨36, _⟩ => ⟨S8x2x16384, .f32⟩
  | .hbm, ⟨37, _⟩ => ⟨S_, .f32⟩
  | .hbm, ⟨38, _⟩ => ⟨S8x2x16384, .f32⟩
  | .hbm, ⟨39, _⟩ => ⟨S8x2x16384, .f32⟩
  | .hbm, ⟨40, _⟩ => ⟨S8x2x16384x1, .f32⟩
  | .hbm, ⟨41, _⟩ => ⟨S8x2x16384x16640, .f32⟩
  | .hbm, ⟨42, _⟩ => ⟨S8x2x16384x16640, .f32⟩
  | .hbm, ⟨43, _⟩ => ⟨S8x2x16384x16640, .f32⟩
  | .hbm, ⟨44, _⟩ => ⟨S_, .f32⟩
  | .hbm, ⟨45, _⟩ => ⟨S8x2x16384, .f32⟩
  | .hbm, ⟨46, _⟩ => ⟨S8x2x16384x1, .f32⟩
  | .hbm, ⟨47, _⟩ => ⟨S8x2x16384x16640, .f32⟩
  | .hbm, ⟨48, _⟩ => ⟨S8x2x16384x16640, .f32⟩
  | .hbm, ⟨49, _⟩ => ⟨S8x1x16384x16640, .f32⟩
  | .hbm, ⟨50, _⟩ => ⟨S8x16384x16640, .f32⟩
  | .hbm, ⟨51, _⟩ => ⟨S8x1x16384x16640, .f32⟩
  | .hbm, ⟨52, _⟩ => ⟨S8x16384x16640, .f32⟩
  | .hbm, ⟨53, _⟩ => ⟨S8x16384x16640, .f32⟩
  | .hbm, ⟨54, _⟩ => ⟨S8x16384x16640, .f32⟩
  | .hbm, ⟨55, _⟩ => ⟨S8x16384x16640, .f32⟩
  | .hbm, ⟨56, _⟩ => ⟨S8x16384x128, .f32⟩
  | .hbm, ⟨57, _⟩ => ⟨S8x16384x128, .f32⟩
  | .hbm, ⟨58, _⟩ => ⟨S_, .f32⟩
  | .hbm, ⟨59, _⟩ => ⟨S8x16384, .f32⟩
  | .hbm, ⟨60, _⟩ => ⟨S8x16384x1, .f32⟩
  | .hbm, ⟨61, _⟩ => ⟨S_, .f32⟩
  | .hbm, ⟨62, _⟩ => ⟨S8x16384x1, .f32⟩
  | .hbm, ⟨63, _⟩ => ⟨S8x16384x1, .f32⟩
  | .hbm, ⟨64, _⟩ => ⟨S_, .f32⟩
  | .hbm, ⟨65, _⟩ => ⟨S8x16384x1, .f32⟩
  | .hbm, ⟨66, _⟩ => ⟨S8x16384x1, .f32⟩
  | .hbm, ⟨67, _⟩ => ⟨S8x16384x1, .f32⟩
  | .hbm, ⟨68, _⟩ => ⟨S8x16384x128, .f32⟩
  | .hbm, ⟨69, _⟩ => ⟨S8x16384x128, .f32⟩
  | .hbm, ⟨70, _⟩ => ⟨S1x1x128, .f32⟩
  | .hbm, ⟨71, _⟩ => ⟨S8x16384x128, .f32⟩
  | .hbm, ⟨72, _⟩ => ⟨S8x16384x128, .f32⟩
  | .hbm, ⟨73, _⟩ => ⟨S_, .f32⟩
  | .hbm, ⟨74, _⟩ => ⟨S8x16384x128, .f32⟩
  | .hbm, ⟨75, _⟩ => ⟨S8x16384x128, .f32⟩
  | .hbm, ⟨76, _⟩ => ⟨S16384x8x128, .f32⟩
  | .hbm, ⟨77, _⟩ => ⟨S16384x1024, .f32⟩
  | .hbm, ⟨78, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel2.lean ====
abbrev S16384x2048 : Shape := ⟨2, ![16384, 2048]⟩
abbrev S12288 : Shape := ⟨1, ![12288]⟩
abbrev S2048x4608 : Shape := ⟨2, ![2048, 4608]⟩
abbrev S4608 : Shape := ⟨1, ![4608]⟩
abbrev S2048 : Shape := ⟨1, ![2048]⟩
abbrev S_ : Shape := ⟨0, ![]⟩
abbrev S8x2048 : Shape := ⟨2, ![8, 2048]⟩
abbrev S1 : Shape := ⟨1, ![1]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1x4608 : Shape := ⟨2, ![1, 4608]⟩
abbrev S16384x512 : Shape := ⟨2, ![16384, 512]⟩
abbrev S16384x1024 : Shape := ⟨2, ![16384, 1024]⟩
abbrev S32x8x128 : Shape := ⟨3, ![32, 8, 128]⟩
abbrev S512x2048 : Shape := ⟨2, ![512, 2048]⟩
abbrev S512x128 : Shape := ⟨2, ![512, 128]⟩
abbrev S512x512 : Shape := ⟨2, ![512, 512]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1x1024 : Shape := ⟨2, ![1, 1024]⟩
abbrev S128 : Shape := ⟨1, ![128]⟩
abbrev S1x128 : Shape := ⟨2, ![1, 128]⟩
abbrev S1x1 : Shape := ⟨2, ![1, 1]⟩
abbrev S8x128 : Shape := ⟨2, ![8, 128]⟩

abbrev nBuf : Space → Nat
  | .hbm => 84
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S12288, .f32⟩
  | .hbm, ⟨2, _⟩ => ⟨S2048x4608, .f32⟩
  | .hbm, ⟨3, _⟩ => ⟨S4608, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S8x2048, .f32⟩
  | .hbm, ⟨12, _⟩ => ⟨S_, .i32⟩
  | .hbm, ⟨13, _⟩ => ⟨S1, .i32⟩
  | .hbm, ⟨14, _⟩ => ⟨S8x2048, .f32⟩
  | .hbm, ⟨15, _⟩ => ⟨S_, .i32⟩
  | .hbm, ⟨16, _⟩ => ⟨S1, .i32⟩
  | .hbm, ⟨17, _⟩ => ⟨S8x2048, .f32⟩
  | .hbm, ⟨18, _⟩ => ⟨S_, .i32⟩
  | .hbm, ⟨19, _⟩ => ⟨S1, .i32⟩
  | .hbm, ⟨20, _⟩ => ⟨S8x2048, .f32⟩
  | .hbm, ⟨21, _⟩ => ⟨S_, .i32⟩
  | .hbm, ⟨22, _⟩ => ⟨S1, .i32⟩
  | .hbm, ⟨23, _⟩ => ⟨S8x2048, .f32⟩
  | .hbm, ⟨24, _⟩ => ⟨S_, .i32⟩
  | .hbm, ⟨25, _⟩ => ⟨S1, .i32⟩
  | .hbm, ⟨26, _⟩ => ⟨S8x2048, .f32⟩
  | .hbm, ⟨27, _⟩ => ⟨S_, .i32⟩
  | .hbm, ⟨28, _⟩ => ⟨S1, .i32⟩
  | .hbm, ⟨29, _⟩ => ⟨S8x2048, .f32⟩
  | .hbm, ⟨30, _⟩ => ⟨S2048x4608, .bf16⟩
  | .hbm, ⟨31, _⟩ => ⟨S256, .i32⟩
  | .hbm, ⟨32, _⟩ => ⟨S256x64, .i32⟩
  | .hbm, ⟨33, _⟩ => ⟨S16384, .i32⟩
  | .hbm, ⟨34, _⟩ => ⟨S16384, .f32⟩
  | .hbm, ⟨35, _⟩ => ⟨S64, .i32⟩
  | .hbm, ⟨36, _⟩ => ⟨S1x64, .i32⟩
  | .hbm, ⟨37, _⟩ => ⟨S256x64, .i32⟩
  | .hbm, ⟨38, _⟩ => ⟨S16384, .i32⟩
  | .hbm, ⟨39, _⟩ => ⟨S16384, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16384x1, .f32⟩
  | .hbm, ⟨51, _⟩ => ⟨S1x16, .f32⟩
  | .hbm, ⟨52, _⟩ => ⟨S16384x16, .f32⟩
  | .hbm, ⟨53, _⟩ => ⟨S16384x16, .f32⟩
  | .hbm, ⟨54, _⟩ => ⟨S16384x16, .f32⟩
  | .hbm, ⟨55, _⟩ => ⟨S16384x1, .f32⟩
  | .hbm, ⟨56, _⟩ => ⟨S1x16, .f32⟩
  | .hbm, ⟨57, _⟩ => ⟨S16384x16, .f32⟩
  | .hbm, ⟨58, _⟩ => ⟨S16384x16, .f32⟩
  | .hbm, ⟨59, _⟩ => ⟨S16384x16, .f32⟩
  | .hbm, ⟨60, _⟩ => ⟨S16384x32, .f32⟩
  | .hbm, ⟨61, _⟩ => ⟨S16384x32, .f32⟩
  | .hbm, ⟨62, _⟩ => ⟨S16384x32, .f32⟩
  | .hbm, ⟨63, _⟩ => ⟨S_, .f32⟩
  | .hbm, ⟨64, _⟩ => ⟨S16384x32, .f32⟩
  | .hbm, ⟨65, _⟩ => ⟨S1x16384x1x32, .f32⟩
  | .hbm, ⟨66, _⟩ => ⟨S1x16384x4x32, .f32⟩
  | .hbm, ⟨67, _⟩ => ⟨S16384x128, .f32⟩
  | .hbm, ⟨68, _⟩ => ⟨S16384x32, .f32⟩
  | .hbm, ⟨69, _⟩ => ⟨S16384x64, .f32⟩
  | .hbm, ⟨70, _⟩ => ⟨S1x16384x1x64, .f32⟩
  | .hbm, ⟨71, _⟩ => ⟨S1x16384x2x64, .f32⟩
  | .hbm, ⟨72, _⟩ => ⟨S16384x128, .f32⟩
  | .hbm, ⟨73, _⟩ => ⟨S16384x64, .f32⟩
  | .hbm, ⟨74, _⟩ => ⟨S1x16384x1x64, .f32⟩
  | .hbm, ⟨75, _⟩ => ⟨S1x16384x2x64, .f32⟩
  | .hbm, ⟨76, _⟩ => ⟨S16384x128, .f32⟩
  | .hbm, ⟨77, _⟩ => ⟨S1x4608, .f32⟩
  | .hbm, ⟨78, _⟩ => ⟨S16384x512, .bf16⟩
  | .hbm, ⟨79, _⟩ => ⟨S16384x512, .bf16⟩
  | .hbm, ⟨80, _⟩ => ⟨S16384x1024, .bf16⟩
  | .hbm, ⟨81, _⟩ => ⟨S16384x1024, .bf16⟩
  | .hbm, ⟨82, _⟩ => ⟨S16384x1024, .bf16⟩
  | .hbm, ⟨83, _⟩ => ⟨S32x8x128, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S2048x4608, .bf16⟩
  | .local _ .vmem, ⟨4, _⟩ => ⟨S1x4608, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x8x128, .f32⟩
  | .local _ .vmem, ⟨22, _⟩ => ⟨S1x8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev main_v63_5 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x2048 : Shape := ⟨2, ![16384, 2048]⟩
abbrev S12288 : Shape := ⟨1, ![12288]⟩
abbrev S2048x4608 : Shape := ⟨2, ![2048, 4608]⟩
abbrev S4608 : Shape := ⟨1, ![4608]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x4608 : Shape := ⟨2, ![16384, 4608]⟩
abbrev S1x4608 : Shape := ⟨2, ![1, 4608]⟩
abbrev S16384x512 : Shape := ⟨2, ![16384, 512]⟩
abbrev S256 : Shape := ⟨1, ![256]⟩
abbrev S256x64 : Shape := ⟨2, ![256, 64]⟩
abbrev S64 : Shape := ⟨1, ![64]⟩
abbrev S1x64 : Shape := ⟨2, ![1, 64]⟩
abbrev S16 : Shape := ⟨1, ![16]⟩
abbrev S1x16 : Shape := ⟨2, ![1, 16]⟩
abbrev S16384x16 : Shape := ⟨2, ![16384, 16]⟩
abbrev S16384x32 : Shape := ⟨2, ![16384, 32]⟩
abbrev S16384x1x32 : Shape := ⟨3, ![16384, 1, 32]⟩
abbrev S16384x1024 : Shape := ⟨2, ![16384, 1024]⟩
abbrev S16384x16x64 : Shape := ⟨3, ![16384, 16, 64]⟩
abbrev S16384x16x32 : Shape := ⟨3, ![16384, 16, 32]⟩

abbrev nBuf : Space → Nat
  | .hbm => 129
  | .vmem => 0
  | .smem => 0
  | _ => 0

abbrev hbmTy0_0 (i : Nat) : BufTy := match i % 128 with
  | 0 => ⟨S16384x2048, .f32⟩
  | 1 => ⟨S12288, .f32⟩
  | 2 => ⟨S2048x4608, .f32⟩
  | 3 => ⟨S4608, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x2048, .f32⟩
  | 11 => ⟨S16384x2048, .f32⟩
  | 12 => ⟨S16384x2048, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x2048, .f32⟩
  | 20 => ⟨S16384x2048, .f32⟩
  | 21 => ⟨S_, .f32⟩
  | 22 => ⟨S16384x1, .f32⟩
  | 23 => ⟨S16384x1, .f32⟩
  | 24 => ⟨S16384x1, .f32⟩
  | 25 => ⟨S16384x2048, .f32⟩
  | 26 => ⟨S16384x2048, .f32⟩
  | 27 => ⟨S2048, .f32⟩
  | 28 => ⟨S_, .f32⟩
  | 29 => ⟨S2048, .f32⟩
  | 30 => ⟨S2048, .f32⟩
  | 31 => ⟨S1x2048, .f32⟩
  | 32 => ⟨S16384x2048, .f32⟩
  | 33 => ⟨S16384x2048, .f32⟩
  | 34 => ⟨S2048, .f32⟩
  | 35 => ⟨S1x2048, .f32⟩
  | 36 => ⟨S16384x2048, .f32⟩
  | 37 => ⟨S16384x2048, .f32⟩
  | 38 => ⟨S16384x4608, .f32⟩
  | 39 => ⟨S1x4608, .f32⟩
  | 40 => ⟨S16384x4608, .f32⟩
  | 41 => ⟨S16384x4608, .f32⟩
  | 42 => ⟨S16384x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S256, .i32⟩
  | 55 => ⟨S256x64, .i32⟩
  | 56 => ⟨S16384, .i32⟩
  | 57 => ⟨S16384, .f32⟩
  | 58 => ⟨S64, .i32⟩
  | 59 => ⟨S1x64, .i32⟩
  | 60 => ⟨S256x64, .i32⟩
  | 61 => ⟨S16384, .i32⟩
  | 62 => ⟨S16384, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16384x1, .f32⟩
  | 74 => ⟨S1x16, .f32⟩
  | 75 => ⟨S16384x16, .f32⟩
  | 76 => ⟨S16384x16, .f32⟩
  | 77 => ⟨S16384x16, .f32⟩
  | 78 => ⟨S16384x1, .f32⟩
  | 79 => ⟨S1x16, .f32⟩
  | 80 => ⟨S16384x16, .f32⟩
  | 81 => ⟨S16384x16, .f32⟩
  | 82 => ⟨S16384x16, .f32⟩
  | 83 => ⟨S16384x32, .f32⟩
  | 84 => ⟨S16384x32, .f32⟩
  | 85 => ⟨S16384x1x32, .f32⟩
  | 86 => ⟨S16384x32, .f32⟩
  | 87 => ⟨S16384x1x32, .f32⟩
  | 88 => ⟨S16384x1024, .f32⟩
  | 89 => ⟨S16384x16x64, .f32⟩
  | 90 => ⟨S16384x16x32, .f32⟩
  | 91 => ⟨S16384x16x32, .f32⟩
  | 92 => ⟨S16384x16x32, .f32⟩
  | 93 => ⟨S16384x16x32, .f32⟩
  | 94 => ⟨S16384x16x32, .f32⟩
  | 95 => ⟨S16384x16x32, .f32⟩
  | 96 => ⟨S16384x16x32, .f32⟩
  | 97 => ⟨S16384x16x32, .f32⟩
  | 98 => ⟨S16384x16x32, .f32⟩
  | 99 => ⟨S16384x16x32, .f32⟩
  | 100 => ⟨S16384x16x32, .f32⟩
  | 101 => ⟨S16384x16x32, .f32⟩
  | 102 => ⟨S16384x16x64, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S16384x16x64, .f32⟩
  | 109 => ⟨S16384x16x32, .f32⟩
  | 110 => ⟨S16384x16x32, .f32⟩
  | 111 => ⟨S16384x16x32, .f32⟩
  | 112 => ⟨S16384x16x32, .f32⟩
  | 113 => ⟨S16384x16x32, .f32⟩
  | 114 => ⟨S16384x16x32, .f32⟩
  | 115 => ⟨S16384x16x32, .f32⟩
  | 116 => ⟨S16384x16x32, .f32⟩
  | 117 => ⟨S16384x16x32, .f32⟩
  | 118 => ⟨S16384x16x32, .f32⟩
  | 119 => ⟨S16384x16x32, .f32⟩
  | 120 => ⟨S16384x16x32, .f32⟩
  | 121 => ⟨S16384x16x64, .f32⟩
  | 122 => ⟨S16384x1024, .f32⟩
  | 123 => ⟨S16384x1024, .f32⟩
  | 124 => ⟨S16384x512, .bf16⟩
  | 125 => ⟨S16384x512, .bf16⟩
  | 126 => ⟨S16384x1024, .bf16⟩
  | 127 => ⟨S16384x1024, .bf16⟩
  | _ => ⟨S16384x2048, .f32⟩

abbrev hbmTy0_1 (i : Nat) : BufTy := match i % 128 with
  | 0 => ⟨S16384x1024, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_10 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩

abbrev nD : Nat := 1
abbrev τ : Topo := Topo.v7x

variable {F : FTy → Type} [FloatOps F]
-- ==== Proof.Model.lean ====
/-
  The attention region as pure functions of the blocks it is given, over any float interpretation: one tile of scores,
  the running column maximum, one tile of weighted values, and the fold of the five key chunks.
-/
module

public import proofs.«01_k».proof.Proof.Gen.KernelIdeal.Skeleton

@[expose] public section

noncomputable section

namespace Cert.KernelIdeal.Attn

open Idealize.ShloMosaic Idealize.ShloMosaic.TcCoe
open Cert.KernelIdeal Cert.KernelIdeal.Gen

variable {F : FTy → Type} [FloatOps F]

/-- The thirteen terms of a chunk, combined from the left. -/
def chain13 {α : Type} (op : α → α → α) (f : Fin 13 → α) : α :=
  op (op (op (op (op (op (op (op (op (op (op (op (f 0) (f 1)) (f 2)) (f 3)) (f 4)) (f 5)) (f 6)) (f 7)) (f 8)) (f 9)) (f 10)) (f 11)) (f 12)

theorem kInb (c : Fin 2) (j : Fin 5) (r : Fin 13) :
    ∀ a, (![0, c.val, j.val, 256 * r.val, 0] : Fin 5 → ℕ) a + S1x1x1x256x256.size a ≤ S1x2x5x3328x256.size a := by
  intro a; fin_cases a <;> simp [S1x1x1x256x256, S1x2x5x3328x256] <;> omega

theorem vInb (j : Fin 5) (r : Fin 13) :
    ∀ a, (![0, j.val, 0, 256 * r.val] : Fin 4 → ℕ) a + S1x1x144x256.size a ≤ S1x5x144x3328.size a := by
  intro a; fin_cases a <;> simp [S1x1x144x256, S1x5x144x3328] <;> omega

theorem sInb (p : Fin 2) (r : Fin 13) :
    ∀ a, (![p.val, 256 * r.val, 0] : Fin 3 → ℕ) a + S1x256x512.size a ≤ S2x3328x512.size a := by
  intro a; fin_cases a <;> simp [S1x256x512, S2x3328x512] <;> omega

theorem qInb (c : Fin 2) :
    ∀ a, (![0, c.val, 0, 0] : Fin 4 → ℕ) a + S1x1x256x512.size a ≤ S1x2x256x512.size a := by
  intro a; fin_cases a <;> simp [S1x1x256x512, S1x2x256x512] <;> omega

/-- Tile `r` of key chunk `j`, component `c`. -/
def kTile (x4 : Vec F S1x2x5x3328x256 .fp8e4m3) (c : Fin 2) (j : Fin 5) (r : Fin 13) : Vec F S1x1x1x256x256 .fp8e4m3 :=
  fun y => x4 ((Rect.unit (s := S1x2x5x3328x256) ![0, c.val, j.val, 256 * r.val, 0] S1x1x1x256x256.size (kInb c j r)).toLoadRect.idx y)

/-- Tile `r` of value chunk `j`. -/
def vTile (x5 : Vec F S1x5x144x3328 .bf16) (j : Fin 5) (r : Fin 13) : Vec F S1x1x144x256 .bf16 :=
  fun y => x5 ((Rect.unit (s := S1x5x144x3328) ![0, j.val, 0, 256 * r.val] S1x1x144x256.size (vInb j r)).toLoadRect.idx y)

/-- The queries of component `c`. -/
def qTile (x3 : Vec F S1x2x256x512 .fp8e4m3) (c : Fin 2) : FVec F S256x512 .fp8e4m3 :=
  shapeCast S256x512 (fun y => x3 ((Rect.unit (s := S1x2x256x512) ![0, c.val, 0, 0] S1x1x256x512.size (qInb c)).toLoadRect.idx y) : Vec F S1x1x256x512 .fp8e4m3) shapeCasts_S1x1x256x512_S256x512

/-- Scores of a tile of keys against the queries. -/
def score (q : FVec F S256x512 .fp8e4m3) (k : Vec F S1x1x1x256x256 .fp8e4m3) : FVec F S256x512 .f32 :=
  matmul dot_S256x256_S256x512_S256x512_1_0_0_1_n_n none (shapeCast S256x256 k shapeCasts_S1x1x1x256x256_S256x256 : FVec F S256x256 .fp8e4m3) q (constant S256x512 .f32 0x00000000#32)

/-- The scores as the scratch holds them. -/
def scoreBox (q : FVec F S256x512 .fp8e4m3) (k : Vec F S1x1x1x256x256 .fp8e4m3) : FVec F S1x256x512 .f32 :=
  shapeCast S1x256x512 (score q k) shapeCasts_S256x512_S1x256x512

/-- The maximum of a tile's scores, query by query. -/
def scoreMax (q : FVec F S256x512 .fp8e4m3) (k : Vec F S1x1x1x256x256 .fp8e4m3) : FVec F S1x512 .f32 :=
  shapeCast S1x512 (multiReduction .maximumf [0] S512 (score q k) 0xFF800000#32 reduces_S256x512_S512 (.inl rfl) rfl : FVec F S512 .f32) shapeCasts_S512_S1x512

/-- The weights of a tile: two to the scaled difference of the scores from the running maximum. -/
def weight (cb : F .bf16) (mn : FVec F S1x512 .f32) (s : Vec F S1x256x512 .f32) : FVec F S256x512 .bf16 :=
  exp2 (mulf (truncf .bf16 (subf (shapeCast S256x512 s shapeCasts_S1x256x512_S256x512 : FVec F S256x512 .f32) (broadcastTo S256x512 mn broadcasts_S1x512_S256x512)) bitsLt_bf16_f32) (broadcast S256x512 cb))

/-- A tile's weighted values (and, in the row of ones, the sum of its weights). -/
def weighted (cb : F .bf16) (mn : FVec F S1x512 .f32) (v : Vec F S1x1x144x256 .bf16) (s : Vec F S1x256x512 .f32) : FVec F S144x512 .f32 :=
  matmul dot_S144x256_S256x512_S144x512_1_0_0_1_n_n none (shapeCast S144x256 v shapeCasts_S1x1x144x256_S144x256 : FVec F S144x256 .bf16) (weight cb mn s) (constant S144x512 .f32 0x00000000#32)

/-- The maximum of a whole chunk's scores. -/
def chunkMax (q : FVec F S256x512 .fp8e4m3) (x4 : Vec F S1x2x5x3328x256 .fp8e4m3) (c : Fin 2) (j : Fin 5) : FVec F S1x512 .f32 :=
  chain13 maximumf fun r => scoreMax q (kTile x4 c j r)

/-- A whole chunk's weighted values. -/
def chunkPV (cb : F .bf16) (mn : FVec F S1x512 .f32) (x5 : Vec F S1x5x144x3328 .bf16) (j : Fin 5) (s : Fin 13 → Vec F S1x256x512 .f32) : FVec F S144x512 .f32 :=
  chain13 addf fun r => weighted cb mn (vTile x5 j r) (s r)

/-- The accumulator rescaled to a new maximum, with a chunk added. -/
def rescale (cs : Elt F .f32) (m mn : FVec F S1x512 .f32) (acc pv : FVec F S144x512 .f32) : FVec F S144x512 .f32 :=
  shapeCast S144x512 (addf (mulf (broadcastTo S144x512 (exp2 (mulf (subf m mn) (broadcast S1x512 cs))) broadcasts_S1x512_S144x512) acc) pv) shapeCasts_S144x512_S144x512

/-- The running maximum before chunk `j`. -/
def mState (q : FVec F S256x512 .fp8e4m3) (x4 : Vec F S1x2x5x3328x256 .fp8e4m3) (c : Fin 2) : ℕ → FVec F S1x512 .f32
  | 0 => broadcast S1x512 (Scalar.ofBits .f32 0xFF800000#32 : F .f32)
  | j + 1 => maximumf (mState q x4 c j) (chunkMax q x4 c (Fin.ofNat 5 j))

/-- The accumulator before chunk `j`. -/
def aState (cs : Elt F .f32) (cb : F .bf16) (q : FVec F S256x512 .fp8e4m3) (x4 : Vec F S1x2x5x3328x256 .fp8e4m3) (x5 : Vec F S1x5x144x3328 .bf16) (c : Fin 2) : ℕ → FVec F S144x512 .f32
  | 0 => shapeCast S144x512 (broadcast S144x512 (Scalar.ofBits .f32 0x00000000#32 : F .f32)) shapeCasts_S144x512_S144x512
  | j + 1 => rescale cs (mState q x4 c j) (mState q x4 c (j + 1)) (aState cs cb q x4 x5 c j)
      (chunkPV cb (mState q x4 c (j + 1)) x5 (Fin.ofNat 5 j) fun r => scoreBox q (kTile x4 c (Fin.ofNat 5 j) r))

/-- The first 128 rows of an accumulator: the weighted values. -/
def tops (a : Vec F S144x512 .f32) : Vec F S128x512 .f32 :=
  fun y => a ((Rect.unit (s := S144x512) ![0, 0] S128x512.size inb_S144x512_S128x512_0_0).toLoadRect.idx y)

/-- Row 128 of an accumulator: the sums of the weights. -/
def sums (a : Vec F S144x512 .f32) : Vec F S1x512 .f32 :=
  fun y => a ((Rect.unit (s := S144x512) ![128, 0] S1x512.size inb_S144x512_S1x512_128_0).toLoadRect.idx y)

/-- The one entry of the scale block. -/
def scaleOf (x0 : Vec F S1 .f32) : Elt F .f32 := x0 (fun a => ⟨0, by fin_cases a; decide⟩)

/-- The accumulator of component `c` once every chunk is in. -/
def accOf (x0 : Vec F S1 .f32) (x3 : Vec F S1x2x256x512 .fp8e4m3) (x4 : Vec F S1x2x5x3328x256 .fp8e4m3) (x5 : Vec F S1x5x144x3328 .bf16) (c : Fin 2) : FVec F S144x512 .f32 :=
  aState (scaleOf x0) (Scalar.truncf .bf16 bitsLt_bf16_f32 (scaleOf x0)) (qTile x3 c) x4 x5 c 5

/-- The result block of the attention body, from its operands' blocks. -/
def attnOut (x0 : Vec F S1 .f32) (x1 : Vec F S8x128 .f32) (x2 : Vec F S128x1 .f32) (x3 : Vec F S1x2x256x512 .fp8e4m3) (x4 : Vec F S1x2x5x3328x256 .fp8e4m3) (x5 : Vec F S1x5x144x3328 .bf16) : FVec F S512x128 .bf16 :=
  k3_pay1 (k3_pay377 x1 (tops (accOf x0 x3 x4 x5 0)) (sums (accOf x0 x3 x4 x5 0)) (tops (accOf x0 x3 x4 x5 1)) (sums (accOf x0 x3 x4 x5 1)))
    (k3_pay378 x1 (tops (accOf x0 x3 x4 x5 0)) (sums (accOf x0 x3 x4 x5 0)) (tops (accOf x0 x3 x4 x5 1)) (sums (accOf x0 x3 x4 x5 1))) (k3_pay379 (F := F)) x2

end Cert.KernelIdeal.Attn

end
-- ==== Proof.Loads.lean ====
/-
  What the loads of one trip read: the tiles of the key and value blocks, and the boxes of the score scratch.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Model
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
/-- The buffer of a memref, held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- What a load of a key tile reads, its offsets known. -/
theorem load_k {m : Memref sig .tc .vmem S1x2x5x3328x256 .fp8e4m3} (h : m.IsWhole) (x : Vec F S1x2x5x3328x256 .fp8e4m3)
    {off : Fin 5 → ℕ} (c : Fin 2) (j : Fin 5) (r : Fin 13) (e : off = ![0, c.val, j.val, 256 * r.val, 0])
    (inb : ∀ a, off a + S1x1x1x256x256.size a ≤ S1x2x5x3328x256.size a) :
    View.readAt (Elt F) m.view (Rect.unit (s := S1x2x5x3328x256) off S1x1x1x256x256.size inb).toLoadRect (h.unread x) = kTile x c j r := by
  subst e; funext y; exact h.readAt_unread x _ y

/-- What a load of a value tile reads, its offsets known. -/
theorem load_v {m : Memref sig .tc .vmem S1x5x144x3328 .bf16} (h : m.IsWhole) (x : Vec F S1x5x144x3328 .bf16)
    {off : Fin 4 → ℕ} (j : Fin 5) (r : Fin 13) (e : off = ![0, j.val, 0, 256 * r.val])
    (inb : ∀ a, off a + S1x1x144x256.size a ≤ S1x5x144x3328.size a) :
    View.readAt (Elt F) m.view (Rect.unit (s := S1x5x144x3328) off S1x1x144x256.size inb).toLoadRect (h.unread x) = vTile x j r := by
  subst e; funext y; exact h.readAt_unread x _ y

/-- A box read back at the newest piece. -/
theorem box_hit {m : Memref sig .tc .vmem S2x3328x512 .f32} (f : m.view.ty.Contents (Elt F)) (off : Fin 3 → ℕ)
    (inb inb' : ∀ a, off a + S1x256x512.size a ≤ S2x3328x512.size a) (w : Vec F S1x256x512 .f32) (L : List (View.Piece (Elt F) S2x3328x512 .f32)) :
    View.readAt (Elt F) m.view (Rect.unit (s := S2x3328x512) off S1x256x512.size inb).toLoadRect
      (m.view.writes (Elt F) f (⟨Rect.unit (s := S2x3328x512) off S1x256x512.size inb', w⟩ :: L)) = w := by
  funext y; exact View.read_writes_cons_emb m.view f (Rect.unit (s := S2x3328x512) off S1x256x512.size inb') w L y

/-- A box read past a piece of other rows. -/
theorem box_miss {m : Memref sig .tc .vmem S2x3328x512 .f32} (f : m.view.ty.Contents (Elt F)) (off off' : Fin 3 → ℕ)
    (inb : ∀ a, off a + S1x256x512.size a ≤ S2x3328x512.size a) (inb' : ∀ a, off' a + S1x256x512.size a ≤ S2x3328x512.size a)
    (hd : off 1 + 256 ≤ off' 1 ∨ off' 1 + 256 ≤ off 1) (w : Vec F S1x256x512 .f32) (L : List (View.Piece (Elt F) S2x3328x512 .f32)) :
    View.readAt (Elt F) m.view (Rect.unit (s := S2x3328x512) off S1x256x512.size inb).toLoadRect
      (m.view.writes (Elt F) f (⟨Rect.unit (s := S2x3328x512) off' S1x256x512.size inb', w⟩ :: L))
      = View.readAt (Elt F) m.view (Rect.unit (s := S2x3328x512) off S1x256x512.size inb).toLoadRect (m.view.writes (Elt F) f L) := by
  funext y
  rw [View.writes_cons]
  refine View.read_slice_write_of_not_mem _ _ _ _ ?_
  rw [Rect.map_emb_univ]
  intro hm
  obtain ⟨z, hz⟩ := (Rect.unit (s := S2x3328x512) off' S1x256x512.size inb').exists_idx_of_mem hm
  have h1 := congrArg (fun t => (t 1).val) hz
  have hy : (y 1).val < 256 := (y 1).isLt
  have hz' : (z 1).val < 256 := (z 1).isLt
  simp [Rect.unit, Rect.emb, LoadRect.idx, Rect.toLoadRect] at h1
  omega

/-- A whole accumulator read back. -/
theorem whole_hit {m : Memref sig .tc .vmem S144x512 .f32} (f : m.view.ty.Contents (Elt F))
    (inb inb' : ∀ a, (![0, 0] : Fin 2 → ℕ) a + S144x512.size a ≤ S144x512.size a) (w : Vec F S144x512 .f32) (L : List (View.Piece (Elt F) S144x512 .f32)) :
    View.readAt (Elt F) m.view (Rect.unit (s := S144x512) ![0, 0] S144x512.size inb).toLoadRect
      (m.view.writes (Elt F) f (⟨Rect.unit (s := S144x512) ![0, 0] S144x512.size inb', w⟩ :: L)) = w := by
  funext y; exact View.read_writes_cons_emb m.view f (Rect.unit (s := S144x512) ![0, 0] S144x512.size inb') w L y

/-- The key chunk a trip produces, and the chunk it consumes. -/
abbrev nxt (k : Fin k3_t1_loop.trips) : Fin 5 := Fin.ofNat 5 (k.val + 1)
abbrev cur (k : Fin k3_t1_loop.trips) : Fin 5 := Fin.ofNat 5 k.val

theorem cond_eq (k : Fin k3_t1_loop.trips) : k3_cond1 k = 1#1 ↔ k.val % 2 = 0 := by revert k; decide +kernel

theorem off1 (k : Fin k3_t1_loop.trips) : k3_off1 k = ![0, (cur k).val, 0, 256 * (0 : Fin 13).val] := by revert k; decide +kernel
theorem off2 (k : Fin k3_t1_loop.trips) : k3_off2 k = ![0, (0 : Fin 2).val, (nxt k).val, 256 * (0 : Fin 13).val, 0] := by revert k; decide +kernel
theorem off3 (k : Fin k3_t1_loop.trips) : k3_off3 k = ![0, (1 : Fin 2).val, (nxt k).val, 256 * (0 : Fin 13).val, 0] := by revert k; decide +kernel
theorem off4 (k : Fin k3_t1_loop.trips) : k3_off4 k = ![0, (cur k).val, 0, 256 * (1 : Fin 13).val] := by revert k; decide +kernel
theorem off5 (k : Fin k3_t1_loop.trips) : k3_off5 k = ![0, (0 : Fin 2).val, (nxt k).val, 256 * (1 : Fin 13).val, 0] := by revert k; decide +kernel
theorem off6 (k : Fin k3_t1_loop.trips) : k3_off6 k = ![0, (1 : Fin 2).val, (nxt k).val, 256 * (1 : Fin 13).val, 0] := by revert k; decide +kernel
theorem off7 (k : Fin k3_t1_loop.trips) : k3_off7 k = ![0, (cur k).val, 0, 256 * (2 : Fin 13).val] := by revert k; decide +kernel
theorem off8 (k : Fin k3_t1_loop.trips) : k3_off8 k = ![0, (0 : Fin 2).val, (nxt k).val, 256 * (2 : Fin 13).val, 0] := by revert k; decide +kernel
theorem off9 (k : Fin k3_t1_loop.trips) : k3_off9 k = ![0, (1 : Fin 2).val, (nxt k).val, 256 * (2 : Fin 13).val, 0] := by revert k; decide +kernel
theorem off10 (k : Fin k3_t1_loop.trips) : k3_off10 k = ![0, (cur k).val, 0, 256 * (3 : Fin 13).val] := by revert k; decide +kernel
theorem off11 (k : Fin k3_t1_loop.trips) : k3_off11 k = ![0, (0 : Fin 2).val, (nxt k).val, 256 * (3 : Fin 13).val, 0] := by revert k; decide +kernel
theorem off12 (k : Fin k3_t1_loop.trips) : k3_off12 k = ![0, (1 : Fin 2).val, (nxt k).val, 256 * (3 : Fin 13).val, 0] := by revert k; decide +kernel
theorem off13 (k : Fin k3_t1_loop.trips) : k3_off13 k = ![0, (cur k).val, 0, 256 * (4 : Fin 13).val] := by revert k; decide +kernel
theorem off14 (k : Fin k3_t1_loop.trips) : k3_off14 k = ![0, (0 : Fin 2).val, (nxt k).val, 256 * (4 : Fin 13).val, 0] := by revert k; decide +kernel
theorem off15 (k : Fin k3_t1_loop.trips) : k3_off15 k = ![0, (1 : Fin 2).val, (nxt k).val, 256 * (4 : Fin 13).val, 0] := by revert k; decide +kernel
theorem off16 (k : Fin k3_t1_loop.trips) : k3_off16 k = ![0, (cur k).val, 0, 256 * (5 : Fin 13).val] := by revert k; decide +kernel
theorem off17 (k : Fin k3_t1_loop.trips) : k3_off17 k = ![0, (0 : Fin 2).val, (nxt k).val, 256 * (5 : Fin 13).val, 0] := by revert k; decide +kernel
theorem off18 (k : Fin k3_t1_loop.trips) : k3_off18 k = ![0, (1 : Fin 2).val, (nxt k).val, 256 * (5 : Fin 13).val, 0] := by revert k; decide +kernel
theorem off19 (k : Fin k3_t1_loop.trips) : k3_off19 k = ![0, (cur k).val, 0, 256 * (6 : Fin 13).val] := by revert k; decide +kernel
theorem off20 (k : Fin k3_t1_loop.trips) : k3_off20 k = ![0, (0 : Fin 2).val, (nxt k).val, 256 * (6 : Fin 13).val, 0] := by revert k; decide +kernel
theorem off21 (k : Fin k3_t1_loop.trips) : k3_off21 k = ![0, (1 : Fin 2).val, (nxt k).val, 256 * (6 : Fin 13).val, 0] := by revert k; decide +kernel
theorem off22 (k : Fin k3_t1_loop.trips) : k3_off22 k = ![0, (cur k).val, 0, 256 * (7 : Fin 13).val] := by revert k; decide +kernel
theorem off23 (k : Fin k3_t1_loop.trips) : k3_off23 k = ![0, (0 : Fin 2).val, (nxt k).val, 256 * (7 : Fin 13).val, 0] := by revert k; decide +kernel
theorem off24 (k : Fin k3_t1_loop.trips) : k3_off24 k = ![0, (1 : Fin 2).val, (nxt k).val, 256 * (7 : Fin 13).val, 0] := by revert k; decide +kernel
theorem off25 (k : Fin k3_t1_loop.trips) : k3_off25 k = ![0, (cur k).val, 0, 256 * (8 : Fin 13).val] := by revert k; decide +kernel
theorem off26 (k : Fin k3_t1_loop.trips) : k3_off26 k = ![0, (0 : Fin 2).val, (nxt k).val, 256 * (8 : Fin 13).val, 0] := by revert k; decide +kernel
theorem off27 (k : Fin k3_t1_loop.trips) : k3_off27 k = ![0, (1 : Fin 2).val, (nxt k).val, 256 * (8 : Fin 13).val, 0] := by revert k; decide +kernel
theorem off28 (k : Fin k3_t1_loop.trips) : k3_off28 k = ![0, (cur k).val, 0, 256 * (9 : Fin 13).val] := by revert k; decide +kernel
theorem off29 (k : Fin k3_t1_loop.trips) : k3_off29 k = ![0, (0 : Fin 2).val, (nxt k).val, 256 * (9 : Fin 13).val, 0] := by revert k; decide +kernel
theorem off30 (k : Fin k3_t1_loop.trips) : k3_off30 k = ![0, (1 : Fin 2).val, (nxt k).val, 256 * (9 : Fin 13).val, 0] := by revert k; decide +kernel
theorem off31 (k : Fin k3_t1_loop.trips) : k3_off31 k = ![0, (cur k).val, 0, 256 * (10 : Fin 13).val] := by revert k; decide +kernel
theorem off32 (k : Fin k3_t1_loop.trips) : k3_off32 k = ![0, (0 : Fin 2).val, (nxt k).val, 256 * (10 : Fin 13).val, 0] := by revert k; decide +kernel
theorem off33 (k : Fin k3_t1_loop.trips) : k3_off33 k = ![0, (1 : Fin 2).val, (nxt k).val, 256 * (10 : Fin 13).val, 0] := by revert k; decide +kernel
theorem off34 (k : Fin k3_t1_loop.trips) : k3_off34 k = ![0, (cur k).val, 0, 256 * (11 : Fin 13).val] := by revert k; decide +kernel
theorem off35 (k : Fin k3_t1_loop.trips) : k3_off35 k = ![0, (0 : Fin 2).val, (nxt k).val, 256 * (11 : Fin 13).val, 0] := by revert k; decide +kernel
theorem off36 (k : Fin k3_t1_loop.trips) : k3_off36 k = ![0, (1 : Fin 2).val, (nxt k).val, 256 * (11 : Fin 13).val, 0] := by revert k; decide +kernel
theorem off37 (k : Fin k3_t1_loop.trips) : k3_off37 k = ![0, (cur k).val, 0, 256 * (12 : Fin 13).val] := by revert k; decide +kernel
theorem off38 (k : Fin k3_t1_loop.trips) : k3_off38 k = ![0, (0 : Fin 2).val, (nxt k).val, 256 * (12 : Fin 13).val, 0] := by revert k; decide +kernel
theorem off39 (k : Fin k3_t1_loop.trips) : k3_off39 k = ![0, (1 : Fin 2).val, (nxt k).val, 256 * (12 : Fin 13).val, 0] := by revert k; decide +kernel
theorem off40 (k : Fin k3_t1_loop.trips) : k3_off40 k = ![0, (cur k).val, 0, 256 * (0 : Fin 13).val] := by revert k; decide +kernel
theorem off41 (k : Fin k3_t1_loop.trips) : k3_off41 k = ![0, (0 : Fin 2).val, (nxt k).val, 256 * (0 : Fin 13).val, 0] := by revert k; decide +kernel
theorem off42 (k : Fin k3_t1_loop.trips) : k3_off42 k = ![0, (1 : Fin 2).val, (nxt k).val, 256 * (0 : Fin 13).val, 0] := by revert k; decide +kernel
theorem off43 (k : Fin k3_t1_loop.trips) : k3_off43 k = ![0, (cur k).val, 0, 256 * (1 : Fin 13).val] := by revert k; decide +kernel
theorem off44 (k : Fin k3_t1_loop.trips) : k3_off44 k = ![0, (0 : Fin 2).val, (nxt k).val, 256 * (1 : Fin 13).val, 0] := by revert k; decide +kernel
theorem off45 (k : Fin k3_t1_loop.trips) : k3_off45 k = ![0, (1 : Fin 2).val, (nxt k).val, 256 * (1 : Fin 13).val, 0] := by revert k; decide +kernel
theorem off46 (k : Fin k3_t1_loop.trips) : k3_off46 k = ![0, (cur k).val, 0, 256 * (2 : Fin 13).val] := by revert k; decide +kernel
theorem off47 (k : Fin k3_t1_loop.trips) : k3_off47 k = ![0, (0 : Fin 2).val, (nxt k).val, 256 * (2 : Fin 13).val, 0] := by revert k; decide +kernel
theorem off48 (k : Fin k3_t1_loop.trips) : k3_off48 k = ![0, (1 : Fin 2).val, (nxt k).val, 256 * (2 : Fin 13).val, 0] := by revert k; decide +kernel
theorem off49 (k : Fin k3_t1_loop.trips) : k3_off49 k = ![0, (cur k).val, 0, 256 * (3 : Fin 13).val] := by revert k; decide +kernel
theorem off50 (k : Fin k3_t1_loop.trips) : k3_off50 k = ![0, (0 : Fin 2).val, (nxt k).val, 256 * (3 : Fin 13).val, 0] := by revert k; decide +kernel
theorem off51 (k : Fin k3_t1_loop.trips) : k3_off51 k = ![0, (1 : Fin 2).val, (nxt k).val, 256 * (3 : Fin 13).val, 0] := by revert k; decide +kernel
theorem off52 (k : Fin k3_t1_loop.trips) : k3_off52 k = ![0, (cur k).val, 0, 256 * (4 : Fin 13).val] := by revert k; decide +kernel
theorem off53 (k : Fin k3_t1_loop.trips) : k3_off53 k = ![0, (0 : Fin 2).val, (nxt k).val, 256 * (4 : Fin 13).val, 0] := by revert k; decide +kernel
theorem off54 (k : Fin k3_t1_loop.trips) : k3_off54 k = ![0, (1 : Fin 2).val, (nxt k).val, 256 * (4 : Fin 13).val, 0] := by revert k; decide +kernel
theorem off55 (k : Fin k3_t1_loop.trips) : k3_off55 k = ![0, (cur k).val, 0, 256 * (5 : Fin 13).val] := by revert k; decide +kernel
theorem off56 (k : Fin k3_t1_loop.trips) : k3_off56 k = ![0, (0 : Fin 2).val, (nxt k).val, 256 * (5 : Fin 13).val, 0] := by revert k; decide +kernel
theorem off57 (k : Fin k3_t1_loop.trips) : k3_off57 k = ![0, (1 : Fin 2).val, (nxt k).val, 256 * (5 : Fin 13).val, 0] := by revert k; decide +kernel
theorem off58 (k : Fin k3_t1_loop.trips) : k3_off58 k = ![0, (cur k).val, 0, 256 * (6 : Fin 13).val] := by revert k; decide +kernel
theorem off59 (k : Fin k3_t1_loop.trips) : k3_off59 k = ![0, (0 : Fin 2).val, (nxt k).val, 256 * (6 : Fin 13).val, 0] := by revert k; decide +kernel
theorem off60 (k : Fin k3_t1_loop.trips) : k3_off60 k = ![0, (1 : Fin 2).val, (nxt k).val, 256 * (6 : Fin 13).val, 0] := by revert k; decide +kernel
theorem off61 (k : Fin k3_t1_loop.trips) : k3_off61 k = ![0, (cur k).val, 0, 256 * (7 : Fin 13).val] := by revert k; decide +kernel
theorem off62 (k : Fin k3_t1_loop.trips) : k3_off62 k = ![0, (0 : Fin 2).val, (nxt k).val, 256 * (7 : Fin 13).val, 0] := by revert k; decide +kernel
theorem off63 (k : Fin k3_t1_loop.trips) : k3_off63 k = ![0, (1 : Fin 2).val, (nxt k).val, 256 * (7 : Fin 13).val, 0] := by revert k; decide +kernel
theorem off64 (k : Fin k3_t1_loop.trips) : k3_off64 k = ![0, (cur k).val, 0, 256 * (8 : Fin 13).val] := by revert k; decide +kernel
theorem off65 (k : Fin k3_t1_loop.trips) : k3_off65 k = ![0, (0 : Fin 2).val, (nxt k).val, 256 * (8 : Fin 13).val, 0] := by revert k; decide +kernel
theorem off66 (k : Fin k3_t1_loop.trips) : k3_off66 k = ![0, (1 : Fin 2).val, (nxt k).val, 256 * (8 : Fin 13).val, 0] := by revert k; decide +kernel
theorem off67 (k : Fin k3_t1_loop.trips) : k3_off67 k = ![0, (cur k).val, 0, 256 * (9 : Fin 13).val] := by revert k; decide +kernel
theorem off68 (k : Fin k3_t1_loop.trips) : k3_off68 k = ![0, (0 : Fin 2).val, (nxt k).val, 256 * (9 : Fin 13).val, 0] := by revert k; decide +kernel
theorem off69 (k : Fin k3_t1_loop.trips) : k3_off69 k = ![0, (1 : Fin 2).val, (nxt k).val, 256 * (9 : Fin 13).val, 0] := by revert k; decide +kernel
theorem off70 (k : Fin k3_t1_loop.trips) : k3_off70 k = ![0, (cur k).val, 0, 256 * (10 : Fin 13).val] := by revert k; decide +kernel
theorem off71 (k : Fin k3_t1_loop.trips) : k3_off71 k = ![0, (0 : Fin 2).val, (nxt k).val, 256 * (10 : Fin 13).val, 0] := by revert k; decide +kernel
theorem off72 (k : Fin k3_t1_loop.trips) : k3_off72 k = ![0, (1 : Fin 2).val, (nxt k).val, 256 * (10 : Fin 13).val, 0] := by revert k; decide +kernel
theorem off73 (k : Fin k3_t1_loop.trips) : k3_off73 k = ![0, (cur k).val, 0, 256 * (11 : Fin 13).val] := by revert k; decide +kernel
theorem off74 (k : Fin k3_t1_loop.trips) : k3_off74 k = ![0, (0 : Fin 2).val, (nxt k).val, 256 * (11 : Fin 13).val, 0] := by revert k; decide +kernel
theorem off75 (k : Fin k3_t1_loop.trips) : k3_off75 k = ![0, (1 : Fin 2).val, (nxt k).val, 256 * (11 : Fin 13).val, 0] := by revert k; decide +kernel
theorem off76 (k : Fin k3_t1_loop.trips) : k3_off76 k = ![0, (cur k).val, 0, 256 * (12 : Fin 13).val] := by revert k; decide +kernel
theorem off77 (k : Fin k3_t1_loop.trips) : k3_off77 k = ![0, (0 : Fin 2).val, (nxt k).val, 256 * (12 : Fin 13).val, 0] := by revert k; decide +kernel
theorem off78 (k : Fin k3_t1_loop.trips) : k3_off78 k = ![0, (1 : Fin 2).val, (nxt k).val, 256 * (12 : Fin 13).val, 0] := by revert k; decide +kernel

/-- The thirteen boxes of a slot, written one after the other and read back. -/
theorem slot_read {m : Memref sig .tc .vmem S2x3328x512 .f32} (f : m.view.ty.Contents (Elt F)) (p : ℕ)
    (i0 : ∀ a, (![p, 0, 0] : Fin 3 → ℕ) a + S1x256x512.size a ≤ S2x3328x512.size a)
    (i1 : ∀ a, (![p, 256, 0] : Fin 3 → ℕ) a + S1x256x512.size a ≤ S2x3328x512.size a)
    (i2 : ∀ a, (![p, 512, 0] : Fin 3 → ℕ) a + S1x256x512.size a ≤ S2x3328x512.size a)
    (i3 : ∀ a, (![p, 768, 0] : Fin 3 → ℕ) a + S1x256x512.size a ≤ S2x3328x512.size a)
    (i4 : ∀ a, (![p, 1024, 0] : Fin 3 → ℕ) a + S1x256x512.size a ≤ S2x3328x512.size a)
    (i5 : ∀ a, (![p, 1280, 0] : Fin 3 → ℕ) a + S1x256x512.size a ≤ S2x3328x512.size a)
    (i6 : ∀ a, (![p, 1536, 0] : Fin 3 → ℕ) a + S1x256x512.size a ≤ S2x3328x512.size a)
    (i7 : ∀ a, (![p, 1792, 0] : Fin 3 → ℕ) a + S1x256x512.size a ≤ S2x3328x512.size a)
    (i8 : ∀ a, (![p, 2048, 0] : Fin 3 → ℕ) a + S1x256x512.size a ≤ S2x3328x512.size a)
    (i9 : ∀ a, (![p, 2304, 0] : Fin 3 → ℕ) a + S1x256x512.size a ≤ S2x3328x512.size a)
    (i10 : ∀ a, (![p, 2560, 0] : Fin 3 → ℕ) a + S1x256x512.size a ≤ S2x3328x512.size a)
    (i11 : ∀ a, (![p, 2816, 0] : Fin 3 → ℕ) a + S1x256x512.size a ≤ S2x3328x512.size a)
    (i12 : ∀ a, (![p, 3072, 0] : Fin 3 → ℕ) a + S1x256x512.size a ≤ S2x3328x512.size a)
    (w0 w1 w2 w3 w4 w5 w6 w7 w8 w9 w10 w11 w12 : Vec F S1x256x512 .f32) (r : Fin 13)
    (inb : ∀ a, (![p, 256 * r.val, 0] : Fin 3 → ℕ) a + S1x256x512.size a ≤ S2x3328x512.size a) :
    View.readAt (Elt F) m.view (Rect.unit (s := S2x3328x512) ![p, 256 * r.val, 0] S1x256x512.size inb).toLoadRect
      (m.view.writes (Elt F) f [⟨Rect.unit (s := S2x3328x512) ![p, 3072, 0] S1x256x512.size i12, w12⟩, ⟨Rect.unit (s := S2x3328x512) ![p, 2816, 0] S1x256x512.size i11, w11⟩, ⟨Rect.unit (s := S2x3328x512) ![p, 2560, 0] S1x256x512.size i10, w10⟩, ⟨Rect.unit (s := S2x3328x512) ![p, 2304, 0] S1x256x512.size i9, w9⟩, ⟨Rect.unit (s := S2x3328x512) ![p, 2048, 0] S1x256x512.size i8, w8⟩, ⟨Rect.unit (s := S2x3328x512) ![p, 1792, 0] S1x256x512.size i7, w7⟩, ⟨Rect.unit (s := S2x3328x512) ![p, 1536, 0] S1x256x512.size i6, w6⟩, ⟨Rect.unit (s := S2x3328x512) ![p, 1280, 0] S1x256x512.size i5, w5⟩, ⟨Rect.unit (s := S2x3328x512) ![p, 1024, 0] S1x256x512.size i4, w4⟩, ⟨Rect.unit (s := S2x3328x512) ![p, 768, 0] S1x256x512.size i3, w3⟩, ⟨Rect.unit (s := S2x3328x512) ![p, 512, 0] S1x256x512.size i2, w2⟩, ⟨Rect.unit (s := S2x3328x512) ![p, 256, 0] S1x256x512.size i1, w1⟩, ⟨Rect.unit (s := S2x3328x512) ![p, 0, 0] S1x256x512.size i0, w0⟩])
      = (![w0, w1, w2, w3, w4, w5, w6, w7, w8, w9, w10, w11, w12] : Fin 13 → Vec F S1x256x512 .f32) r := by
  fin_cases r
  · (iterate 12 rw [box_miss _ _ _ _ _ (by simp)])
    exact box_hit _ _ _ _ _ _
  · (iterate 11 rw [box_miss _ _ _ _ _ (by simp)])
    exact box_hit _ _ _ _ _ _
  · (iterate 10 rw [box_miss _ _ _ _ _ (by simp)])
    exact box_hit _ _ _ _ _ _
  · (iterate 9 rw [box_miss _ _ _ _ _ (by simp)])
    exact box_hit _ _ _ _ _ _
  · (iterate 8 rw [box_miss _ _ _ _ _ (by simp)])
    exact box_hit _ _ _ _ _ _
  · (iterate 7 rw [box_miss _ _ _ _ _ (by simp)])
    exact box_hit _ _ _ _ _ _
  · (iterate 6 rw [box_miss _ _ _ _ _ (by simp)])
    exact box_hit _ _ _ _ _ _
  · (iterate 5 rw [box_miss _ _ _ _ _ (by simp)])
    exact box_hit _ _ _ _ _ _
  · (iterate 4 rw [box_miss _ _ _ _ _ (by simp)])
    exact box_hit _ _ _ _ _ _
  · (iterate 3 rw [box_miss _ _ _ _ _ (by simp)])
    exact box_hit _ _ _ _ _ _
  · (iterate 2 rw [box_miss _ _ _ _ _ (by simp)])
    exact box_hit _ _ _ _ _ _
  · (iterate 1 rw [box_miss _ _ _ _ _ (by simp)])
    exact box_hit _ _ _ _ _ _
  · exact box_hit _ _ _ _ _ _

end Cert.KernelIdeal.Attn

end
-- ==== Proof.Reads.lean ====
/-
  The attention body, run: what it leaves in its result block.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loads
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entry a scalar load reads. -/
theorem load_scale {m : Memref sig .tc .smem S1 .f32} (h : m.IsWhole) (x : Vec F S1 .f32) (B : LoadRect S1) (y : B.shape.Idx) :
    View.readAt (Elt F) m.view B (h.unread x) y = scaleOf x :=
  (h.readAt_unread x B y).trans (congrArg x (funext fun a => Fin.ext (by
    have h1 := (B.idx y a).isLt
    have h2 : S1.size a = 1 := by fin_cases a; rfl
    show (B.idx y a).val = 0
    omega)))

/-- The queries of a component, as the body loads them. -/
theorem load_q {m : Memref sig .tc .vmem S1x2x256x512 .fp8e4m3} (h : m.IsWhole) (x : Vec F S1x2x256x512 .fp8e4m3) (c : Fin 2)
    (inb : ∀ a, (![0, c.val, 0, 0] : Fin 4 → ℕ) a + S1x1x256x512.size a ≤ S1x2x256x512.size a) :
    shapeCast S256x512 (View.readAt (Elt F) m.view (Rect.unit (s := S1x2x256x512) ![0, c.val, 0, 0] S1x1x256x512.size inb).toLoadRect (h.unread x) : Vec F S1x1x256x512 .fp8e4m3) shapeCasts_S1x1x256x512_S256x512
      = qTile x c := by
  unfold qTile
  exact congrArg (fun t => shapeCast S256x512 t shapeCasts_S1x1x256x512_S256x512) (funext fun y => h.readAt_unread x _ y)

/-- A rectangle that is the whole shape leaves an index where it is. -/
theorem emb_whole {s : Shape} (off : Fin s.rank → ℕ) (h0 : ∀ a, off a = 0) (inb : ∀ a, off a + s.size a ≤ s.size a) (z : s.Idx) :
    (Rect.unit (s := s) off s.size inb).emb z = z := by
  funext a; apply Fin.ext
  show off a + 1 * (z a).val = (z a).val
  rw [h0 a]; omega

theorem zero2 : ∀ a, (![0, 0] : Fin 2 → ℕ) a = 0 := by intro a; fin_cases a <;> rfl

/-- The entry of what was just stored whole. -/
theorem read_whole {κ : Kind} {sp : Space} {s : Shape} {e : EltTy} (v : View sig κ sp s e) (f : v.ty.Contents (Elt F)) (off : Fin s.rank → ℕ) (h0 : ∀ a, off a = 0)
    (inb : ∀ a, off a + s.size a ≤ s.size a) (w : Vec F s e) (L : List (View.Piece (Elt F) s e)) (z : s.Idx) :
    v.read (Elt F) (v.writes (Elt F) f (⟨Rect.unit (s := s) off s.size inb, w⟩ :: L)) z = w z := by
  have h := View.read_writes_cons_emb v f (Rect.unit (s := s) off s.size inb) w L z
  rw [emb_whole off h0 inb z] at h
  exact h

/-- The first rows of an accumulator just stored whole. -/
theorem tops_hit {m : Memref sig .tc .vmem S144x512 .f32} (inb : ∀ a, (![0, 0] : Fin 2 → ℕ) a + S128x512.size a ≤ S144x512.size a)
    (inb' : ∀ a, (![0, 0] : Fin 2 → ℕ) a + S144x512.size a ≤ S144x512.size a) (w : Vec F S144x512 .f32) (L : List (View.Piece (Elt F) S144x512 .f32)) :
    m.view.readCov (Val := Elt F) (⟨Rect.unit (s := S144x512) ![0, 0] S144x512.size inb', w⟩ :: L) (Rect.unit (s := S144x512) ![0, 0] S128x512.size inb).toLoadRect = tops w :=
  funext fun y => read_whole m.view _ ![0, 0] zero2 inb' w L _

/-- The row of sums of an accumulator just stored whole. -/
theorem sums_hit {m : Memref sig .tc .vmem S144x512 .f32} (inb : ∀ a, (![128, 0] : Fin 2 → ℕ) a + S1x512.size a ≤ S144x512.size a)
    (inb' : ∀ a, (![0, 0] : Fin 2 → ℕ) a + S144x512.size a ≤ S144x512.size a) (w : Vec F S144x512 .f32) (L : List (View.Piece (Elt F) S144x512 .f32)) :
    m.view.readCov (Val := Elt F) (⟨Rect.unit (s := S144x512) ![0, 0] S144x512.size inb', w⟩ :: L) (Rect.unit (s := S144x512) ![128, 0] S1x512.size inb).toLoadRect = sums w :=
  funext fun y => read_whole m.view _ ![0, 0] zero2 inb' w L _

/-- A result block just stored whole. -/
theorem out_hit {m : Memref sig .tc .vmem S512x128 .bf16} (f : m.view.ty.Contents (Elt F))
    (inb' : ∀ a, (![0, 0] : Fin 2 → ℕ) a + S512x128.size a ≤ S512x128.size a) (w : Vec F S512x128 .bf16) (L : List (View.Piece (Elt F) S512x128 .bf16)) :
    View.read (Elt F) m.view (m.view.writes (Elt F) f (⟨Rect.unit (s := S512x128) ![0, 0] S512x128.size inb', w⟩ :: L)) = w :=
  funext fun y => read_whole m.view f ![0, 0] zero2 inb' w L y

/-- The products of the weights' vectors, as the body loads them. -/
theorem load_whole1 {m : Memref sig .tc .vmem S8x128 .f32} (h : m.IsWhole) (x : Vec F S8x128 .f32) (inb : ∀ a, (![0, 0] : Fin 2 → ℕ) a + S8x128.size a ≤ S8x128.size a) :
    View.readAt (Elt F) m.view (Rect.unit (s := S8x128) ![0, 0] S8x128.size inb).toLoadRect (h.unread x) = x :=
  funext fun y => (h.readAt_unread x _ y).trans (congrArg x (emb_whole (s := S8x128) ![0, 0] zero2 inb y))

/-- The gains, as the body loads them. -/
theorem load_whole2 {m : Memref sig .tc .vmem S128x1 .f32} (h : m.IsWhole) (x : Vec F S128x1 .f32) (inb : ∀ a, (![0, 0] : Fin 2 → ℕ) a + S128x1.size a ≤ S128x1.size a) :
    View.readAt (Elt F) m.view (Rect.unit (s := S128x1) ![0, 0] S128x1.size inb).toLoadRect (h.unread x) = x :=
  funext fun y => (h.readAt_unread x _ y).trans (congrArg x (emb_whole (s := S128x1) ![0, 0] zero2 inb y))

/-- The accumulator after the last chunk, from the state before it. -/
theorem accOf_five (x0 : Vec F S1 .f32) (x3 : Vec F S1x2x256x512 .fp8e4m3) (x4 : Vec F S1x2x5x3328x256 .fp8e4m3) (x5 : Vec F S1x5x144x3328 .bf16) (c : Fin 2) :
    accOf x0 x3 x4 x5 c = rescale (scaleOf x0) (mState (qTile x3 c) x4 c 4) (maximumf (mState (qTile x3 c) x4 c 4) (chunkMax (qTile x3 c) x4 c (Fin.ofNat 5 4)))
      (aState (scaleOf x0) (Scalar.truncf .bf16 bitsLt_bf16_f32 (scaleOf x0)) (qTile x3 c) x4 x5 c 4)
      (chunkPV (Scalar.truncf .bf16 bitsLt_bf16_f32 (scaleOf x0)) (maximumf (mState (qTile x3 c) x4 c 4) (chunkMax (qTile x3 c) x4 c (Fin.ofNat 5 4))) x5 4
        fun r => scoreBox (qTile x3 c) (kTile x4 c 4 r)) := by
  unfold accOf
  rfl

/-- The result block from accumulators known. -/
theorem final_eq (x0 : Vec F S1 .f32) (x1 : Vec F S8x128 .f32) (x2 : Vec F S128x1 .f32) (x3 : Vec F S1x2x256x512 .fp8e4m3) (x4 : Vec F S1x2x5x3328x256 .fp8e4m3) (x5 : Vec F S1x5x144x3328 .bf16)
    (ta tb : Vec F S128x512 .f32) (sa sb : Vec F S1x512 .f32) (h1 : ta = tops (accOf x0 x3 x4 x5 0)) (h2 : sa = sums (accOf x0 x3 x4 x5 0)) (h3 : tb = tops (accOf x0 x3 x4 x5 1)) (h4 : sb = sums (accOf x0 x3 x4 x5 1)) :
    k3_pay1 (k3_pay377 x1 ta sa tb sb) (k3_pay378 x1 ta sa tb sb) (k3_pay379 (F := F)) x2 = attnOut x0 x1 x2 x3 x4 x5 := by
  subst h1 h2 h3 h4; rfl

end Cert.KernelIdeal.Attn

end
-- ==== Proof.Prep.lean ====
/- The three preparing bodies, run: what each leaves in its result block. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Reads
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The prepared queries of a block, from the scale and the queries. -/
def prepQ (x0 : Vec F S1 .f32) (x1 : Vec F S2048x128 .bf16) : Vec F S1x2x256x2048 .fp8e4m3 :=
  (Memref.whole cc0_stg2_0 : Memref sig .tc .vmem S1x2x256x2048 .fp8e4m3).view.read (Elt F)
    ((Memref.whole cc0_stg2_0 : Memref sig .tc .vmem S1x2x256x2048 .fp8e4m3).view.writes (Elt F) (View.junk _)
      [⟨Rect.unit (s := S1x2x256x2048) ![0, 1, 128, 0] S1x1x128x2048.size inb_S1x2x256x2048_S1x1x128x2048_0_1_128_0, k0_pay1 (k0_pay9 x1 (scaleOf x0))⟩,
        ⟨Rect.unit (s := S1x2x256x2048) ![0, 1, 0, 0] S1x1x128x2048.size inb_S1x2x256x2048_S1x1x128x2048_0_1_0_0, k0_pay10 x1 (scaleOf x0)⟩,
        ⟨Rect.unit (s := S1x2x256x2048) ![0, 0, 128, 0] S1x1x128x2048.size inb_S1x2x256x2048_S1x1x128x2048_0_0_128_0, k0_pay8 x1 (scaleOf x0)⟩,
        ⟨Rect.unit (s := S1x2x256x2048) ![0, 0, 0, 0] S1x1x128x2048.size inb_S1x2x256x2048_S1x1x128x2048_0_0_0_0, k0_pay7 x1 (scaleOf x0)⟩])

/-- The prepared keys of a block, from the scale and the keys. -/
def prepK (x0 : Vec F S1 .f32) (x1 : Vec F S3328x128 .bf16) : Vec F S1x2x3328x256 .fp8e4m3 :=
  (Memref.whole cc1_stg2_0 : Memref sig .tc .vmem S1x2x3328x256 .fp8e4m3).view.read (Elt F)
    ((Memref.whole cc1_stg2_0 : Memref sig .tc .vmem S1x2x3328x256 .fp8e4m3).view.writes (Elt F) (View.junk _)
      [⟨Rect.unit (s := S1x2x3328x256) ![0, 1, 0, 128] S1x1x3328x128.size inb_S1x2x3328x256_S1x1x3328x128_0_1_0_128, k1_pay1 (k1_pay11 x1 (scaleOf x0))⟩,
        ⟨Rect.unit (s := S1x2x3328x256) ![0, 1, 0, 0] S1x1x3328x128.size inb_S1x2x3328x256_S1x1x3328x128_0_1_0_0, k1_pay10 x1 (scaleOf x0)⟩,
        ⟨Rect.unit (s := S1x2x3328x256) ![0, 0, 0, 128] S1x1x3328x128.size inb_S1x2x3328x256_S1x1x3328x128_0_0_0_128, k1_pay9 x1 (scaleOf x0)⟩,
        ⟨Rect.unit (s := S1x2x3328x256) ![0, 0, 0, 0] S1x1x3328x128.size inb_S1x2x3328x256_S1x1x3328x128_0_0_0_0, k1_pay8 x1 (scaleOf x0)⟩])

/-- The prepared values of a block, from the values. -/
def prepV (x0 : Vec F S3328x128 .bf16) : Vec F S1x1x144x3328 .bf16 :=
  (Memref.whole cc2_stg1_0 : Memref sig .tc .vmem S1x1x144x3328 .bf16).view.read (Elt F)
    ((Memref.whole cc2_stg1_0 : Memref sig .tc .vmem S1x1x144x3328 .bf16).view.writes (Elt F) (View.junk _)
      [⟨Rect.unit (s := S1x1x144x3328) ![0, 0, 128, 0] S1x1x16x3328.size inb_S1x1x144x3328_S1x1x16x3328_0_0_128_0, k2_pay2 (F := F)⟩,
        ⟨Rect.unit (s := S1x1x144x3328) ![0, 0, 0, 0] S1x1x128x3328.size inb_S1x1x144x3328_S1x1x128x3328_0_0_0_0, k2_pay1 x0⟩])

/-- A two-axis operand loaded whole. -/
theorem load_full {κ : Kind} {sp : Space} {s : Shape} {e : EltTy} {m : Memref sig κ sp s e} (h : m.IsWhole) (x : Vec F s e) (off : Fin s.rank → ℕ) (h0 : ∀ a, off a = 0)
    (inb : ∀ a, off a + s.size a ≤ s.size a) :
    View.readAt (Elt F) m.view (Rect.unit (s := s) off s.size inb).toLoadRect (h.unread x) = x :=
  funext fun y => (h.readAt_unread x _ y).trans (congrArg x (emb_whole off h0 inb y))

set_option maxHeartbeats 1000000 in
theorem run_prepQ (c : Dev nD) (i : grid0.Coords) (arg2 : Memref sig .tc .smem S1 .f32) (harg2 : arg2.IsWhole) (arg3 : Memref sig .tc .vmem S2048x128 .bf16) (harg3 : arg3.IsWhole) (arg4 : Memref sig .tc .vmem S1x2x256x2048 .fp8e4m3) (harg4 : arg4.IsWhole) (x0 : Vec F S1 .f32) (x1 : Vec F S2048x128 .bf16) (f : Bf (F := F) c arg4) (E : Set ℕ) :
    iprop(pt c arg2 (harg2.unread x0) ∗ pt c arg3 (harg3.unread x1) ∗ pt c arg4 f)
      ⊢ wp frame (wpE (defs₀ (F := F)) Variants.none c none) E (cc0__prep_q_body i arg2 harg2 arg3 harg3 arg4 harg4) (fun _ =>
        iprop(∃ g, pt c arg2 (harg2.unread x0) ∗ pt c arg3 (harg3.unread x1) ∗ pt c arg4 g ∗ ⌜arg4.view.read (Elt F) g = prepQ x0 x1⌝)) := by
  iintro ⟨H2, H3, H4⟩
  simp only [cc0__prep_q_body_eq_skeleton]; unfold cc0__prep_q_body_skel
  simp only [k0_part1_eq_skeleton]
  sl_exec
  sl_step
  iexists _
  isplitl [H2]; · iexact H2
  isplitl [H3]; · iexact H3
  isplitl [H4]; · iexact H4
  ipureintro
  (try delta run_prepQ.sl.H4_6); (try delta run_prepQ.sl.H4_5); (try delta run_prepQ.sl.H4_4); (try delta run_prepQ.sl.H4_3); (try delta run_prepQ.sl.H4_2); (try delta run_prepQ.sl.H4_1); (try delta run_prepQ.sl.r_6); (try delta run_prepQ.sl.r_5); (try delta run_prepQ.sl.r_4); (try delta run_prepQ.sl.r_3); (try delta run_prepQ.sl.r_2); (try delta run_prepQ.sl.r_1); (try delta run_prepQ.sl.r)
  have e := fun inb => load_full harg3 x1 ![0, 0] zero2 inb
  simp only [e]
  unfold prepQ
  rw [load_scale harg2 x0]
  exact View.read_writes_of_cover _ _ _ _ _ (View.cover_of_tiledL _ ![1,1,128,2048] (by sl_kernel_rfl))

set_option maxHeartbeats 1000000 in
theorem run_prepK (c : Dev nD) (i : grid1.Coords) (arg2 : Memref sig .tc .smem S1 .f32) (harg2 : arg2.IsWhole) (arg3 : Memref sig .tc .vmem S3328x128 .bf16) (harg3 : arg3.IsWhole) (arg4 : Memref sig .tc .vmem S1x2x3328x256 .fp8e4m3) (harg4 : arg4.IsWhole) (x0 : Vec F S1 .f32) (x1 : Vec F S3328x128 .bf16) (f : Bf (F := F) c arg4) (E : Set ℕ) :
    iprop(pt c arg2 (harg2.unread x0) ∗ pt c arg3 (harg3.unread x1) ∗ pt c arg4 f)
      ⊢ wp frame (wpE (defs₀ (F := F)) Variants.none c none) E (cc1__prep_k_body i arg2 harg2 arg3 harg3 arg4 harg4) (fun _ =>
        iprop(∃ g, pt c arg2 (harg2.unread x0) ∗ pt c arg3 (harg3.unread x1) ∗ pt c arg4 g ∗ ⌜arg4.view.read (Elt F) g = prepK x0 x1⌝)) := by
  iintro ⟨H2, H3, H4⟩
  simp only [cc1__prep_k_body_eq_skeleton]; unfold cc1__prep_k_body_skel
  simp only [k1_part1_eq_skeleton]
  sl_exec
  sl_step
  iexists _
  isplitl [H2]; · iexact H2
  isplitl [H3]; · iexact H3
  isplitl [H4]; · iexact H4
  ipureintro
  (try delta run_prepK.sl.H4_6); (try delta run_prepK.sl.H4_5); (try delta run_prepK.sl.H4_4); (try delta run_prepK.sl.H4_3); (try delta run_prepK.sl.H4_2); (try delta run_prepK.sl.H4_1); (try delta run_prepK.sl.r_6); (try delta run_prepK.sl.r_5); (try delta run_prepK.sl.r_4); (try delta run_prepK.sl.r_3); (try delta run_prepK.sl.r_2); (try delta run_prepK.sl.r_1); (try delta run_prepK.sl.r)
  have e := fun inb => load_full harg3 x1 ![0, 0] zero2 inb
  simp only [e]
  unfold prepK
  rw [load_scale harg2 x0]
  exact View.read_writes_of_cover _ _ _ _ _ (View.cover_of_tiledL _ ![1,1,3328,128] (by sl_kernel_rfl))

set_option maxHeartbeats 1000000 in
theorem run_prepV (c : Dev nD) (i : grid2.Coords) (arg2 : Memref sig .tc .vmem S3328x128 .bf16) (harg2 : arg2.IsWhole) (arg3 : Memref sig .tc .vmem S1x1x144x3328 .bf16) (harg3 : arg3.IsWhole) (x0 : Vec F S3328x128 .bf16) (f : Bf (F := F) c arg3) (E : Set ℕ) :
    iprop(pt c arg2 (harg2.unread x0) ∗ pt c arg3 f)
      ⊢ wp frame (wpE (defs₀ (F := F)) Variants.none c none) E (cc2__prep_v_body i arg2 harg2 arg3 harg3) (fun _ =>
        iprop(∃ g, pt c arg2 (harg2.unread x0) ∗ pt c arg3 g ∗ ⌜arg3.view.read (Elt F) g = prepV x0⌝)) := by
  iintro ⟨H2, H3⟩
  simp only [cc2__prep_v_body_eq_skeleton]; unfold cc2__prep_v_body_skel
  sl_exec
  sl_step
  iexists _
  isplitl [H2]; · iexact H2
  isplitl [H3]; · iexact H3
  ipureintro
  (try delta run_prepV.sl.H3_6); (try delta run_prepV.sl.H3_5); (try delta run_prepV.sl.H3_4); (try delta run_prepV.sl.H3_3); (try delta run_prepV.sl.H3_2); (try delta run_prepV.sl.H3_1); (try delta run_prepV.sl.r_6); (try delta run_prepV.sl.r_5); (try delta run_prepV.sl.r_4); (try delta run_prepV.sl.r_3); (try delta run_prepV.sl.r_2); (try delta run_prepV.sl.r_1); (try delta run_prepV.sl.r)
  have e := fun inb => load_full harg2 x0 ![0, 0] zero2 inb
  simp only [e]
  unfold prepV
  exact View.read_writes_of_cover _ _ _ _ _ (View.cover_of_tiledBy _ ![1,1,16,3328] (by sl_kernel_rfl))

end Cert.KernelIdeal.Attn

end
-- ==== Proof.TripEven.lean ====
/-
  One trip of the chunk loop in its even branch: what it yields and what it leaves in the accumulators and the score scratch.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loads
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Slot `p` of a score scratch holds the scores of chunk `j`. -/
def Slot {c₀ : Dev nD} (p : Fin 2) (q : FVec F S256x512 .fp8e4m3) (x4 : Vec F S1x2x5x3328x256 .fp8e4m3) (c : Fin 2) (j : Fin 5)
    (m : Memref sig .tc .vmem S2x3328x512 .f32) (f : Bf (F := F) c₀ m) : Prop :=
  ∀ r : Fin 13, View.readAt (Elt F) m.view (Rect.unit (s := S2x3328x512) ![p.val, 256 * r.val, 0] S1x256x512.size (sInb p r)).toLoadRect f
    = scoreBox q (kTile x4 c j r)

set_option maxHeartbeats 2000000 in
theorem trip_even (c : Dev nD) (i : grid3.Coords) (arg2 : Memref sig .tc .smem S1 .f32) (harg2 : arg2.IsWhole) (arg3 : Memref sig .tc .vmem S8x128 .f32) (harg3 : arg3.IsWhole) (arg4 : Memref sig .tc .vmem S128x1 .f32) (harg4 : arg4.IsWhole) (arg5 : Memref sig .tc .vmem S1x2x256x512 .fp8e4m3) (harg5 : arg5.IsWhole) (arg6 : Memref sig .tc .vmem S1x2x5x3328x256 .fp8e4m3) (harg6 : arg6.IsWhole) (arg7 : Memref sig .tc .vmem S1x5x144x3328 .bf16) (harg7 : arg7.IsWhole) (arg8 : Memref sig .tc .vmem S512x128 .bf16) (harg8 : arg8.IsWhole) (arg9 : Memref sig .tc .vmem S144x512 .f32) (harg9 : arg9.IsWhole) (arg10 : Memref sig .tc .vmem S144x512 .f32) (harg10 : arg10.IsWhole) (arg11 : Memref sig .tc .vmem S2x3328x512 .f32) (harg11 : arg11.IsWhole) (arg12 : Memref sig .tc .vmem S2x3328x512 .f32) (harg12 : arg12.IsWhole) (v0 : Elt F .f32) (v1 : F .bf16) (v11 : FVec F S256x512 .fp8e4m3) (v13 : FVec F S256x512 .fp8e4m3) (v14 : FVec F S1x512 .f32) (v228 : FVec F S1x512 .f32) (v237 : FVec F S1x512 .f32) (v239 : FVec F S256x256 .fp8e4m3) (k : Fin k3_t1_loop.trips) (hk : k3_cond1 k = 1#1)
    (a14 a15 a16 a17 : FVec F S1x512 .f32) (x4 : Vec F S1x2x5x3328x256 .fp8e4m3) (x5 : Vec F S1x5x144x3328 .bf16)
    (f9 : Bf (F := F) c arg9) (f10 : Bf (F := F) c arg10) (f11 : Bf (F := F) c arg11) (f12 : Bf (F := F) c arg12) (A1 A2 : FVec F S144x512 .f32)
    (h9 : View.readAt (Elt F) arg9.view (Rect.unit (s := S144x512) ![0, 0] S144x512.size inb_S144x512_S144x512_0_0).toLoadRect f9 = A1)
    (h10 : View.readAt (Elt F) arg10.view (Rect.unit (s := S144x512) ![0, 0] S144x512.size inb_S144x512_S144x512_0_0).toLoadRect f10 = A2)
    (h11 : Slot (c₀ := c) 0 v11 x4 0 (cur k) arg11 f11) (h12 : Slot (c₀ := c) 0 v13 x4 1 (cur k) arg12 f12) (E : Set ℕ) :
    iprop(pt c arg6 (harg6.unread x4) ∗ pt c arg7 (harg7.unread x5) ∗ pt c arg9 f9 ∗ pt c arg10 f10 ∗ pt c arg11 f11 ∗ pt c arg12 f12)
      ⊢ wp frame (wpE (defs₀ (F := F)) Variants.none c none) E (k3_t1_body i arg2 harg2 arg3 harg3 arg4 harg4 arg5 harg5 arg6 harg6 arg7 harg7 arg8 harg8 arg9 harg9 arg10 harg10 arg11 harg11 arg12 harg12 v0 v1 v11 v13 v14 v228 v237 v239 k (a14, a15, a16, a17))
        (fun r => iprop(∃ g9 g10 g11 g12, pt c arg6 (harg6.unread x4) ∗ pt c arg7 (harg7.unread x5) ∗ pt c arg9 g9 ∗ pt c arg10 g10 ∗ pt c arg11 g11 ∗ pt c arg12 g12
          ∗ ⌜r = (chunkMax v11 x4 0 (nxt k), chunkMax v13 x4 1 (nxt k), maximumf a16 a14, maximumf a17 a15)
            ∧ View.readAt (Elt F) arg9.view (Rect.unit (s := S144x512) ![0, 0] S144x512.size inb_S144x512_S144x512_0_0).toLoadRect g9
              = rescale v0 a16 (maximumf a16 a14) A1 (chunkPV v1 (maximumf a16 a14) x5 (cur k) fun r => scoreBox v11 (kTile x4 0 (cur k) r))
            ∧ View.readAt (Elt F) arg10.view (Rect.unit (s := S144x512) ![0, 0] S144x512.size inb_S144x512_S144x512_0_0).toLoadRect g10
              = rescale v0 a17 (maximumf a17 a15) A2 (chunkPV v1 (maximumf a17 a15) x5 (cur k) fun r => scoreBox v13 (kTile x4 1 (cur k) r))
            ∧ Slot (c₀ := c) 1 v11 x4 0 (nxt k) arg11 g11 ∧ Slot (c₀ := c) 1 v13 x4 1 (nxt k) arg12 g12⌝)) := by
  iintro ⟨H6, H7, H9, H10, H11, H12⟩
  unfold k3_t1_body
  sl_exec_parts
  sl_step
  iexists _, _, _, _
  isplitl [H6]; · iexact H6
  isplitl [H7]; · iexact H7
  isplitl [H9]; · iexact H9
  isplitl [H10]; · iexact H10
  isplitl [H11]; · iexact H11
  isplitl [H12]; · iexact H12
  ipureintro
  have e11_0 : View.readAt (Elt F) arg11.view (Rect.unit (s := S2x3328x512) ![0, 0, 0] S1x256x512.size inb_S2x3328x512_S1x256x512_0_0_0).toLoadRect f11 = scoreBox v11 (kTile x4 0 (cur k) 0) := h11 0
  have e12_0 : View.readAt (Elt F) arg12.view (Rect.unit (s := S2x3328x512) ![0, 0, 0] S1x256x512.size inb_S2x3328x512_S1x256x512_0_0_0).toLoadRect f12 = scoreBox v13 (kTile x4 1 (cur k) 0) := h12 0
  have e11_1 : View.readAt (Elt F) arg11.view (Rect.unit (s := S2x3328x512) ![0, 256, 0] S1x256x512.size inb_S2x3328x512_S1x256x512_0_256_0).toLoadRect f11 = scoreBox v11 (kTile x4 0 (cur k) 1) := h11 1
  have e12_1 : View.readAt (Elt F) arg12.view (Rect.unit (s := S2x3328x512) ![0, 256, 0] S1x256x512.size inb_S2x3328x512_S1x256x512_0_256_0).toLoadRect f12 = scoreBox v13 (kTile x4 1 (cur k) 1) := h12 1
  have e11_2 : View.readAt (Elt F) arg11.view (Rect.unit (s := S2x3328x512) ![0, 512, 0] S1x256x512.size inb_S2x3328x512_S1x256x512_0_512_0).toLoadRect f11 = scoreBox v11 (kTile x4 0 (cur k) 2) := h11 2
  have e12_2 : View.readAt (Elt F) arg12.view (Rect.unit (s := S2x3328x512) ![0, 512, 0] S1x256x512.size inb_S2x3328x512_S1x256x512_0_512_0).toLoadRect f12 = scoreBox v13 (kTile x4 1 (cur k) 2) := h12 2
  have e11_3 : View.readAt (Elt F) arg11.view (Rect.unit (s := S2x3328x512) ![0, 768, 0] S1x256x512.size inb_S2x3328x512_S1x256x512_0_768_0).toLoadRect f11 = scoreBox v11 (kTile x4 0 (cur k) 3) := h11 3
  have e12_3 : View.readAt (Elt F) arg12.view (Rect.unit (s := S2x3328x512) ![0, 768, 0] S1x256x512.size inb_S2x3328x512_S1x256x512_0_768_0).toLoadRect f12 = scoreBox v13 (kTile x4 1 (cur k) 3) := h12 3
  have e11_4 : View.readAt (Elt F) arg11.view (Rect.unit (s := S2x3328x512) ![0, 1024, 0] S1x256x512.size inb_S2x3328x512_S1x256x512_0_1024_0).toLoadRect f11 = scoreBox v11 (kTile x4 0 (cur k) 4) := h11 4
  have e12_4 : View.readAt (Elt F) arg12.view (Rect.unit (s := S2x3328x512) ![0, 1024, 0] S1x256x512.size inb_S2x3328x512_S1x256x512_0_1024_0).toLoadRect f12 = scoreBox v13 (kTile x4 1 (cur k) 4) := h12 4
  have e11_5 : View.readAt (Elt F) arg11.view (Rect.unit (s := S2x3328x512) ![0, 1280, 0] S1x256x512.size inb_S2x3328x512_S1x256x512_0_1280_0).toLoadRect f11 = scoreBox v11 (kTile x4 0 (cur k) 5) := h11 5
  have e12_5 : View.readAt (Elt F) arg12.view (Rect.unit (s := S2x3328x512) ![0, 1280, 0] S1x256x512.size inb_S2x3328x512_S1x256x512_0_1280_0).toLoadRect f12 = scoreBox v13 (kTile x4 1 (cur k) 5) := h12 5
  have e11_6 : View.readAt (Elt F) arg11.view (Rect.unit (s := S2x3328x512) ![0, 1536, 0] S1x256x512.size inb_S2x3328x512_S1x256x512_0_1536_0).toLoadRect f11 = scoreBox v11 (kTile x4 0 (cur k) 6) := h11 6
  have e12_6 : View.readAt (Elt F) arg12.view (Rect.unit (s := S2x3328x512) ![0, 1536, 0] S1x256x512.size inb_S2x3328x512_S1x256x512_0_1536_0).toLoadRect f12 = scoreBox v13 (kTile x4 1 (cur k) 6) := h12 6
  have e11_7 : View.readAt (Elt F) arg11.view (Rect.unit (s := S2x3328x512) ![0, 1792, 0] S1x256x512.size inb_S2x3328x512_S1x256x512_0_1792_0).toLoadRect f11 = scoreBox v11 (kTile x4 0 (cur k) 7) := h11 7
  have e12_7 : View.readAt (Elt F) arg12.view (Rect.unit (s := S2x3328x512) ![0, 1792, 0] S1x256x512.size inb_S2x3328x512_S1x256x512_0_1792_0).toLoadRect f12 = scoreBox v13 (kTile x4 1 (cur k) 7) := h12 7
  have e11_8 : View.readAt (Elt F) arg11.view (Rect.unit (s := S2x3328x512) ![0, 2048, 0] S1x256x512.size inb_S2x3328x512_S1x256x512_0_2048_0).toLoadRect f11 = scoreBox v11 (kTile x4 0 (cur k) 8) := h11 8
  have e12_8 : View.readAt (Elt F) arg12.view (Rect.unit (s := S2x3328x512) ![0, 2048, 0] S1x256x512.size inb_S2x3328x512_S1x256x512_0_2048_0).toLoadRect f12 = scoreBox v13 (kTile x4 1 (cur k) 8) := h12 8
  have e11_9 : View.readAt (Elt F) arg11.view (Rect.unit (s := S2x3328x512) ![0, 2304, 0] S1x256x512.size inb_S2x3328x512_S1x256x512_0_2304_0).toLoadRect f11 = scoreBox v11 (kTile x4 0 (cur k) 9) := h11 9
  have e12_9 : View.readAt (Elt F) arg12.view (Rect.unit (s := S2x3328x512) ![0, 2304, 0] S1x256x512.size inb_S2x3328x512_S1x256x512_0_2304_0).toLoadRect f12 = scoreBox v13 (kTile x4 1 (cur k) 9) := h12 9
  have e11_10 : View.readAt (Elt F) arg11.view (Rect.unit (s := S2x3328x512) ![0, 2560, 0] S1x256x512.size inb_S2x3328x512_S1x256x512_0_2560_0).toLoadRect f11 = scoreBox v11 (kTile x4 0 (cur k) 10) := h11 10
  have e12_10 : View.readAt (Elt F) arg12.view (Rect.unit (s := S2x3328x512) ![0, 2560, 0] S1x256x512.size inb_S2x3328x512_S1x256x512_0_2560_0).toLoadRect f12 = scoreBox v13 (kTile x4 1 (cur k) 10) := h12 10
  have e11_11 : View.readAt (Elt F) arg11.view (Rect.unit (s := S2x3328x512) ![0, 2816, 0] S1x256x512.size inb_S2x3328x512_S1x256x512_0_2816_0).toLoadRect f11 = scoreBox v11 (kTile x4 0 (cur k) 11) := h11 11
  have e12_11 : View.readAt (Elt F) arg12.view (Rect.unit (s := S2x3328x512) ![0, 2816, 0] S1x256x512.size inb_S2x3328x512_S1x256x512_0_2816_0).toLoadRect f12 = scoreBox v13 (kTile x4 1 (cur k) 11) := h12 11
  have e11_12 : View.readAt (Elt F) arg11.view (Rect.unit (s := S2x3328x512) ![0, 3072, 0] S1x256x512.size inb_S2x3328x512_S1x256x512_0_3072_0).toLoadRect f11 = scoreBox v11 (kTile x4 0 (cur k) 12) := h11 12
  have e12_12 : View.readAt (Elt F) arg12.view (Rect.unit (s := S2x3328x512) ![0, 3072, 0] S1x256x512.size inb_S2x3328x512_S1x256x512_0_3072_0).toLoadRect f12 = scoreBox v13 (kTile x4 1 (cur k) 12) := h12 12
  have lv0 := fun inb => load_v harg7 x5 (cur k) 0 (off1 k) inb
  have lk0_0 := fun inb => load_k harg6 x4 0 (nxt k) 0 (off2 k) inb
  have lk1_0 := fun inb => load_k harg6 x4 1 (nxt k) 0 (off3 k) inb
  have lv1 := fun inb => load_v harg7 x5 (cur k) 1 (off4 k) inb
  have lk0_1 := fun inb => load_k harg6 x4 0 (nxt k) 1 (off5 k) inb
  have lk1_1 := fun inb => load_k harg6 x4 1 (nxt k) 1 (off6 k) inb
  have lv2 := fun inb => load_v harg7 x5 (cur k) 2 (off7 k) inb
  have lk0_2 := fun inb => load_k harg6 x4 0 (nxt k) 2 (off8 k) inb
  have lk1_2 := fun inb => load_k harg6 x4 1 (nxt k) 2 (off9 k) inb
  have lv3 := fun inb => load_v harg7 x5 (cur k) 3 (off10 k) inb
  have lk0_3 := fun inb => load_k harg6 x4 0 (nxt k) 3 (off11 k) inb
  have lk1_3 := fun inb => load_k harg6 x4 1 (nxt k) 3 (off12 k) inb
  have lv4 := fun inb => load_v harg7 x5 (cur k) 4 (off13 k) inb
  have lk0_4 := fun inb => load_k harg6 x4 0 (nxt k) 4 (off14 k) inb
  have lk1_4 := fun inb => load_k harg6 x4 1 (nxt k) 4 (off15 k) inb
  have lv5 := fun inb => load_v harg7 x5 (cur k) 5 (off16 k) inb
  have lk0_5 := fun inb => load_k harg6 x4 0 (nxt k) 5 (off17 k) inb
  have lk1_5 := fun inb => load_k harg6 x4 1 (nxt k) 5 (off18 k) inb
  have lv6 := fun inb => load_v harg7 x5 (cur k) 6 (off19 k) inb
  have lk0_6 := fun inb => load_k harg6 x4 0 (nxt k) 6 (off20 k) inb
  have lk1_6 := fun inb => load_k harg6 x4 1 (nxt k) 6 (off21 k) inb
  have lv7 := fun inb => load_v harg7 x5 (cur k) 7 (off22 k) inb
  have lk0_7 := fun inb => load_k harg6 x4 0 (nxt k) 7 (off23 k) inb
  have lk1_7 := fun inb => load_k harg6 x4 1 (nxt k) 7 (off24 k) inb
  have lv8 := fun inb => load_v harg7 x5 (cur k) 8 (off25 k) inb
  have lk0_8 := fun inb => load_k harg6 x4 0 (nxt k) 8 (off26 k) inb
  have lk1_8 := fun inb => load_k harg6 x4 1 (nxt k) 8 (off27 k) inb
  have lv9 := fun inb => load_v harg7 x5 (cur k) 9 (off28 k) inb
  have lk0_9 := fun inb => load_k harg6 x4 0 (nxt k) 9 (off29 k) inb
  have lk1_9 := fun inb => load_k harg6 x4 1 (nxt k) 9 (off30 k) inb
  have lv10 := fun inb => load_v harg7 x5 (cur k) 10 (off31 k) inb
  have lk0_10 := fun inb => load_k harg6 x4 0 (nxt k) 10 (off32 k) inb
  have lk1_10 := fun inb => load_k harg6 x4 1 (nxt k) 10 (off33 k) inb
  have lv11 := fun inb => load_v harg7 x5 (cur k) 11 (off34 k) inb
  have lk0_11 := fun inb => load_k harg6 x4 0 (nxt k) 11 (off35 k) inb
  have lk1_11 := fun inb => load_k harg6 x4 1 (nxt k) 11 (off36 k) inb
  have lv12 := fun inb => load_v harg7 x5 (cur k) 12 (off37 k) inb
  have lk0_12 := fun inb => load_k harg6 x4 0 (nxt k) 12 (off38 k) inb
  have lk1_12 := fun inb => load_k harg6 x4 1 (nxt k) 12 (off39 k) inb
  refine ⟨?_, ?_, ?_, ?_, ?_⟩
  · (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    rw [whole_hit]
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    simp only [h9, lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    rw [whole_hit]
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    simp only [h10, lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · intro r
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    refine (slot_read (m := arg11) _ 1 _ _ _ _ _ _ _ _ _ _ _ _ _ _ _ _ _ _ _ _ _ _ _ _ _ _ r _).trans ?_
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    try simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    fin_cases r <;> rfl
  · intro r
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    refine (slot_read (m := arg12) _ 1 _ _ _ _ _ _ _ _ _ _ _ _ _ _ _ _ _ _ _ _ _ _ _ _ _ _ r _).trans ?_
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    (try delta trip_even.sl.H11_13); (try delta trip_even.sl.H11_12); (try delta trip_even.sl.H12_12); (try delta trip_even.sl.H11_11); (try delta trip_even.sl.H12_11); (try delta trip_even.sl.H11_10); (try delta trip_even.sl.H12_10); (try delta trip_even.sl.H11_9); (try delta trip_even.sl.H12_9); (try delta trip_even.sl.H11_8); (try delta trip_even.sl.H12_8); (try delta trip_even.sl.H11_7); (try delta trip_even.sl.H12_7); (try delta trip_even.sl.H11_6); (try delta trip_even.sl.H12_6); (try delta trip_even.sl.H11_5); (try delta trip_even.sl.H12_5); (try delta trip_even.sl.H11_4); (try delta trip_even.sl.H12_4); (try delta trip_even.sl.H11_3); (try delta trip_even.sl.H12_3); (try delta trip_even.sl.H11_2); (try delta trip_even.sl.H12_2); (try delta trip_even.sl.H11_1); (try delta trip_even.sl.H12_1); (try delta trip_even.sl.r_75); (try delta trip_even.sl.r_74); (try delta trip_even.sl.r_73); (try delta trip_even.sl.r_72); (try delta trip_even.sl.r_71); (try delta trip_even.sl.r_70); (try delta trip_even.sl.r_69); (try delta trip_even.sl.r_68); (try delta trip_even.sl.r_67); (try delta trip_even.sl.r_66); (try delta trip_even.sl.r_65); (try delta trip_even.sl.r_64); (try delta trip_even.sl.r_63); (try delta trip_even.sl.r_62); (try delta trip_even.sl.r_61); (try delta trip_even.sl.r_60); (try delta trip_even.sl.r_59); (try delta trip_even.sl.r_58); (try delta trip_even.sl.r_57); (try delta trip_even.sl.r_56); (try delta trip_even.sl.r_55); (try delta trip_even.sl.r_54); (try delta trip_even.sl.r_53); (try delta trip_even.sl.r_52); (try delta trip_even.sl.r_51); (try delta trip_even.sl.r_50); (try delta trip_even.sl.r_49); (try delta trip_even.sl.r_48); (try delta trip_even.sl.r_47); (try delta trip_even.sl.r_46); (try delta trip_even.sl.r_45); (try delta trip_even.sl.r_44); (try delta trip_even.sl.r_43); (try delta trip_even.sl.r_42); (try delta trip_even.sl.r_41); (try delta trip_even.sl.r_40); (try delta trip_even.sl.r_39); (try delta trip_even.sl.r_38); (try delta trip_even.sl.r_37); (try delta trip_even.sl.r_36); (try delta trip_even.sl.r_35); (try delta trip_even.sl.r_34); (try delta trip_even.sl.r_33); (try delta trip_even.sl.r_32); (try delta trip_even.sl.r_31); (try delta trip_even.sl.r_30); (try delta trip_even.sl.r_29); (try delta trip_even.sl.r_28); (try delta trip_even.sl.r_27); (try delta trip_even.sl.r_26); (try delta trip_even.sl.r_25); (try delta trip_even.sl.r_24); (try delta trip_even.sl.r_23); (try delta trip_even.sl.r_22); (try delta trip_even.sl.r_21); (try delta trip_even.sl.r_20); (try delta trip_even.sl.r_19); (try delta trip_even.sl.r_18); (try delta trip_even.sl.r_17); (try delta trip_even.sl.r_16); (try delta trip_even.sl.r_15); (try delta trip_even.sl.r_14); (try delta trip_even.sl.r_13); (try delta trip_even.sl.r_12); (try delta trip_even.sl.r_11); (try delta trip_even.sl.r_10); (try delta trip_even.sl.r_9); (try delta trip_even.sl.r_8); (try delta trip_even.sl.r_7); (try delta trip_even.sl.r_6); (try delta trip_even.sl.r_5); (try delta trip_even.sl.r_4); (try delta trip_even.sl.r_3); (try delta trip_even.sl.r_2); (try delta trip_even.sl.r_1); (try delta trip_even.sl.r); (try delta trip_even.sl.v1011); (try delta trip_even.sl.v1035); (try delta trip_even.sl.v1056); (try delta trip_even.sl.v1080); (try delta trip_even.sl.v1101); (try delta trip_even.sl.v1125); (try delta trip_even.sl.v1146); (try delta trip_even.sl.v1170); (try delta trip_even.sl.v1191); (try delta trip_even.sl.v633); (try delta trip_even.sl.v652); (try delta trip_even.sl.v675); (try delta trip_even.sl.v696); (try delta trip_even.sl.v720); (try delta trip_even.sl.v741); (try delta trip_even.sl.v765); (try delta trip_even.sl.v786); (try delta trip_even.sl.v810); (try delta trip_even.sl.v831); (try delta trip_even.sl.v855); (try delta trip_even.sl.v876); (try delta trip_even.sl.v900); (try delta trip_even.sl.v921); (try delta trip_even.sl.v945); (try delta trip_even.sl.v966); (try delta trip_even.sl.v990)
    try simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    fin_cases r <;> rfl

end Cert.KernelIdeal.Attn

end
-- ==== Proof.TripOdd.lean ====
/-
  One trip of the chunk loop in its odd branch: what it yields and what it leaves in the accumulators and the score scratch.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TripEven
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem trip_odd (c : Dev nD) (i : grid3.Coords) (arg2 : Memref sig .tc .smem S1 .f32) (harg2 : arg2.IsWhole) (arg3 : Memref sig .tc .vmem S8x128 .f32) (harg3 : arg3.IsWhole) (arg4 : Memref sig .tc .vmem S128x1 .f32) (harg4 : arg4.IsWhole) (arg5 : Memref sig .tc .vmem S1x2x256x512 .fp8e4m3) (harg5 : arg5.IsWhole) (arg6 : Memref sig .tc .vmem S1x2x5x3328x256 .fp8e4m3) (harg6 : arg6.IsWhole) (arg7 : Memref sig .tc .vmem S1x5x144x3328 .bf16) (harg7 : arg7.IsWhole) (arg8 : Memref sig .tc .vmem S512x128 .bf16) (harg8 : arg8.IsWhole) (arg9 : Memref sig .tc .vmem S144x512 .f32) (harg9 : arg9.IsWhole) (arg10 : Memref sig .tc .vmem S144x512 .f32) (harg10 : arg10.IsWhole) (arg11 : Memref sig .tc .vmem S2x3328x512 .f32) (harg11 : arg11.IsWhole) (arg12 : Memref sig .tc .vmem S2x3328x512 .f32) (harg12 : arg12.IsWhole) (v0 : Elt F .f32) (v1 : F .bf16) (v11 : FVec F S256x512 .fp8e4m3) (v13 : FVec F S256x512 .fp8e4m3) (v14 : FVec F S1x512 .f32) (v228 : FVec F S1x512 .f32) (v237 : FVec F S1x512 .f32) (v239 : FVec F S256x256 .fp8e4m3) (k : Fin k3_t1_loop.trips) (hk : ¬ k3_cond1 k = 1#1)
    (a14 a15 a16 a17 : FVec F S1x512 .f32) (x4 : Vec F S1x2x5x3328x256 .fp8e4m3) (x5 : Vec F S1x5x144x3328 .bf16)
    (f9 : Bf (F := F) c arg9) (f10 : Bf (F := F) c arg10) (f11 : Bf (F := F) c arg11) (f12 : Bf (F := F) c arg12) (A1 A2 : FVec F S144x512 .f32)
    (h9 : View.readAt (Elt F) arg9.view (Rect.unit (s := S144x512) ![0, 0] S144x512.size inb_S144x512_S144x512_0_0).toLoadRect f9 = A1)
    (h10 : View.readAt (Elt F) arg10.view (Rect.unit (s := S144x512) ![0, 0] S144x512.size inb_S144x512_S144x512_0_0).toLoadRect f10 = A2)
    (h11 : Slot (c₀ := c) 1 v11 x4 0 (cur k) arg11 f11) (h12 : Slot (c₀ := c) 1 v13 x4 1 (cur k) arg12 f12) (E : Set ℕ) :
    iprop(pt c arg6 (harg6.unread x4) ∗ pt c arg7 (harg7.unread x5) ∗ pt c arg9 f9 ∗ pt c arg10 f10 ∗ pt c arg11 f11 ∗ pt c arg12 f12)
      ⊢ wp frame (wpE (defs₀ (F := F)) Variants.none c none) E (k3_t1_body i arg2 harg2 arg3 harg3 arg4 harg4 arg5 harg5 arg6 harg6 arg7 harg7 arg8 harg8 arg9 harg9 arg10 harg10 arg11 harg11 arg12 harg12 v0 v1 v11 v13 v14 v228 v237 v239 k (a14, a15, a16, a17))
        (fun r => iprop(∃ g9 g10 g11 g12, pt c arg6 (harg6.unread x4) ∗ pt c arg7 (harg7.unread x5) ∗ pt c arg9 g9 ∗ pt c arg10 g10 ∗ pt c arg11 g11 ∗ pt c arg12 g12
          ∗ ⌜r = (chunkMax v11 x4 0 (nxt k), chunkMax v13 x4 1 (nxt k), maximumf a16 a14, maximumf a17 a15)
            ∧ View.readAt (Elt F) arg9.view (Rect.unit (s := S144x512) ![0, 0] S144x512.size inb_S144x512_S144x512_0_0).toLoadRect g9
              = rescale v0 a16 (maximumf a16 a14) A1 (chunkPV v1 (maximumf a16 a14) x5 (cur k) fun r => scoreBox v11 (kTile x4 0 (cur k) r))
            ∧ View.readAt (Elt F) arg10.view (Rect.unit (s := S144x512) ![0, 0] S144x512.size inb_S144x512_S144x512_0_0).toLoadRect g10
              = rescale v0 a17 (maximumf a17 a15) A2 (chunkPV v1 (maximumf a17 a15) x5 (cur k) fun r => scoreBox v13 (kTile x4 1 (cur k) r))
            ∧ Slot (c₀ := c) 0 v11 x4 0 (nxt k) arg11 g11 ∧ Slot (c₀ := c) 0 v13 x4 1 (nxt k) arg12 g12⌝)) := by
  iintro ⟨H6, H7, H9, H10, H11, H12⟩
  unfold k3_t1_body
  sl_exec_parts
  sl_step
  iexists _, _, _, _
  isplitl [H6]; · iexact H6
  isplitl [H7]; · iexact H7
  isplitl [H9]; · iexact H9
  isplitl [H10]; · iexact H10
  isplitl [H11]; · iexact H11
  isplitl [H12]; · iexact H12
  ipureintro
  have e11_0 : View.readAt (Elt F) arg11.view (Rect.unit (s := S2x3328x512) ![1, 0, 0] S1x256x512.size inb_S2x3328x512_S1x256x512_1_0_0).toLoadRect f11 = scoreBox v11 (kTile x4 0 (cur k) 0) := h11 0
  have e12_0 : View.readAt (Elt F) arg12.view (Rect.unit (s := S2x3328x512) ![1, 0, 0] S1x256x512.size inb_S2x3328x512_S1x256x512_1_0_0).toLoadRect f12 = scoreBox v13 (kTile x4 1 (cur k) 0) := h12 0
  have e11_1 : View.readAt (Elt F) arg11.view (Rect.unit (s := S2x3328x512) ![1, 256, 0] S1x256x512.size inb_S2x3328x512_S1x256x512_1_256_0).toLoadRect f11 = scoreBox v11 (kTile x4 0 (cur k) 1) := h11 1
  have e12_1 : View.readAt (Elt F) arg12.view (Rect.unit (s := S2x3328x512) ![1, 256, 0] S1x256x512.size inb_S2x3328x512_S1x256x512_1_256_0).toLoadRect f12 = scoreBox v13 (kTile x4 1 (cur k) 1) := h12 1
  have e11_2 : View.readAt (Elt F) arg11.view (Rect.unit (s := S2x3328x512) ![1, 512, 0] S1x256x512.size inb_S2x3328x512_S1x256x512_1_512_0).toLoadRect f11 = scoreBox v11 (kTile x4 0 (cur k) 2) := h11 2
  have e12_2 : View.readAt (Elt F) arg12.view (Rect.unit (s := S2x3328x512) ![1, 512, 0] S1x256x512.size inb_S2x3328x512_S1x256x512_1_512_0).toLoadRect f12 = scoreBox v13 (kTile x4 1 (cur k) 2) := h12 2
  have e11_3 : View.readAt (Elt F) arg11.view (Rect.unit (s := S2x3328x512) ![1, 768, 0] S1x256x512.size inb_S2x3328x512_S1x256x512_1_768_0).toLoadRect f11 = scoreBox v11 (kTile x4 0 (cur k) 3) := h11 3
  have e12_3 : View.readAt (Elt F) arg12.view (Rect.unit (s := S2x3328x512) ![1, 768, 0] S1x256x512.size inb_S2x3328x512_S1x256x512_1_768_0).toLoadRect f12 = scoreBox v13 (kTile x4 1 (cur k) 3) := h12 3
  have e11_4 : View.readAt (Elt F) arg11.view (Rect.unit (s := S2x3328x512) ![1, 1024, 0] S1x256x512.size inb_S2x3328x512_S1x256x512_1_1024_0).toLoadRect f11 = scoreBox v11 (kTile x4 0 (cur k) 4) := h11 4
  have e12_4 : View.readAt (Elt F) arg12.view (Rect.unit (s := S2x3328x512) ![1, 1024, 0] S1x256x512.size inb_S2x3328x512_S1x256x512_1_1024_0).toLoadRect f12 = scoreBox v13 (kTile x4 1 (cur k) 4) := h12 4
  have e11_5 : View.readAt (Elt F) arg11.view (Rect.unit (s := S2x3328x512) ![1, 1280, 0] S1x256x512.size inb_S2x3328x512_S1x256x512_1_1280_0).toLoadRect f11 = scoreBox v11 (kTile x4 0 (cur k) 5) := h11 5
  have e12_5 : View.readAt (Elt F) arg12.view (Rect.unit (s := S2x3328x512) ![1, 1280, 0] S1x256x512.size inb_S2x3328x512_S1x256x512_1_1280_0).toLoadRect f12 = scoreBox v13 (kTile x4 1 (cur k) 5) := h12 5
  have e11_6 : View.readAt (Elt F) arg11.view (Rect.unit (s := S2x3328x512) ![1, 1536, 0] S1x256x512.size inb_S2x3328x512_S1x256x512_1_1536_0).toLoadRect f11 = scoreBox v11 (kTile x4 0 (cur k) 6) := h11 6
  have e12_6 : View.readAt (Elt F) arg12.view (Rect.unit (s := S2x3328x512) ![1, 1536, 0] S1x256x512.size inb_S2x3328x512_S1x256x512_1_1536_0).toLoadRect f12 = scoreBox v13 (kTile x4 1 (cur k) 6) := h12 6
  have e11_7 : View.readAt (Elt F) arg11.view (Rect.unit (s := S2x3328x512) ![1, 1792, 0] S1x256x512.size inb_S2x3328x512_S1x256x512_1_1792_0).toLoadRect f11 = scoreBox v11 (kTile x4 0 (cur k) 7) := h11 7
  have e12_7 : View.readAt (Elt F) arg12.view (Rect.unit (s := S2x3328x512) ![1, 1792, 0] S1x256x512.size inb_S2x3328x512_S1x256x512_1_1792_0).toLoadRect f12 = scoreBox v13 (kTile x4 1 (cur k) 7) := h12 7
  have e11_8 : View.readAt (Elt F) arg11.view (Rect.unit (s := S2x3328x512) ![1, 2048, 0] S1x256x512.size inb_S2x3328x512_S1x256x512_1_2048_0).toLoadRect f11 = scoreBox v11 (kTile x4 0 (cur k) 8) := h11 8
  have e12_8 : View.readAt (Elt F) arg12.view (Rect.unit (s := S2x3328x512) ![1, 2048, 0] S1x256x512.size inb_S2x3328x512_S1x256x512_1_2048_0).toLoadRect f12 = scoreBox v13 (kTile x4 1 (cur k) 8) := h12 8
  have e11_9 : View.readAt (Elt F) arg11.view (Rect.unit (s := S2x3328x512) ![1, 2304, 0] S1x256x512.size inb_S2x3328x512_S1x256x512_1_2304_0).toLoadRect f11 = scoreBox v11 (kTile x4 0 (cur k) 9) := h11 9
  have e12_9 : View.readAt (Elt F) arg12.view (Rect.unit (s := S2x3328x512) ![1, 2304, 0] S1x256x512.size inb_S2x3328x512_S1x256x512_1_2304_0).toLoadRect f12 = scoreBox v13 (kTile x4 1 (cur k) 9) := h12 9
  have e11_10 : View.readAt (Elt F) arg11.view (Rect.unit (s := S2x3328x512) ![1, 2560, 0] S1x256x512.size inb_S2x3328x512_S1x256x512_1_2560_0).toLoadRect f11 = scoreBox v11 (kTile x4 0 (cur k) 10) := h11 10
  have e12_10 : View.readAt (Elt F) arg12.view (Rect.unit (s := S2x3328x512) ![1, 2560, 0] S1x256x512.size inb_S2x3328x512_S1x256x512_1_2560_0).toLoadRect f12 = scoreBox v13 (kTile x4 1 (cur k) 10) := h12 10
  have e11_11 : View.readAt (Elt F) arg11.view (Rect.unit (s := S2x3328x512) ![1, 2816, 0] S1x256x512.size inb_S2x3328x512_S1x256x512_1_2816_0).toLoadRect f11 = scoreBox v11 (kTile x4 0 (cur k) 11) := h11 11
  have e12_11 : View.readAt (Elt F) arg12.view (Rect.unit (s := S2x3328x512) ![1, 2816, 0] S1x256x512.size inb_S2x3328x512_S1x256x512_1_2816_0).toLoadRect f12 = scoreBox v13 (kTile x4 1 (cur k) 11) := h12 11
  have e11_12 : View.readAt (Elt F) arg11.view (Rect.unit (s := S2x3328x512) ![1, 3072, 0] S1x256x512.size inb_S2x3328x512_S1x256x512_1_3072_0).toLoadRect f11 = scoreBox v11 (kTile x4 0 (cur k) 12) := h11 12
  have e12_12 : View.readAt (Elt F) arg12.view (Rect.unit (s := S2x3328x512) ![1, 3072, 0] S1x256x512.size inb_S2x3328x512_S1x256x512_1_3072_0).toLoadRect f12 = scoreBox v13 (kTile x4 1 (cur k) 12) := h12 12
  have lv0 := fun inb => load_v harg7 x5 (cur k) 0 (off40 k) inb
  have lk0_0 := fun inb => load_k harg6 x4 0 (nxt k) 0 (off41 k) inb
  have lk1_0 := fun inb => load_k harg6 x4 1 (nxt k) 0 (off42 k) inb
  have lv1 := fun inb => load_v harg7 x5 (cur k) 1 (off43 k) inb
  have lk0_1 := fun inb => load_k harg6 x4 0 (nxt k) 1 (off44 k) inb
  have lk1_1 := fun inb => load_k harg6 x4 1 (nxt k) 1 (off45 k) inb
  have lv2 := fun inb => load_v harg7 x5 (cur k) 2 (off46 k) inb
  have lk0_2 := fun inb => load_k harg6 x4 0 (nxt k) 2 (off47 k) inb
  have lk1_2 := fun inb => load_k harg6 x4 1 (nxt k) 2 (off48 k) inb
  have lv3 := fun inb => load_v harg7 x5 (cur k) 3 (off49 k) inb
  have lk0_3 := fun inb => load_k harg6 x4 0 (nxt k) 3 (off50 k) inb
  have lk1_3 := fun inb => load_k harg6 x4 1 (nxt k) 3 (off51 k) inb
  have lv4 := fun inb => load_v harg7 x5 (cur k) 4 (off52 k) inb
  have lk0_4 := fun inb => load_k harg6 x4 0 (nxt k) 4 (off53 k) inb
  have lk1_4 := fun inb => load_k harg6 x4 1 (nxt k) 4 (off54 k) inb
  have lv5 := fun inb => load_v harg7 x5 (cur k) 5 (off55 k) inb
  have lk0_5 := fun inb => load_k harg6 x4 0 (nxt k) 5 (off56 k) inb
  have lk1_5 := fun inb => load_k harg6 x4 1 (nxt k) 5 (off57 k) inb
  have lv6 := fun inb => load_v harg7 x5 (cur k) 6 (off58 k) inb
  have lk0_6 := fun inb => load_k harg6 x4 0 (nxt k) 6 (off59 k) inb
  have lk1_6 := fun inb => load_k harg6 x4 1 (nxt k) 6 (off60 k) inb
  have lv7 := fun inb => load_v harg7 x5 (cur k) 7 (off61 k) inb
  have lk0_7 := fun inb => load_k harg6 x4 0 (nxt k) 7 (off62 k) inb
  have lk1_7 := fun inb => load_k harg6 x4 1 (nxt k) 7 (off63 k) inb
  have lv8 := fun inb => load_v harg7 x5 (cur k) 8 (off64 k) inb
  have lk0_8 := fun inb => load_k harg6 x4 0 (nxt k) 8 (off65 k) inb
  have lk1_8 := fun inb => load_k harg6 x4 1 (nxt k) 8 (off66 k) inb
  have lv9 := fun inb => load_v harg7 x5 (cur k) 9 (off67 k) inb
  have lk0_9 := fun inb => load_k harg6 x4 0 (nxt k) 9 (off68 k) inb
  have lk1_9 := fun inb => load_k harg6 x4 1 (nxt k) 9 (off69 k) inb
  have lv10 := fun inb => load_v harg7 x5 (cur k) 10 (off70 k) inb
  have lk0_10 := fun inb => load_k harg6 x4 0 (nxt k) 10 (off71 k) inb
  have lk1_10 := fun inb => load_k harg6 x4 1 (nxt k) 10 (off72 k) inb
  have lv11 := fun inb => load_v harg7 x5 (cur k) 11 (off73 k) inb
  have lk0_11 := fun inb => load_k harg6 x4 0 (nxt k) 11 (off74 k) inb
  have lk1_11 := fun inb => load_k harg6 x4 1 (nxt k) 11 (off75 k) inb
  have lv12 := fun inb => load_v harg7 x5 (cur k) 12 (off76 k) inb
  have lk0_12 := fun inb => load_k harg6 x4 0 (nxt k) 12 (off77 k) inb
  have lk1_12 := fun inb => load_k harg6 x4 1 (nxt k) 12 (off78 k) inb
  refine ⟨?_, ?_, ?_, ?_, ?_⟩
  · (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    rw [whole_hit]
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    simp only [h9, lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    rw [whole_hit]
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    simp only [h10, lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    rfl
  · intro r
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    refine (slot_read (m := arg11) _ 0 _ _ _ _ _ _ _ _ _ _ _ _ _ _ _ _ _ _ _ _ _ _ _ _ _ _ r _).trans ?_
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    try simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    fin_cases r <;> rfl
  · intro r
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    refine (slot_read (m := arg12) _ 0 _ _ _ _ _ _ _ _ _ _ _ _ _ _ _ _ _ _ _ _ _ _ _ _ _ _ r _).trans ?_
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    (try delta trip_odd.sl.H11_13); (try delta trip_odd.sl.H11_12); (try delta trip_odd.sl.H12_12); (try delta trip_odd.sl.H11_11); (try delta trip_odd.sl.H12_11); (try delta trip_odd.sl.H11_10); (try delta trip_odd.sl.H12_10); (try delta trip_odd.sl.H11_9); (try delta trip_odd.sl.H12_9); (try delta trip_odd.sl.H11_8); (try delta trip_odd.sl.H12_8); (try delta trip_odd.sl.H11_7); (try delta trip_odd.sl.H12_7); (try delta trip_odd.sl.H11_6); (try delta trip_odd.sl.H12_6); (try delta trip_odd.sl.H11_5); (try delta trip_odd.sl.H12_5); (try delta trip_odd.sl.H11_4); (try delta trip_odd.sl.H12_4); (try delta trip_odd.sl.H11_3); (try delta trip_odd.sl.H12_3); (try delta trip_odd.sl.H11_2); (try delta trip_odd.sl.H12_2); (try delta trip_odd.sl.H11_1); (try delta trip_odd.sl.H12_1); (try delta trip_odd.sl.r_75); (try delta trip_odd.sl.r_74); (try delta trip_odd.sl.r_73); (try delta trip_odd.sl.r_72); (try delta trip_odd.sl.r_71); (try delta trip_odd.sl.r_70); (try delta trip_odd.sl.r_69); (try delta trip_odd.sl.r_68); (try delta trip_odd.sl.r_67); (try delta trip_odd.sl.r_66); (try delta trip_odd.sl.r_65); (try delta trip_odd.sl.r_64); (try delta trip_odd.sl.r_63); (try delta trip_odd.sl.r_62); (try delta trip_odd.sl.r_61); (try delta trip_odd.sl.r_60); (try delta trip_odd.sl.r_59); (try delta trip_odd.sl.r_58); (try delta trip_odd.sl.r_57); (try delta trip_odd.sl.r_56); (try delta trip_odd.sl.r_55); (try delta trip_odd.sl.r_54); (try delta trip_odd.sl.r_53); (try delta trip_odd.sl.r_52); (try delta trip_odd.sl.r_51); (try delta trip_odd.sl.r_50); (try delta trip_odd.sl.r_49); (try delta trip_odd.sl.r_48); (try delta trip_odd.sl.r_47); (try delta trip_odd.sl.r_46); (try delta trip_odd.sl.r_45); (try delta trip_odd.sl.r_44); (try delta trip_odd.sl.r_43); (try delta trip_odd.sl.r_42); (try delta trip_odd.sl.r_41); (try delta trip_odd.sl.r_40); (try delta trip_odd.sl.r_39); (try delta trip_odd.sl.r_38); (try delta trip_odd.sl.r_37); (try delta trip_odd.sl.r_36); (try delta trip_odd.sl.r_35); (try delta trip_odd.sl.r_34); (try delta trip_odd.sl.r_33); (try delta trip_odd.sl.r_32); (try delta trip_odd.sl.r_31); (try delta trip_odd.sl.r_30); (try delta trip_odd.sl.r_29); (try delta trip_odd.sl.r_28); (try delta trip_odd.sl.r_27); (try delta trip_odd.sl.r_26); (try delta trip_odd.sl.r_25); (try delta trip_odd.sl.r_24); (try delta trip_odd.sl.r_23); (try delta trip_odd.sl.r_22); (try delta trip_odd.sl.r_21); (try delta trip_odd.sl.r_20); (try delta trip_odd.sl.r_19); (try delta trip_odd.sl.r_18); (try delta trip_odd.sl.r_17); (try delta trip_odd.sl.r_16); (try delta trip_odd.sl.r_15); (try delta trip_odd.sl.r_14); (try delta trip_odd.sl.r_13); (try delta trip_odd.sl.r_12); (try delta trip_odd.sl.r_11); (try delta trip_odd.sl.r_10); (try delta trip_odd.sl.r_9); (try delta trip_odd.sl.r_8); (try delta trip_odd.sl.r_7); (try delta trip_odd.sl.r_6); (try delta trip_odd.sl.r_5); (try delta trip_odd.sl.r_4); (try delta trip_odd.sl.r_3); (try delta trip_odd.sl.r_2); (try delta trip_odd.sl.r_1); (try delta trip_odd.sl.r); (try delta trip_odd.sl.v1011); (try delta trip_odd.sl.v1035); (try delta trip_odd.sl.v1056); (try delta trip_odd.sl.v1080); (try delta trip_odd.sl.v1101); (try delta trip_odd.sl.v1125); (try delta trip_odd.sl.v1146); (try delta trip_odd.sl.v1170); (try delta trip_odd.sl.v1191); (try delta trip_odd.sl.v633); (try delta trip_odd.sl.v652); (try delta trip_odd.sl.v675); (try delta trip_odd.sl.v685); (try delta trip_odd.sl.v696); (try delta trip_odd.sl.v720); (try delta trip_odd.sl.v741); (try delta trip_odd.sl.v765); (try delta trip_odd.sl.v786); (try delta trip_odd.sl.v810); (try delta trip_odd.sl.v831); (try delta trip_odd.sl.v855); (try delta trip_odd.sl.v876); (try delta trip_odd.sl.v900); (try delta trip_odd.sl.v921); (try delta trip_odd.sl.v945); (try delta trip_odd.sl.v966); (try delta trip_odd.sl.v990)
    try simp only [lv0, lk0_0, lk1_0, e11_0, e12_0, lv1, lk0_1, lk1_1, e11_1, e12_1, lv2, lk0_2, lk1_2, e11_2, e12_2, lv3, lk0_3, lk1_3, e11_3, e12_3, lv4, lk0_4, lk1_4, e11_4, e12_4, lv5, lk0_5, lk1_5, e11_5, e12_5, lv6, lk0_6, lk1_6, e11_6, e12_6, lv7, lk0_7, lk1_7, e11_7, e12_7, lv8, lk0_8, lk1_8, e11_8, e12_8, lv9, lk0_9, lk1_9, e11_9, e12_9, lv10, lk0_10, lk1_10, e11_10, e12_10, lv11, lk0_11, lk1_11, e11_11, e12_11, lv12, lk0_12, lk1_12, e11_12, e12_12]
    fin_cases r <;> rfl

end Cert.KernelIdeal.Attn

end
-- ==== Proof.Loop.lean ====
/-
  The chunk loop: its invariant, and one trip of it.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TripOdd
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before trip `k`: the accumulators hold the fold of the chunks before `k`, and the slot of `k`'s parity the scores of chunk `k`. -/
def loopInv (c : Dev nD) (arg6 : Memref sig .tc .vmem S1x2x5x3328x256 .fp8e4m3) (harg6 : arg6.IsWhole) (arg7 : Memref sig .tc .vmem S1x5x144x3328 .bf16) (harg7 : arg7.IsWhole) (arg9 : Memref sig .tc .vmem S144x512 .f32) (arg10 : Memref sig .tc .vmem S144x512 .f32) (arg11 : Memref sig .tc .vmem S2x3328x512 .f32) (arg12 : Memref sig .tc .vmem S2x3328x512 .f32)
    (v0 : Elt F .f32) (v1 : F .bf16) (v11 v13 : FVec F S256x512 .fp8e4m3) (x4 : Vec F S1x2x5x3328x256 .fp8e4m3) (x5 : Vec F S1x5x144x3328 .bf16)
    (k : ℕ) (acc : FVec F S1x512 .f32 × FVec F S1x512 .f32 × FVec F S1x512 .f32 × FVec F S1x512 .f32) : sProp 𝕄 :=
  iprop(∃ g9 g10 g11 g12, pt c arg6 (harg6.unread x4) ∗ pt c arg7 (harg7.unread x5) ∗ pt c arg9 g9 ∗ pt c arg10 g10 ∗ pt c arg11 g11 ∗ pt c arg12 g12
    ∗ ⌜acc = (chunkMax v11 x4 0 (Fin.ofNat 5 k), chunkMax v13 x4 1 (Fin.ofNat 5 k), mState v11 x4 0 k, mState v13 x4 1 k)
      ∧ View.readAt (Elt F) arg9.view (Rect.unit (s := S144x512) ![0, 0] S144x512.size inb_S144x512_S144x512_0_0).toLoadRect g9 = aState v0 v1 v11 x4 x5 0 k
      ∧ View.readAt (Elt F) arg10.view (Rect.unit (s := S144x512) ![0, 0] S144x512.size inb_S144x512_S144x512_0_0).toLoadRect g10 = aState v0 v1 v13 x4 x5 1 k
      ∧ Slot (c₀ := c) (Fin.ofNat 2 k) v11 x4 0 (Fin.ofNat 5 k) arg11 g11 ∧ Slot (c₀ := c) (Fin.ofNat 2 k) v13 x4 1 (Fin.ofNat 5 k) arg12 g12⌝)

theorem loop_step (c : Dev nD) (i : grid3.Coords) (arg2 : Memref sig .tc .smem S1 .f32) (harg2 : arg2.IsWhole) (arg3 : Memref sig .tc .vmem S8x128 .f32) (harg3 : arg3.IsWhole) (arg4 : Memref sig .tc .vmem S128x1 .f32) (harg4 : arg4.IsWhole) (arg5 : Memref sig .tc .vmem S1x2x256x512 .fp8e4m3) (harg5 : arg5.IsWhole) (arg6 : Memref sig .tc .vmem S1x2x5x3328x256 .fp8e4m3) (harg6 : arg6.IsWhole) (arg7 : Memref sig .tc .vmem S1x5x144x3328 .bf16) (harg7 : arg7.IsWhole) (arg8 : Memref sig .tc .vmem S512x128 .bf16) (harg8 : arg8.IsWhole) (arg9 : Memref sig .tc .vmem S144x512 .f32) (harg9 : arg9.IsWhole) (arg10 : Memref sig .tc .vmem S144x512 .f32) (harg10 : arg10.IsWhole) (arg11 : Memref sig .tc .vmem S2x3328x512 .f32) (harg11 : arg11.IsWhole) (arg12 : Memref sig .tc .vmem S2x3328x512 .f32) (harg12 : arg12.IsWhole) (v0 : Elt F .f32) (v1 : F .bf16) (v11 : FVec F S256x512 .fp8e4m3) (v13 : FVec F S256x512 .fp8e4m3) (v14 : FVec F S1x512 .f32) (v228 : FVec F S1x512 .f32) (v237 : FVec F S1x512 .f32) (v239 : FVec F S256x256 .fp8e4m3) (x4 : Vec F S1x2x5x3328x256 .fp8e4m3) (x5 : Vec F S1x5x144x3328 .bf16) (E : Set ℕ)
    (k : Fin k3_t1_loop.trips) (acc : FVec F S1x512 .f32 × FVec F S1x512 .f32 × FVec F S1x512 .f32 × FVec F S1x512 .f32) :
    loopInv c arg6 harg6 arg7 harg7 arg9 arg10 arg11 arg12 v0 v1 v11 v13 x4 x5 k.val acc
      ⊢ wp frame (wpE (defs₀ (F := F)) Variants.none c none) E (k3_t1_body i arg2 harg2 arg3 harg3 arg4 harg4 arg5 harg5 arg6 harg6 arg7 harg7 arg8 harg8 arg9 harg9 arg10 harg10 arg11 harg11 arg12 harg12 v0 v1 v11 v13 v14 v228 v237 v239 k acc)
          (loopInv c arg6 harg6 arg7 harg7 arg9 arg10 arg11 arg12 v0 v1 v11 v13 x4 x5 (k.val + 1)) := by
  obtain ⟨a14, a15, a16, a17⟩ := acc
  rw [loopInv]
  iintro ⟨%g9, %g10, %g11, %g12, H6, H7, H9, H10, H11, H12, %hp⟩
  obtain ⟨hacc, h9, h10, h11, h12⟩ := hp
  simp only [Prod.mk.injEq] at hacc
  obtain ⟨rfl, rfl, rfl, rfl⟩ := hacc
  by_cases hk : k3_cond1 k = 1#1
  · have hp : (Fin.ofNat 2 k.val : Fin 2) = 0 := Fin.ext (by have := (cond_eq k).mp hk; simpa [Fin.ofNat] using this)
    have hq : (Fin.ofNat 2 (k.val + 1) : Fin 2) = 1 := Fin.ext (by have := (cond_eq k).mp hk; simp [Fin.ofNat]; omega)
    rw [hp] at h11 h12
    iapply (wp_wand_r frame (wpE (defs₀ (F := F)) Variants.none (c : Thread nD τ) none) E)
    isplitl [H6 H7 H9 H10 H11 H12]
    · iapply (trip_even c i arg2 harg2 arg3 harg3 arg4 harg4 arg5 harg5 arg6 harg6 arg7 harg7 arg8 harg8 arg9 harg9 arg10 harg10 arg11 harg11 arg12 harg12 v0 v1 v11 v13 v14 v228 v237 v239 k hk (chunkMax v11 x4 0 (Fin.ofNat 5 k.val)) (chunkMax v13 x4 1 (Fin.ofNat 5 k.val)) (mState v11 x4 0 k.val) (mState v13 x4 1 k.val) x4 x5 g9 g10 g11 g12 (aState v0 v1 v11 x4 x5 0 k.val) (aState v0 v1 v13 x4 x5 1 k.val) h9 h10 h11 h12 E)
      isplitl [H6]; · iexact H6
      isplitl [H7]; · iexact H7
      isplitl [H9]; · iexact H9
      isplitl [H10]; · iexact H10
      isplitl [H11]; · iexact H11
      iexact H12
    · iintro %r ⟨%g9', %g10', %g11', %g12', H6, H7, H9, H10, H11, H12, %hr⟩
      rw [loopInv]
      iexists g9', g10', g11', g12'
      isplitl [H6]; · iexact H6
      isplitl [H7]; · iexact H7
      isplitl [H9]; · iexact H9
      isplitl [H10]; · iexact H10
      isplitl [H11]; · iexact H11
      isplitl [H12]; · iexact H12
      ipureintro
      rw [hq]
      exact hr
  · have hp : (Fin.ofNat 2 k.val : Fin 2) = 1 := Fin.ext (by have := mt (cond_eq k).mpr hk; simp [Fin.ofNat]; omega)
    have hq : (Fin.ofNat 2 (k.val + 1) : Fin 2) = 0 := Fin.ext (by have := mt (cond_eq k).mpr hk; simp [Fin.ofNat]; omega)
    rw [hp] at h11 h12
    iapply (wp_wand_r frame (wpE (defs₀ (F := F)) Variants.none (c : Thread nD τ) none) E)
    isplitl [H6 H7 H9 H10 H11 H12]
    · iapply (trip_odd c i arg2 harg2 arg3 harg3 arg4 harg4 arg5 harg5 arg6 harg6 arg7 harg7 arg8 harg8 arg9 harg9 arg10 harg10 arg11 harg11 arg12 harg12 v0 v1 v11 v13 v14 v228 v237 v239 k hk (chunkMax v11 x4 0 (Fin.ofNat 5 k.val)) (chunkMax v13 x4 1 (Fin.ofNat 5 k.val)) (mState v11 x4 0 k.val) (mState v13 x4 1 k.val) x4 x5 g9 g10 g11 g12 (aState v0 v1 v11 x4 x5 0 k.val) (aState v0 v1 v13 x4 x5 1 k.val) h9 h10 h11 h12 E)
      isplitl [H6]; · iexact H6
      isplitl [H7]; · iexact H7
      isplitl [H9]; · iexact H9
      isplitl [H10]; · iexact H10
      isplitl [H11]; · iexact H11
      iexact H12
    · iintro %r ⟨%g9', %g10', %g11', %g12', H6, H7, H9, H10, H11, H12, %hr⟩
      rw [loopInv]
      iexists g9', g10', g11', g12'
      isplitl [H6]; · iexact H6
      isplitl [H7]; · iexact H7
      isplitl [H9]; · iexact H9
      isplitl [H10]; · iexact H10
      isplitl [H11]; · iexact H11
      isplitl [H12]; · iexact H12
      ipureintro
      rw [hq]
      exact hr

end Cert.KernelIdeal.Attn

end
-- ==== Proof.Body.lean ====
/-
  The attention body, run: what it leaves in its result block.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loop
public import proofs.«01_k».proof.Proof.Reads
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips_eq : k3_t1_loop.trips = 4 := by decide +kernel

set_option maxHeartbeats 4000000 in
theorem body_run (c : Dev nD) (i : grid3.Coords) (arg2 : Memref sig .tc .smem S1 .f32) (harg2 : arg2.IsWhole) (arg3 : Memref sig .tc .vmem S8x128 .f32) (harg3 : arg3.IsWhole) (arg4 : Memref sig .tc .vmem S128x1 .f32) (harg4 : arg4.IsWhole) (arg5 : Memref sig .tc .vmem S1x2x256x512 .fp8e4m3) (harg5 : arg5.IsWhole) (arg6 : Memref sig .tc .vmem S1x2x5x3328x256 .fp8e4m3) (harg6 : arg6.IsWhole) (arg7 : Memref sig .tc .vmem S1x5x144x3328 .bf16) (harg7 : arg7.IsWhole) (arg8 : Memref sig .tc .vmem S512x128 .bf16) (harg8 : arg8.IsWhole) (arg9 : Memref sig .tc .vmem S144x512 .f32) (harg9 : arg9.IsWhole) (arg10 : Memref sig .tc .vmem S144x512 .f32) (harg10 : arg10.IsWhole) (arg11 : Memref sig .tc .vmem S2x3328x512 .f32) (harg11 : arg11.IsWhole) (arg12 : Memref sig .tc .vmem S2x3328x512 .f32) (harg12 : arg12.IsWhole) (x0 : Vec F S1 .f32) (x1 : Vec F S8x128 .f32) (x2 : Vec F S128x1 .f32) (x3 : Vec F S1x2x256x512 .fp8e4m3) (x4 : Vec F S1x2x5x3328x256 .fp8e4m3) (x5 : Vec F S1x5x144x3328 .bf16)
    (f8 : Bf (F := F) c arg8) (f9 : Bf (F := F) c arg9) (f10 : Bf (F := F) c arg10) (f11 : Bf (F := F) c arg11) (f12 : Bf (F := F) c arg12) (E : Set ℕ) :
    iprop(pt c arg2 (harg2.unread x0) ∗ pt c arg3 (harg3.unread x1) ∗ pt c arg4 (harg4.unread x2) ∗ pt c arg5 (harg5.unread x3) ∗ pt c arg6 (harg6.unread x4) ∗ pt c arg7 (harg7.unread x5) ∗ pt c arg8 f8 ∗ pt c arg9 f9 ∗ pt c arg10 f10 ∗ pt c arg11 f11 ∗ pt c arg12 f12)
      ⊢ wp frame (wpE (defs₀ (F := F)) Variants.none c none) E (cc3__attn_body i arg2 harg2 arg3 harg3 arg4 harg4 arg5 harg5 arg6 harg6 arg7 harg7 arg8 harg8 arg9 harg9 arg10 harg10 arg11 harg11 arg12 harg12) (fun _ =>
        iprop(∃ g8 g9 g10 g11 g12, pt c arg2 (harg2.unread x0) ∗ pt c arg3 (harg3.unread x1) ∗ pt c arg4 (harg4.unread x2) ∗ pt c arg5 (harg5.unread x3) ∗ pt c arg6 (harg6.unread x4) ∗ pt c arg7 (harg7.unread x5) ∗ pt c arg8 g8 ∗ pt c arg9 g9 ∗ pt c arg10 g10 ∗ pt c arg11 g11 ∗ pt c arg12 g12
          ∗ ⌜arg8.view.read (Elt F) g8 = attnOut x0 x1 x2 x3 x4 x5⌝)) := by
  iintro ⟨H2, H3, H4, H5, H6, H7, H8, H9, H10, H11, H12⟩
  simp only [cc3__attn_body_eq_skeleton]; unfold cc3__attn_body_skel
  sl_exec_parts
  sl_for (loopInv c arg6 harg6 arg7 harg7 arg9 arg10 arg11 arg12 (body_run.sl.r arg2 harg2 x0) (body_run.sl.r_1 arg2 harg2 x0) (body_run.sl.r_2 arg5 harg5 x3) (body_run.sl.r_3 arg5 harg5 x3) x4 x5) $$ [H6 H7 H9 H10 H11 H12]
  · intro k acc
    exact loop_step c i _ _ _ _ _ _ _ _ _ _ _ _ _ _ _ _ _ _ _ _ _ _ _ _ _ _ _ _ _ _ x4 x5 E k acc
  · rw [loopInv]
    iexists _, _, _, _
    isplitl [H6]; · iexact H6
    isplitl [H7]; · iexact H7
    isplitl [H9]; · iexact H9
    isplitl [H10]; · iexact H10
    isplitl [H11]; · iexact H11
    isplitl [H12]; · iexact H12
    ipureintro
    have lk0_0 := fun inb => load_k (off := ![0, 0, 0, 0, 0]) harg6 x4 0 0 0 rfl inb
    have lk1_0 := fun inb => load_k (off := ![0, 1, 0, 0, 0]) harg6 x4 1 0 0 rfl inb
    have lk0_1 := fun inb => load_k (off := ![0, 0, 0, 256, 0]) harg6 x4 0 0 1 rfl inb
    have lk1_1 := fun inb => load_k (off := ![0, 1, 0, 256, 0]) harg6 x4 1 0 1 rfl inb
    have lk0_2 := fun inb => load_k (off := ![0, 0, 0, 512, 0]) harg6 x4 0 0 2 rfl inb
    have lk1_2 := fun inb => load_k (off := ![0, 1, 0, 512, 0]) harg6 x4 1 0 2 rfl inb
    have lk0_3 := fun inb => load_k (off := ![0, 0, 0, 768, 0]) harg6 x4 0 0 3 rfl inb
    have lk1_3 := fun inb => load_k (off := ![0, 1, 0, 768, 0]) harg6 x4 1 0 3 rfl inb
    have lk0_4 := fun inb => load_k (off := ![0, 0, 0, 1024, 0]) harg6 x4 0 0 4 rfl inb
    have lk1_4 := fun inb => load_k (off := ![0, 1, 0, 1024, 0]) harg6 x4 1 0 4 rfl inb
    have lk0_5 := fun inb => load_k (off := ![0, 0, 0, 1280, 0]) harg6 x4 0 0 5 rfl inb
    have lk1_5 := fun inb => load_k (off := ![0, 1, 0, 1280, 0]) harg6 x4 1 0 5 rfl inb
    have lk0_6 := fun inb => load_k (off := ![0, 0, 0, 1536, 0]) harg6 x4 0 0 6 rfl inb
    have lk1_6 := fun inb => load_k (off := ![0, 1, 0, 1536, 0]) harg6 x4 1 0 6 rfl inb
    have lk0_7 := fun inb => load_k (off := ![0, 0, 0, 1792, 0]) harg6 x4 0 0 7 rfl inb
    have lk1_7 := fun inb => load_k (off := ![0, 1, 0, 1792, 0]) harg6 x4 1 0 7 rfl inb
    have lk0_8 := fun inb => load_k (off := ![0, 0, 0, 2048, 0]) harg6 x4 0 0 8 rfl inb
    have lk1_8 := fun inb => load_k (off := ![0, 1, 0, 2048, 0]) harg6 x4 1 0 8 rfl inb
    have lk0_9 := fun inb => load_k (off := ![0, 0, 0, 2304, 0]) harg6 x4 0 0 9 rfl inb
    have lk1_9 := fun inb => load_k (off := ![0, 1, 0, 2304, 0]) harg6 x4 1 0 9 rfl inb
    have lk0_10 := fun inb => load_k (off := ![0, 0, 0, 2560, 0]) harg6 x4 0 0 10 rfl inb
    have lk1_10 := fun inb => load_k (off := ![0, 1, 0, 2560, 0]) harg6 x4 1 0 10 rfl inb
    have lk0_11 := fun inb => load_k (off := ![0, 0, 0, 2816, 0]) harg6 x4 0 0 11 rfl inb
    have lk1_11 := fun inb => load_k (off := ![0, 1, 0, 2816, 0]) harg6 x4 1 0 11 rfl inb
    have lk0_12 := fun inb => load_k (off := ![0, 0, 0, 3072, 0]) harg6 x4 0 0 12 rfl inb
    have lk1_12 := fun inb => load_k (off := ![0, 1, 0, 3072, 0]) harg6 x4 1 0 12 rfl inb
    refine ⟨?_, ?_, ?_, ?_, ?_⟩
    · (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      simp only [lk0_0, lk1_0, lk0_1, lk1_1, lk0_2, lk1_2, lk0_3, lk1_3, lk0_4, lk1_4, lk0_5, lk1_5, lk0_6, lk1_6, lk0_7, lk1_7, lk0_8, lk1_8, lk0_9, lk1_9, lk0_10, lk1_10, lk0_11, lk1_11, lk0_12, lk1_12]
      rfl
    · (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      rw [whole_hit]; rfl
    · (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      rw [whole_hit]; rfl
    · intro r
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      refine (slot_read (m := arg11) _ 0 _ _ _ _ _ _ _ _ _ _ _ _ _ _ _ _ _ _ _ _ _ _ _ _ _ _ r _).trans ?_
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      simp only [lk0_0, lk1_0, lk0_1, lk1_1, lk0_2, lk1_2, lk0_3, lk1_3, lk0_4, lk1_4, lk0_5, lk1_5, lk0_6, lk1_6, lk0_7, lk1_7, lk0_8, lk1_8, lk0_9, lk1_9, lk0_10, lk1_10, lk0_11, lk1_11, lk0_12, lk1_12]
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      try simp only [lk0_0, lk1_0, lk0_1, lk1_1, lk0_2, lk1_2, lk0_3, lk1_3, lk0_4, lk1_4, lk0_5, lk1_5, lk0_6, lk1_6, lk0_7, lk1_7, lk0_8, lk1_8, lk0_9, lk1_9, lk0_10, lk1_10, lk0_11, lk1_11, lk0_12, lk1_12]
      fin_cases r <;> rfl
    · intro r
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      refine (slot_read (m := arg12) _ 0 _ _ _ _ _ _ _ _ _ _ _ _ _ _ _ _ _ _ _ _ _ _ _ _ _ _ r _).trans ?_
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      simp only [lk0_0, lk1_0, lk0_1, lk1_1, lk0_2, lk1_2, lk0_3, lk1_3, lk0_4, lk1_4, lk0_5, lk1_5, lk0_6, lk1_6, lk0_7, lk1_7, lk0_8, lk1_8, lk0_9, lk1_9, lk0_10, lk1_10, lk0_11, lk1_11, lk0_12, lk1_12]
      (try delta body_run.sl.H9_14); (try delta body_run.sl.H9_13); (try delta body_run.sl.H9_12); (try delta body_run.sl.H9_11); (try delta body_run.sl.H9_10); (try delta body_run.sl.H9_9); (try delta body_run.sl.H9_8); (try delta body_run.sl.H9_7); (try delta body_run.sl.H9_6); (try delta body_run.sl.H9_5); (try delta body_run.sl.H9_4); (try delta body_run.sl.H9_3); (try delta body_run.sl.H9_2_1); (try delta body_run.sl.H9_2); (try delta body_run.sl.H9_1_1); (try delta body_run.sl.H9_1); (try delta body_run.sl.H10_14); (try delta body_run.sl.H10_13); (try delta body_run.sl.H10_12); (try delta body_run.sl.H10_11); (try delta body_run.sl.H10_10); (try delta body_run.sl.H10_9); (try delta body_run.sl.H10_8); (try delta body_run.sl.H10_7); (try delta body_run.sl.H10_6); (try delta body_run.sl.H10_5); (try delta body_run.sl.H10_4); (try delta body_run.sl.H10_3); (try delta body_run.sl.H10_2_1); (try delta body_run.sl.H10_2); (try delta body_run.sl.H10_1_1); (try delta body_run.sl.H10_1); (try delta body_run.sl.H11_14); (try delta body_run.sl.H11_13); (try delta body_run.sl.H11_12); (try delta body_run.sl.H11_11); (try delta body_run.sl.H11_10); (try delta body_run.sl.H11_9); (try delta body_run.sl.H11_8); (try delta body_run.sl.H11_7); (try delta body_run.sl.H11_6); (try delta body_run.sl.H11_5); (try delta body_run.sl.H11_4); (try delta body_run.sl.H11_3); (try delta body_run.sl.H11_2_1); (try delta body_run.sl.H11_2); (try delta body_run.sl.H11_1_1); (try delta body_run.sl.H11_1); (try delta body_run.sl.H12_14); (try delta body_run.sl.H12_13); (try delta body_run.sl.H12_12); (try delta body_run.sl.H12_11); (try delta body_run.sl.H12_10); (try delta body_run.sl.H12_9); (try delta body_run.sl.H12_8); (try delta body_run.sl.H12_7); (try delta body_run.sl.H12_6); (try delta body_run.sl.H12_5); (try delta body_run.sl.H12_4); (try delta body_run.sl.H12_3); (try delta body_run.sl.H12_2_1); (try delta body_run.sl.H12_2); (try delta body_run.sl.H12_1_1); (try delta body_run.sl.H12_1); (try delta body_run.sl.H8_14); (try delta body_run.sl.H8_13); (try delta body_run.sl.H8_12); (try delta body_run.sl.H8_11); (try delta body_run.sl.H8_10); (try delta body_run.sl.H8_9); (try delta body_run.sl.H8_8); (try delta body_run.sl.H8_7); (try delta body_run.sl.H8_6); (try delta body_run.sl.H8_5); (try delta body_run.sl.H8_4); (try delta body_run.sl.H8_3); (try delta body_run.sl.H8_2_1); (try delta body_run.sl.H8_2); (try delta body_run.sl.H8_1_1); (try delta body_run.sl.H8_1); (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4); (try delta body_run.sl.v574); (try delta body_run.sl.v575); (try delta body_run.sl.v578); (try delta body_run.sl.v579)
      try simp only [lk0_0, lk1_0, lk0_1, lk1_1, lk0_2, lk1_2, lk0_3, lk1_3, lk0_4, lk1_4, lk0_5, lk1_5, lk0_6, lk1_6, lk0_7, lk1_7, lk0_8, lk1_8, lk0_9, lk1_9, lk0_10, lk1_10, lk0_11, lk1_11, lk0_12, lk1_12]
      fin_cases r <;> rfl
  · iintro %acc
    rw [show Scf.trips k3_t1_loop.lb k3_t1_loop.ub k3_t1_loop.st = 4 from trips_eq]
    rw [loopInv]
    obtain ⟨a14, a15, a16, a17⟩ := acc
    iintro ⟨%g9, %g10, %g11, %g12, H6, H7, H9, H10, H11, H12, %hp⟩
    obtain ⟨hacc, h9, h10, h11, h12⟩ := hp
    sl_exec_parts
    sl_step
    iexists _, _, _, _, _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    simp only [Prod.mk.injEq] at hacc
    obtain ⟨rfl, rfl, rfl, rfl⟩ := hacc
    have lv0 := fun inb => load_v (off := ![0, 4, 0, 0]) harg7 x5 4 0 rfl inb
    have e11_0 : View.readAt (Elt F) arg11.view (Rect.unit (s := S2x3328x512) ![0, 0, 0] S1x256x512.size inb_S2x3328x512_S1x256x512_0_0_0).toLoadRect g11 = scoreBox (body_run.sl.r_2 arg5 harg5 x3) (kTile x4 0 4 0) := h11 0
    have e12_0 : View.readAt (Elt F) arg12.view (Rect.unit (s := S2x3328x512) ![0, 0, 0] S1x256x512.size inb_S2x3328x512_S1x256x512_0_0_0).toLoadRect g12 = scoreBox (body_run.sl.r_3 arg5 harg5 x3) (kTile x4 1 4 0) := h12 0
    have lv1 := fun inb => load_v (off := ![0, 4, 0, 256]) harg7 x5 4 1 rfl inb
    have e11_1 : View.readAt (Elt F) arg11.view (Rect.unit (s := S2x3328x512) ![0, 256, 0] S1x256x512.size inb_S2x3328x512_S1x256x512_0_256_0).toLoadRect g11 = scoreBox (body_run.sl.r_2 arg5 harg5 x3) (kTile x4 0 4 1) := h11 1
    have e12_1 : View.readAt (Elt F) arg12.view (Rect.unit (s := S2x3328x512) ![0, 256, 0] S1x256x512.size inb_S2x3328x512_S1x256x512_0_256_0).toLoadRect g12 = scoreBox (body_run.sl.r_3 arg5 harg5 x3) (kTile x4 1 4 1) := h12 1
    have lv2 := fun inb => load_v (off := ![0, 4, 0, 512]) harg7 x5 4 2 rfl inb
    have e11_2 : View.readAt (Elt F) arg11.view (Rect.unit (s := S2x3328x512) ![0, 512, 0] S1x256x512.size inb_S2x3328x512_S1x256x512_0_512_0).toLoadRect g11 = scoreBox (body_run.sl.r_2 arg5 harg5 x3) (kTile x4 0 4 2) := h11 2
    have e12_2 : View.readAt (Elt F) arg12.view (Rect.unit (s := S2x3328x512) ![0, 512, 0] S1x256x512.size inb_S2x3328x512_S1x256x512_0_512_0).toLoadRect g12 = scoreBox (body_run.sl.r_3 arg5 harg5 x3) (kTile x4 1 4 2) := h12 2
    have lv3 := fun inb => load_v (off := ![0, 4, 0, 768]) harg7 x5 4 3 rfl inb
    have e11_3 : View.readAt (Elt F) arg11.view (Rect.unit (s := S2x3328x512) ![0, 768, 0] S1x256x512.size inb_S2x3328x512_S1x256x512_0_768_0).toLoadRect g11 = scoreBox (body_run.sl.r_2 arg5 harg5 x3) (kTile x4 0 4 3) := h11 3
    have e12_3 : View.readAt (Elt F) arg12.view (Rect.unit (s := S2x3328x512) ![0, 768, 0] S1x256x512.size inb_S2x3328x512_S1x256x512_0_768_0).toLoadRect g12 = scoreBox (body_run.sl.r_3 arg5 harg5 x3) (kTile x4 1 4 3) := h12 3
    have lv4 := fun inb => load_v (off := ![0, 4, 0, 1024]) harg7 x5 4 4 rfl inb
    have e11_4 : View.readAt (Elt F) arg11.view (Rect.unit (s := S2x3328x512) ![0, 1024, 0] S1x256x512.size inb_S2x3328x512_S1x256x512_0_1024_0).toLoadRect g11 = scoreBox (body_run.sl.r_2 arg5 harg5 x3) (kTile x4 0 4 4) := h11 4
    have e12_4 : View.readAt (Elt F) arg12.view (Rect.unit (s := S2x3328x512) ![0, 1024, 0] S1x256x512.size inb_S2x3328x512_S1x256x512_0_1024_0).toLoadRect g12 = scoreBox (body_run.sl.r_3 arg5 harg5 x3) (kTile x4 1 4 4) := h12 4
    have lv5 := fun inb => load_v (off := ![0, 4, 0, 1280]) harg7 x5 4 5 rfl inb
    have e11_5 : View.readAt (Elt F) arg11.view (Rect.unit (s := S2x3328x512) ![0, 1280, 0] S1x256x512.size inb_S2x3328x512_S1x256x512_0_1280_0).toLoadRect g11 = scoreBox (body_run.sl.r_2 arg5 harg5 x3) (kTile x4 0 4 5) := h11 5
    have e12_5 : View.readAt (Elt F) arg12.view (Rect.unit (s := S2x3328x512) ![0, 1280, 0] S1x256x512.size inb_S2x3328x512_S1x256x512_0_1280_0).toLoadRect g12 = scoreBox (body_run.sl.r_3 arg5 harg5 x3) (kTile x4 1 4 5) := h12 5
    have lv6 := fun inb => load_v (off := ![0, 4, 0, 1536]) harg7 x5 4 6 rfl inb
    have e11_6 : View.readAt (Elt F) arg11.view (Rect.unit (s := S2x3328x512) ![0, 1536, 0] S1x256x512.size inb_S2x3328x512_S1x256x512_0_1536_0).toLoadRect g11 = scoreBox (body_run.sl.r_2 arg5 harg5 x3) (kTile x4 0 4 6) := h11 6
    have e12_6 : View.readAt (Elt F) arg12.view (Rect.unit (s := S2x3328x512) ![0, 1536, 0] S1x256x512.size inb_S2x3328x512_S1x256x512_0_1536_0).toLoadRect g12 = scoreBox (body_run.sl.r_3 arg5 harg5 x3) (kTile x4 1 4 6) := h12 6
    have lv7 := fun inb => load_v (off := ![0, 4, 0, 1792]) harg7 x5 4 7 rfl inb
    have e11_7 : View.readAt (Elt F) arg11.view (Rect.unit (s := S2x3328x512) ![0, 1792, 0] S1x256x512.size inb_S2x3328x512_S1x256x512_0_1792_0).toLoadRect g11 = scoreBox (body_run.sl.r_2 arg5 harg5 x3) (kTile x4 0 4 7) := h11 7
    have e12_7 : View.readAt (Elt F) arg12.view (Rect.unit (s := S2x3328x512) ![0, 1792, 0] S1x256x512.size inb_S2x3328x512_S1x256x512_0_1792_0).toLoadRect g12 = scoreBox (body_run.sl.r_3 arg5 harg5 x3) (kTile x4 1 4 7) := h12 7
    have lv8 := fun inb => load_v (off := ![0, 4, 0, 2048]) harg7 x5 4 8 rfl inb
    have e11_8 : View.readAt (Elt F) arg11.view (Rect.unit (s := S2x3328x512) ![0, 2048, 0] S1x256x512.size inb_S2x3328x512_S1x256x512_0_2048_0).toLoadRect g11 = scoreBox (body_run.sl.r_2 arg5 harg5 x3) (kTile x4 0 4 8) := h11 8
    have e12_8 : View.readAt (Elt F) arg12.view (Rect.unit (s := S2x3328x512) ![0, 2048, 0] S1x256x512.size inb_S2x3328x512_S1x256x512_0_2048_0).toLoadRect g12 = scoreBox (body_run.sl.r_3 arg5 harg5 x3) (kTile x4 1 4 8) := h12 8
    have lv9 := fun inb => load_v (off := ![0, 4, 0, 2304]) harg7 x5 4 9 rfl inb
    have e11_9 : View.readAt (Elt F) arg11.view (Rect.unit (s := S2x3328x512) ![0, 2304, 0] S1x256x512.size inb_S2x3328x512_S1x256x512_0_2304_0).toLoadRect g11 = scoreBox (body_run.sl.r_2 arg5 harg5 x3) (kTile x4 0 4 9) := h11 9
    have e12_9 : View.readAt (Elt F) arg12.view (Rect.unit (s := S2x3328x512) ![0, 2304, 0] S1x256x512.size inb_S2x3328x512_S1x256x512_0_2304_0).toLoadRect g12 = scoreBox (body_run.sl.r_3 arg5 harg5 x3) (kTile x4 1 4 9) := h12 9
    have lv10 := fun inb => load_v (off := ![0, 4, 0, 2560]) harg7 x5 4 10 rfl inb
    have e11_10 : View.readAt (Elt F) arg11.view (Rect.unit (s := S2x3328x512) ![0, 2560, 0] S1x256x512.size inb_S2x3328x512_S1x256x512_0_2560_0).toLoadRect g11 = scoreBox (body_run.sl.r_2 arg5 harg5 x3) (kTile x4 0 4 10) := h11 10
    have e12_10 : View.readAt (Elt F) arg12.view (Rect.unit (s := S2x3328x512) ![0, 2560, 0] S1x256x512.size inb_S2x3328x512_S1x256x512_0_2560_0).toLoadRect g12 = scoreBox (body_run.sl.r_3 arg5 harg5 x3) (kTile x4 1 4 10) := h12 10
    have lv11 := fun inb => load_v (off := ![0, 4, 0, 2816]) harg7 x5 4 11 rfl inb
    have e11_11 : View.readAt (Elt F) arg11.view (Rect.unit (s := S2x3328x512) ![0, 2816, 0] S1x256x512.size inb_S2x3328x512_S1x256x512_0_2816_0).toLoadRect g11 = scoreBox (body_run.sl.r_2 arg5 harg5 x3) (kTile x4 0 4 11) := h11 11
    have e12_11 : View.readAt (Elt F) arg12.view (Rect.unit (s := S2x3328x512) ![0, 2816, 0] S1x256x512.size inb_S2x3328x512_S1x256x512_0_2816_0).toLoadRect g12 = scoreBox (body_run.sl.r_3 arg5 harg5 x3) (kTile x4 1 4 11) := h12 11
    have lv12 := fun inb => load_v (off := ![0, 4, 0, 3072]) harg7 x5 4 12 rfl inb
    have e11_12 : View.readAt (Elt F) arg11.view (Rect.unit (s := S2x3328x512) ![0, 3072, 0] S1x256x512.size inb_S2x3328x512_S1x256x512_0_3072_0).toLoadRect g11 = scoreBox (body_run.sl.r_2 arg5 harg5 x3) (kTile x4 0 4 12) := h11 12
    have e12_12 : View.readAt (Elt F) arg12.view (Rect.unit (s := S2x3328x512) ![0, 3072, 0] S1x256x512.size inb_S2x3328x512_S1x256x512_0_3072_0).toLoadRect g12 = scoreBox (body_run.sl.r_3 arg5 harg5 x3) (kTile x4 1 4 12) := h12 12
    have hr : body_run.sl.r arg2 harg2 x0 = scaleOf x0 := by
      delta body_run.sl.r; exact load_scale harg2 x0 _ _
    have hr1 : body_run.sl.r_1 arg2 harg2 x0 = Scalar.truncf .bf16 bitsLt_bf16_f32 (scaleOf x0) := by
      rw [← hr]; rfl
    have hr2 : body_run.sl.r_2 arg5 harg5 x3 = qTile x3 0 := by
      delta body_run.sl.r_2; exact load_q harg5 x3 0 _
    have hr3 : body_run.sl.r_3 arg5 harg5 x3 = qTile x3 1 := by
      delta body_run.sl.r_3; exact load_q harg5 x3 1 _
    rw [out_hit]
    rw [load_whole2]
    (try delta body_run.sl.r_56); (try delta body_run.sl.r_55)
    rw [load_whole1]
    refine final_eq x0 x1 x2 x3 x4 x5 _ _ _ _ ?_ ?_ ?_ ?_
    · (try delta body_run.sl.v574); (try delta body_run.sl.H9_14)
      refine (tops_hit (F := F) _ _ _ _).trans (congrArg (tops (F := F)) ?_)
      rw [accOf_five]
      (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4)
      simp only [lv0, e11_0, lv1, e11_1, lv2, e11_2, lv3, e11_3, lv4, e11_4, lv5, e11_5, lv6, e11_6, lv7, e11_7, lv8, e11_8, lv9, e11_9, lv10, e11_10, lv11, e11_11, lv12, e11_12, hr, hr1, hr2, hr3]
      generalize aState (F := F) _ _ _ _ _ _ 4 = A
      generalize mState (F := F) _ _ _ 4 = M
      generalize chunkMax (F := F) _ _ _ _ = N
      rfl
    · (try delta body_run.sl.v575); (try delta body_run.sl.H9_14)
      refine (sums_hit (F := F) _ _ _ _).trans (congrArg (sums (F := F)) ?_)
      rw [accOf_five]
      (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4)
      simp only [lv0, e11_0, lv1, e11_1, lv2, e11_2, lv3, e11_3, lv4, e11_4, lv5, e11_5, lv6, e11_6, lv7, e11_7, lv8, e11_8, lv9, e11_9, lv10, e11_10, lv11, e11_11, lv12, e11_12, hr, hr1, hr2, hr3]
      generalize aState (F := F) _ _ _ _ _ _ 4 = A
      generalize mState (F := F) _ _ _ 4 = M
      generalize chunkMax (F := F) _ _ _ _ = N
      rfl
    · (try delta body_run.sl.v578); (try delta body_run.sl.H10_14)
      refine (tops_hit (F := F) _ _ _ _).trans (congrArg (tops (F := F)) ?_)
      rw [accOf_five]
      (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4)
      simp only [lv0, e12_0, lv1, e12_1, lv2, e12_2, lv3, e12_3, lv4, e12_4, lv5, e12_5, lv6, e12_6, lv7, e12_7, lv8, e12_8, lv9, e12_9, lv10, e12_10, lv11, e12_11, lv12, e12_12, hr, hr1, hr2, hr3]
      generalize aState (F := F) _ _ _ _ _ _ 4 = A
      generalize mState (F := F) _ _ _ 4 = M
      generalize chunkMax (F := F) _ _ _ _ = N
      rfl
    · (try delta body_run.sl.v579); (try delta body_run.sl.H10_14)
      refine (sums_hit (F := F) _ _ _ _).trans (congrArg (sums (F := F)) ?_)
      rw [accOf_five]
      (try delta body_run.sl.r_58); (try delta body_run.sl.r_57); (try delta body_run.sl.r_56); (try delta body_run.sl.r_55); (try delta body_run.sl.r_54); (try delta body_run.sl.r_53); (try delta body_run.sl.r_52); (try delta body_run.sl.r_51); (try delta body_run.sl.r_50); (try delta body_run.sl.r_49); (try delta body_run.sl.r_48); (try delta body_run.sl.r_47); (try delta body_run.sl.r_46); (try delta body_run.sl.r_45); (try delta body_run.sl.r_44); (try delta body_run.sl.r_43); (try delta body_run.sl.r_42); (try delta body_run.sl.r_41); (try delta body_run.sl.r_40); (try delta body_run.sl.r_39); (try delta body_run.sl.r_38); (try delta body_run.sl.r_37); (try delta body_run.sl.r_36); (try delta body_run.sl.r_35); (try delta body_run.sl.r_34); (try delta body_run.sl.r_33); (try delta body_run.sl.r_32); (try delta body_run.sl.r_31); (try delta body_run.sl.r_30); (try delta body_run.sl.r_29); (try delta body_run.sl.r_28); (try delta body_run.sl.r_27); (try delta body_run.sl.r_26); (try delta body_run.sl.r_25); (try delta body_run.sl.r_24); (try delta body_run.sl.r_23); (try delta body_run.sl.r_22); (try delta body_run.sl.r_21); (try delta body_run.sl.r_20); (try delta body_run.sl.r_19); (try delta body_run.sl.r_18); (try delta body_run.sl.r_17); (try delta body_run.sl.r_16); (try delta body_run.sl.r_15); (try delta body_run.sl.r_14); (try delta body_run.sl.r_13); (try delta body_run.sl.r_12); (try delta body_run.sl.r_11); (try delta body_run.sl.r_10); (try delta body_run.sl.r_9); (try delta body_run.sl.r_8); (try delta body_run.sl.r_7); (try delta body_run.sl.r_6); (try delta body_run.sl.r_5); (try delta body_run.sl.r_4)
      simp only [lv0, e12_0, lv1, e12_1, lv2, e12_2, lv3, e12_3, lv4, e12_4, lv5, e12_5, lv6, e12_6, lv7, e12_7, lv8, e12_8, lv9, e12_9, lv10, e12_10, lv11, e12_11, lv12, e12_12, hr, hr1, hr2, hr3]
      generalize aState (F := F) _ _ _ _ _ _ 4 = A
      generalize mState (F := F) _ _ _ 4 = M
      generalize chunkMax (F := F) _ _ _ _ = N
      rfl

end Cert.KernelIdeal.Attn

end
-- ==== Proof.Regions.lean ====
/- The four calls: what each leaves in its arrays, and that its body does so at every point of its grid. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Prep
public import proofs.«01_k».proof.Proof.Body
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

/- The buffers as a call finds them. -/
variable (V : (c : Dev nD) → (b : Ref sig .tc) → Buf (Elt F) ((c : Thread nD τ).loc b))

/-! # Call 0 -/

/-- A window's block at a point. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev st0_0 (t : Fin cfg0.N) : Memref sig .tc .smem S1 .f32 := win0_0.stage (cfg0.slots t 0)
abbrev hst0_0 (t : Fin cfg0.N) : (st0_0 t).IsWhole := hstage0_0 ((cfg0.slots t 0).cast nbuf0_0)
abbrev st0_1 (t : Fin cfg0.N) : Memref sig .tc .vmem S2048x128 .bf16 := win0_1.stage (cfg0.slots t 1)
abbrev hst0_1 (t : Fin cfg0.N) : (st0_1 t).IsWhole := hstage0_1 ((cfg0.slots t 1).cast nbuf0_1)
abbrev st0_2 (t : Fin cfg0.N) : Memref sig .tc .vmem S1x2x256x2048 .fp8e4m3 := win0_2.stage (cfg0.slots t 2)
abbrev hst0_2 (t : Fin cfg0.N) : (st0_2 t).IsWhole := hstage0_2 ((cfg0.slots t 2).cast nbuf0_2)

/-- What the call leaves, block by block. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prepQ (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by dsimp only [pd0]
theorem pd0_after0 (c : Dev nD) (t : Fin cfg0.N) : (pd0 V c).after 0 t = blk0 V c 0 t := by dsimp only [pd0]
theorem pd0_after1 (c : Dev nD) (t : Fin cfg0.N) : (pd0 V c).after 1 t = blk0 V c 1 t := by dsimp only [pd0]
theorem pd0_after2 (c : Dev nD) (t : Fin cfg0.N) : (pd0 V c).after 2 t = prepQ (blk0 V c 0 t) (blk0 V c 1 t) := by dsimp only [pd0]

theorem pd0_before0 (c : Dev nD) (t : Fin cfg0.N) (d) : (pd0 V c).before 0 t d = blk0 V c 0 t :=
  ((pd0 V c).before_in_eq_fetched 0 rfl (fun _ => rfl) (fun _ _ _ => rfl) (fun t => by rw [pd0_after0]; unfold Dat.blockOf blk0; rw [pd0_A]; try rfl) t d).trans
    (by unfold Dat.fetched Dat.blockOf blk0; rw [pd0_A]; try rfl)
theorem pd0_before1 (c : Dev nD) (t : Fin cfg0.N) (d) : (pd0 V c).before 1 t d = blk0 V c 1 t :=
  ((pd0 V c).before_in_eq_fetched 1 rfl (fun _ => rfl) (fun _ _ _ => rfl) (fun t => by rw [pd0_after1]; unfold Dat.blockOf blk0; rw [pd0_A]; try rfl) t d).trans
    (by unfold Dat.fetched Dat.blockOf blk0; rw [pd0_A]; try rfl)

/-- What the body starts from at a point. -/
def pre0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- What it leaves. -/
def post0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

set_option maxHeartbeats 1600000 in
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [pd0_before0, pd0_before1]
  rw [show (pd0 V c).Φ t.succ = (pd0 V c).Φ t.castSucc from rfl, show (pd0 V c).owesAt () t.succ = (pd0 V c).owesAt () t.castSucc from rfl,
    pd0_after0, pd0_after1, pd0_after2]
  unfold owns
  iintro ⟨HΦ, Ho, ⟨%d0, %f0, %h0, H0⟩, ⟨%d1, %f1, %h1, H1⟩, ⟨%d2, %f2, -, H2⟩⟩
  obtain rfl := (hst0_0 t).eq_unread h0; obtain rfl := (hst0_1 t).eq_unread h1
  iapply (wp_wand_r frame (wpE (defs₀ (F := F)) Variants.none (c : Thread nD τ) none) Set.univ)
  isplitl [H0 H1 H2]
  · iapply (run_prepQ c (grid0.coords t) (st0_0 t) (hst0_0 t) (st0_1 t) (hst0_1 t) (st0_2 t) (hst0_2 t) (blk0 V c 0 t) (blk0 V c 1 t) f2 Set.univ)
    isplitl [H0]; · iexact H0
    isplitl [H1]; · iexact H1
    iexact H2
  · iintro %r ⟨%g2, H0, H1, H2, %hr⟩
    isplitl [HΦ]; · iexact HΦ
    isplitl [Ho]; · iexact Ho
    isplitl [H0]
    · iexists _; isplitr
      · ipureintro; exact (hst0_0 t).read_unread _
      iexact H0
    isplitl [H1]
    · iexists _; isplitr
      · ipureintro; exact (hst0_1 t).read_unread _
      iexact H1
    iexists _; isplitr
    swap; · iexact H2
    ipureintro; exact hr

theorem row0 (t : Fin cfg0.N) : defs₀ (F := F) .tc cfg0.body (cfg0.bodyArgs t (cfg0.slots t)) = bodyAt0 t := by
  unfold defs₀; rw [Defs.onTc_tc]

/-- The body does at every point what is said of it. -/
theorem oblig0 (c : Dev nD) : BodyObligation (pd0 (F := F) V c) (defs₀ (F := F)) Variants.none () Set.univ := fun t => by
  rw [bigSep_W0, bigSep_W0, row0]
  exact triple_restated (body0 V c t) rfl .rfl fun _ => .rfl

/-! # Call 1 -/

/-- A window's block at a point. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev st1_0 (t : Fin cfg1.N) : Memref sig .tc .smem S1 .f32 := win1_0.stage (cfg1.slots t 0)
abbrev hst1_0 (t : Fin cfg1.N) : (st1_0 t).IsWhole := hstage1_0 ((cfg1.slots t 0).cast nbuf1_0)
abbrev st1_1 (t : Fin cfg1.N) : Memref sig .tc .vmem S3328x128 .bf16 := win1_1.stage (cfg1.slots t 1)
abbrev hst1_1 (t : Fin cfg1.N) : (st1_1 t).IsWhole := hstage1_1 ((cfg1.slots t 1).cast nbuf1_1)
abbrev st1_2 (t : Fin cfg1.N) : Memref sig .tc .vmem S1x2x3328x256 .fp8e4m3 := win1_2.stage (cfg1.slots t 2)
abbrev hst1_2 (t : Fin cfg1.N) : (st1_2 t).IsWhole := hstage1_2 ((cfg1.slots t 2).cast nbuf1_2)

/-- What the call leaves, block by block. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prepK (blk1 V c 0 t) (blk1 V c 1 t)
  Φ _ := Pipeline.ΦA spec1 c
  q _ := fullShare
  owed _ := 0

theorem pd1_A (c : Dev nD) (w : Fin cfg1.W) : (pd1 V c).A w = V c (Pipeline.arrRef spec1 w) := by dsimp only [pd1]
theorem pd1_after0 (c : Dev nD) (t : Fin cfg1.N) : (pd1 V c).after 0 t = blk1 V c 0 t := by dsimp only [pd1]
theorem pd1_after1 (c : Dev nD) (t : Fin cfg1.N) : (pd1 V c).after 1 t = blk1 V c 1 t := by dsimp only [pd1]
theorem pd1_after2 (c : Dev nD) (t : Fin cfg1.N) : (pd1 V c).after 2 t = prepK (blk1 V c 0 t) (blk1 V c 1 t) := by dsimp only [pd1]

theorem pd1_before0 (c : Dev nD) (t : Fin cfg1.N) (d) : (pd1 V c).before 0 t d = blk1 V c 0 t :=
  ((pd1 V c).before_in_eq_fetched 0 rfl (fun _ => rfl) (fun _ _ _ => rfl) (fun t => by rw [pd1_after0]; unfold Dat.blockOf blk1; rw [pd1_A]; try rfl) t d).trans
    (by unfold Dat.fetched Dat.blockOf blk1; rw [pd1_A]; try rfl)
theorem pd1_before1 (c : Dev nD) (t : Fin cfg1.N) (d) : (pd1 V c).before 1 t d = blk1 V c 1 t :=
  ((pd1 V c).before_in_eq_fetched 1 rfl (fun _ => rfl) (fun _ _ _ => rfl) (fun t => by rw [pd1_after1]; unfold Dat.blockOf blk1; rw [pd1_A]; try rfl) t d).trans
    (by unfold Dat.fetched Dat.blockOf blk1; rw [pd1_A]; try rfl)

/-- What the body starts from at a point. -/
def pre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d)))

/-- What it leaves. -/
def post1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t))

set_option maxHeartbeats 1600000 in
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [pd1_before0, pd1_before1]
  rw [show (pd1 V c).Φ t.succ = (pd1 V c).Φ t.castSucc from rfl, show (pd1 V c).owesAt () t.succ = (pd1 V c).owesAt () t.castSucc from rfl,
    pd1_after0, pd1_after1, pd1_after2]
  unfold owns
  iintro ⟨HΦ, Ho, ⟨%d0, %f0, %h0, H0⟩, ⟨%d1, %f1, %h1, H1⟩, ⟨%d2, %f2, -, H2⟩⟩
  obtain rfl := (hst1_0 t).eq_unread h0; obtain rfl := (hst1_1 t).eq_unread h1
  iapply (wp_wand_r frame (wpE (defs₀ (F := F)) Variants.none (c : Thread nD τ) none) Set.univ)
  isplitl [H0 H1 H2]
  · iapply (run_prepK c (grid1.coords t) (st1_0 t) (hst1_0 t) (st1_1 t) (hst1_1 t) (st1_2 t) (hst1_2 t) (blk1 V c 0 t) (blk1 V c 1 t) f2 Set.univ)
    isplitl [H0]; · iexact H0
    isplitl [H1]; · iexact H1
    iexact H2
  · iintro %r ⟨%g2, H0, H1, H2, %hr⟩
    isplitl [HΦ]; · iexact HΦ
    isplitl [Ho]; · iexact Ho
    isplitl [H0]
    · iexists _; isplitr
      · ipureintro; exact (hst1_0 t).read_unread _
      iexact H0
    isplitl [H1]
    · iexists _; isplitr
      · ipureintro; exact (hst1_1 t).read_unread _
      iexact H1
    iexists _; isplitr
    swap; · iexact H2
    ipureintro; exact hr

theorem row1 (t : Fin cfg1.N) : defs₀ (F := F) .tc cfg1.body (cfg1.bodyArgs t (cfg1.slots t)) = bodyAt1 t := by
  unfold defs₀; rw [Defs.onTc_tc]

/-- The body does at every point what is said of it. -/
theorem oblig1 (c : Dev nD) : BodyObligation (pd1 (F := F) V c) (defs₀ (F := F)) Variants.none () Set.univ := fun t => by
  rw [bigSep_W1, bigSep_W1, row1]
  exact triple_restated (body1 V c t) rfl .rfl fun _ => .rfl

/-! # Call 2 -/

/-- A window's block at a point. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev st2_0 (t : Fin cfg2.N) : Memref sig .tc .vmem S3328x128 .bf16 := win2_0.stage (cfg2.slots t 0)
abbrev hst2_0 (t : Fin cfg2.N) : (st2_0 t).IsWhole := hstage2_0 ((cfg2.slots t 0).cast nbuf2_0)
abbrev st2_1 (t : Fin cfg2.N) : Memref sig .tc .vmem S1x1x144x3328 .bf16 := win2_1.stage (cfg2.slots t 1)
abbrev hst2_1 (t : Fin cfg2.N) : (st2_1 t).IsWhole := hstage2_1 ((cfg2.slots t 1).cast nbuf2_1)

/-- What the call leaves, block by block. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => prepV (blk2 V c 0 t)
  Φ _ := Pipeline.ΦA spec2 c
  q _ := fullShare
  owed _ := 0

theorem pd2_A (c : Dev nD) (w : Fin cfg2.W) : (pd2 V c).A w = V c (Pipeline.arrRef spec2 w) := by dsimp only [pd2]
theorem pd2_after0 (c : Dev nD) (t : Fin cfg2.N) : (pd2 V c).after 0 t = blk2 V c 0 t := by dsimp only [pd2]
theorem pd2_after1 (c : Dev nD) (t : Fin cfg2.N) : (pd2 V c).after 1 t = prepV (blk2 V c 0 t) := by dsimp only [pd2]

theorem pd2_before0 (c : Dev nD) (t : Fin cfg2.N) (d) : (pd2 V c).before 0 t d = blk2 V c 0 t :=
  ((pd2 V c).before_in_eq_fetched 0 rfl (fun _ => rfl) (fun _ _ _ => rfl) (fun t => by rw [pd2_after0]; unfold Dat.blockOf blk2; rw [pd2_A]; try rfl) t d).trans
    (by unfold Dat.fetched Dat.blockOf blk2; rw [pd2_A]; try rfl)

/-- What the body starts from at a point. -/
def pre2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d)))

/-- What it leaves. -/
def post2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t))

set_option maxHeartbeats 1600000 in
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [pd2_before0]
  rw [show (pd2 V c).Φ t.succ = (pd2 V c).Φ t.castSucc from rfl, show (pd2 V c).owesAt () t.succ = (pd2 V c).owesAt () t.castSucc from rfl,
    pd2_after0, pd2_after1]
  unfold owns
  iintro ⟨HΦ, Ho, ⟨%d0, %f0, %h0, H0⟩, ⟨%d1, %f1, -, H1⟩⟩
  obtain rfl := (hst2_0 t).eq_unread h0
  iapply (wp_wand_r frame (wpE (defs₀ (F := F)) Variants.none (c : Thread nD τ) none) Set.univ)
  isplitl [H0 H1]
  · iapply (run_prepV c (grid2.coords t) (st2_0 t) (hst2_0 t) (st2_1 t) (hst2_1 t) (blk2 V c 0 t) f1 Set.univ)
    isplitl [H0]; · iexact H0
    iexact H1
  · iintro %r ⟨%g1, H0, H1, %hr⟩
    isplitl [HΦ]; · iexact HΦ
    isplitl [Ho]; · iexact Ho
    isplitl [H0]
    · iexists _; isplitr
      · ipureintro; exact (hst2_0 t).read_unread _
      iexact H0
    iexists _; isplitr
    swap; · iexact H1
    ipureintro; exact hr

theorem row2 (t : Fin cfg2.N) : defs₀ (F := F) .tc cfg2.body (cfg2.bodyArgs t (cfg2.slots t)) = bodyAt2 t := by
  unfold defs₀; rw [Defs.onTc_tc]

/-- The body does at every point what is said of it. -/
theorem oblig2 (c : Dev nD) : BodyObligation (pd2 (F := F) V c) (defs₀ (F := F)) Variants.none () Set.univ := fun t => by
  rw [bigSep_W2, bigSep_W2, row2]
  exact triple_restated (body2 V c t) rfl .rfl fun _ => .rfl

/-! # Call 3 -/

/-- A window's block at a point. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev st3_0 (t : Fin cfg3.N) : Memref sig .tc .smem S1 .f32 := win3_0.stage (cfg3.slots t 0)
abbrev hst3_0 (t : Fin cfg3.N) : (st3_0 t).IsWhole := hstage3_0 ((cfg3.slots t 0).cast nbuf3_0)
abbrev st3_1 (t : Fin cfg3.N) : Memref sig .tc .vmem S8x128 .f32 := win3_1.stage (cfg3.slots t 1)
abbrev hst3_1 (t : Fin cfg3.N) : (st3_1 t).IsWhole := hstage3_1 ((cfg3.slots t 1).cast nbuf3_1)
abbrev st3_2 (t : Fin cfg3.N) : Memref sig .tc .vmem S128x1 .f32 := win3_2.stage (cfg3.slots t 2)
abbrev hst3_2 (t : Fin cfg3.N) : (st3_2 t).IsWhole := hstage3_2 ((cfg3.slots t 2).cast nbuf3_2)
abbrev st3_3 (t : Fin cfg3.N) : Memref sig .tc .vmem S1x2x256x512 .fp8e4m3 := win3_3.stage (cfg3.slots t 3)
abbrev hst3_3 (t : Fin cfg3.N) : (st3_3 t).IsWhole := hstage3_3 ((cfg3.slots t 3).cast nbuf3_3)
abbrev st3_4 (t : Fin cfg3.N) : Memref sig .tc .vmem S1x2x5x3328x256 .fp8e4m3 := win3_4.stage (cfg3.slots t 4)
abbrev hst3_4 (t : Fin cfg3.N) : (st3_4 t).IsWhole := hstage3_4 ((cfg3.slots t 4).cast nbuf3_4)
abbrev st3_5 (t : Fin cfg3.N) : Memref sig .tc .vmem S1x5x144x3328 .bf16 := win3_5.stage (cfg3.slots t 5)
abbrev hst3_5 (t : Fin cfg3.N) : (st3_5 t).IsWhole := hstage3_5 ((cfg3.slots t 5).cast nbuf3_5)
abbrev st3_6 (t : Fin cfg3.N) : Memref sig .tc .vmem S512x128 .bf16 := win3_6.stage (cfg3.slots t 6)
abbrev hst3_6 (t : Fin cfg3.N) : (st3_6 t).IsWhole := hstage3_6 ((cfg3.slots t 6).cast nbuf3_6)

/-- What the call leaves, block by block. -/
def pd3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => attnOut (blk3 V c 0 t) (blk3 V c 1 t) (blk3 V c 2 t) (blk3 V c 3 t) (blk3 V c 4 t) (blk3 V c 5 t)
  Φ _ := Pipeline.ΦA spec3 c
  q _ := fullShare
  owed _ := 0

theorem pd3_A (c : Dev nD) (w : Fin cfg3.W) : (pd3 V c).A w = V c (Pipeline.arrRef spec3 w) := by dsimp only [pd3]
theorem pd3_after0 (c : Dev nD) (t : Fin cfg3.N) : (pd3 V c).after 0 t = blk3 V c 0 t := by dsimp only [pd3]
theorem pd3_after1 (c : Dev nD) (t : Fin cfg3.N) : (pd3 V c).after 1 t = blk3 V c 1 t := by dsimp only [pd3]
theorem pd3_after2 (c : Dev nD) (t : Fin cfg3.N) : (pd3 V c).after 2 t = blk3 V c 2 t := by dsimp only [pd3]
theorem pd3_after3 (c : Dev nD) (t : Fin cfg3.N) : (pd3 V c).after 3 t = blk3 V c 3 t := by dsimp only [pd3]
theorem pd3_after4 (c : Dev nD) (t : Fin cfg3.N) : (pd3 V c).after 4 t = blk3 V c 4 t := by dsimp only [pd3]
theorem pd3_after5 (c : Dev nD) (t : Fin cfg3.N) : (pd3 V c).after 5 t = blk3 V c 5 t := by dsimp only [pd3]
theorem pd3_after6 (c : Dev nD) (t : Fin cfg3.N) : (pd3 V c).after 6 t = attnOut (blk3 V c 0 t) (blk3 V c 1 t) (blk3 V c 2 t) (blk3 V c 3 t) (blk3 V c 4 t) (blk3 V c 5 t) := by dsimp only [pd3]

theorem pd3_before0 (c : Dev nD) (t : Fin cfg3.N) (d) : (pd3 V c).before 0 t d = blk3 V c 0 t :=
  ((pd3 V c).before_in_eq_fetched 0 rfl (fun _ => rfl) (fun _ _ _ => rfl) (fun t => by rw [pd3_after0]; unfold Dat.blockOf blk3; rw [pd3_A]; try rfl) t d).trans
    (by unfold Dat.fetched Dat.blockOf blk3; rw [pd3_A]; try rfl)
theorem pd3_before1 (c : Dev nD) (t : Fin cfg3.N) (d) : (pd3 V c).before 1 t d = blk3 V c 1 t :=
  ((pd3 V c).before_in_eq_fetched 1 rfl (fun _ => rfl) (fun _ _ _ => rfl) (fun t => by rw [pd3_after1]; unfold Dat.blockOf blk3; rw [pd3_A]; try rfl) t d).trans
    (by unfold Dat.fetched Dat.blockOf blk3; rw [pd3_A]; try rfl)
theorem pd3_before2 (c : Dev nD) (t : Fin cfg3.N) (d) : (pd3 V c).before 2 t d = blk3 V c 2 t :=
  ((pd3 V c).before_in_eq_fetched 2 rfl (fun _ => rfl) (fun _ _ _ => rfl) (fun t => by rw [pd3_after2]; unfold Dat.blockOf blk3; rw [pd3_A]; try rfl) t d).trans
    (by unfold Dat.fetched Dat.blockOf blk3; rw [pd3_A]; try rfl)
theorem pd3_before3 (c : Dev nD) (t : Fin cfg3.N) (d) : (pd3 V c).before 3 t d = blk3 V c 3 t :=
  ((pd3 V c).before_in_eq_fetched 3 rfl (fun _ => rfl) (fun _ _ _ => rfl) (fun t => by rw [pd3_after3]; unfold Dat.blockOf blk3; rw [pd3_A]; try rfl) t d).trans
    (by unfold Dat.fetched Dat.blockOf blk3; rw [pd3_A]; try rfl)
theorem pd3_before4 (c : Dev nD) (t : Fin cfg3.N) (d) : (pd3 V c).before 4 t d = blk3 V c 4 t :=
  ((pd3 V c).before_in_eq_fetched 4 rfl (fun _ => rfl) (fun _ _ _ => rfl) (fun t => by rw [pd3_after4]; unfold Dat.blockOf blk3; rw [pd3_A]; try rfl) t d).trans
    (by unfold Dat.fetched Dat.blockOf blk3; rw [pd3_A]; try rfl)
theorem pd3_before5 (c : Dev nD) (t : Fin cfg3.N) (d) : (pd3 V c).before 5 t d = blk3 V c 5 t :=
  ((pd3 V c).before_in_eq_fetched 5 rfl (fun _ => rfl) (fun _ _ _ => rfl) (fun t => by rw [pd3_after5]; unfold Dat.blockOf blk3; rw [pd3_A]; try rfl) t d).trans
    (by unfold Dat.fetched Dat.blockOf blk3; rw [pd3_A]; try rfl)

abbrev sc3_0 : Memref sig .tc .vmem S144x512 .f32 := Memref.whole cc3_scratch0
abbrev sc3_1 : Memref sig .tc .vmem S144x512 .f32 := Memref.whole cc3_scratch1
abbrev sc3_2 : Memref sig .tc .vmem S2x3328x512 .f32 := Memref.whole cc3_scratch2
abbrev sc3_3 : Memref sig .tc .vmem S2x3328x512 .f32 := Memref.whole cc3_scratch3

theorem phi3_eq (c : Dev nD) :
    (Pipeline.ΦA spec3 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ d, owns (c : Thread nD τ) sc3_0 fullShare d) ∗ (∃ d, owns (c : Thread nD τ) sc3_1 fullShare d) ∗ (∃ d, owns (c : Thread nD τ) sc3_2 fullShare d) ∗ (∃ d, owns (c : Thread nD τ) sc3_3 fullShare d) ∗ (∃ f : Buf (Elt F) ((c : Thread nD τ).loc cc0_stg0_0), ((c : Thread nD τ).loc cc0_stg0_0) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest3_eq]; simp only [sc3_0, sc3_1, sc3_2, sc3_3, owns_whole]; try rfl

/-- What the body starts from at a point. -/
def pre3 (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d))
    ∗ (∃ d, owns (c : Thread nD τ) (st3_3 t) fullShare ((pd3 V c).before 3 t d))
    ∗ (∃ d, owns (c : Thread nD τ) (st3_4 t) fullShare ((pd3 V c).before 4 t d))
    ∗ (∃ d, owns (c : Thread nD τ) (st3_5 t) fullShare ((pd3 V c).before 5 t d))
    ∗ (∃ d, owns (c : Thread nD τ) (st3_6 t) fullShare ((pd3 V c).before 6 t d)))

/-- What it leaves. -/
def post3 (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t)
    ∗ owns (c : Thread nD τ) (st3_3 t) fullShare ((pd3 V c).after 3 t)
    ∗ owns (c : Thread nD τ) (st3_4 t) fullShare ((pd3 V c).after 4 t)
    ∗ owns (c : Thread nD τ) (st3_5 t) fullShare ((pd3 V c).after 5 t)
    ∗ owns (c : Thread nD τ) (st3_6 t) fullShare ((pd3 V c).after 6 t))

set_option maxHeartbeats 1600000 in
theorem body3 (c : Dev nD) (t : Fin cfg3.N) :
    pre3 V c t ⊢ wp frame (wpE (defs₀ (F := F)) Variants.none c none) Set.univ (bodyAt3 t) (fun _ => post3 V c t) := by
  unfold pre3 post3 bodyAt3
  simp only [pd3_before0, pd3_before1, pd3_before2, pd3_before3, pd3_before4, pd3_before5]
  rw [show (pd3 V c).Φ t.succ = (pd3 V c).Φ t.castSucc from rfl, show (pd3 V c).owesAt () t.succ = (pd3 V c).owesAt () t.castSucc from rfl,
    pd3_after0, pd3_after1, pd3_after2, pd3_after3, pd3_after4, pd3_after5, pd3_after6]
  rw [show (pd3 V c).Φ t.castSucc = Pipeline.ΦA spec3 c from rfl, phi3_eq]
  unfold owns
  iintro ⟨⟨⟨HR0, HR1, HR2, HR3, HR4, HR5, HR6, HR7, HR8, HR9, HR10, HR11, ⟨%ds0, %fs0, -, HS0⟩, ⟨%ds1, %fs1, -, HS1⟩, ⟨%ds2, %fs2, -, HS2⟩, ⟨%ds3, %fs3, -, HS3⟩, HR16, HR17⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩⟩
  obtain rfl := (hst3_0 t).eq_unread h0; obtain rfl := (hst3_1 t).eq_unread h1; obtain rfl := (hst3_2 t).eq_unread h2; obtain rfl := (hst3_3 t).eq_unread h3; obtain rfl := (hst3_4 t).eq_unread h4; obtain rfl := (hst3_5 t).eq_unread h5
  iapply (wp_wand_r frame (wpE (defs₀ (F := F)) Variants.none (c : Thread nD τ) none) Set.univ)
  isplitl [H0 H1 H2 H3 H4 H5 H6 HS0 HS1 HS2 HS3]
  · iapply (body_run c (grid3.coords t) (st3_0 t) (hst3_0 t) (st3_1 t) (hst3_1 t) (st3_2 t) (hst3_2 t) (st3_3 t) (hst3_3 t) (st3_4 t) (hst3_4 t) (st3_5 t) (hst3_5 t) (st3_6 t) (hst3_6 t) sc3_0 (Memref.isWhole_whole _) sc3_1 (Memref.isWhole_whole _) sc3_2 (Memref.isWhole_whole _) sc3_3 (Memref.isWhole_whole _) (blk3 V c 0 t) (blk3 V c 1 t) (blk3 V c 2 t) (blk3 V c 3 t) (blk3 V c 4 t) (blk3 V c 5 t) f6 fs0 fs1 fs2 fs3 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  · iintro %r ⟨%g6, %gs0, %gs1, %gs2, %gs3, H0, H1, H2, H3, H4, H5, H6, HS0, HS1, HS2, HS3, %hr⟩
    isplitl [HR0 HR1 HR2 HR3 HR4 HR5 HR6 HR7 HR8 HR9 HR10 HR11 HS0 HS1 HS2 HS3 HR16 HR17 Hg]
    · isplitl [HR0 HR1 HR2 HR3 HR4 HR5 HR6 HR7 HR8 HR9 HR10 HR11 HS0 HS1 HS2 HS3 HR16 HR17]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HS0]
        · iexists _, _; isplitr
          swap; · iexact HS0
          ipureintro; rfl
        isplitl [HS1]
        · iexists _, _; isplitr
          swap; · iexact HS1
          ipureintro; rfl
        isplitl [HS2]
        · iexists _, _; isplitr
          swap; · iexact HS2
          ipureintro; rfl
        isplitl [HS3]
        · iexists _, _; isplitr
          swap; · iexact HS3
          ipureintro; rfl
        isplitl [HR16]; · iexact HR16
        iexact HR17
      iexact Hg
    isplitl [Ho]; · iexact Ho
    isplitl [H0]
    · iexists _; isplitr
      · ipureintro; exact (hst3_0 t).read_unread _
      iexact H0
    isplitl [H1]
    · iexists _; isplitr
      · ipureintro; exact (hst3_1 t).read_unread _
      iexact H1
    isplitl [H2]
    · iexists _; isplitr
      · ipureintro; exact (hst3_2 t).read_unread _
      iexact H2
    isplitl [H3]
    · iexists _; isplitr
      · ipureintro; exact (hst3_3 t).read_unread _
      iexact H3
    isplitl [H4]
    · iexists _; isplitr
      · ipureintro; exact (hst3_4 t).read_unread _
      iexact H4
    isplitl [H5]
    · iexists _; isplitr
      · ipureintro; exact (hst3_5 t).read_unread _
      iexact H5
    iexists _; isplitr
    swap; · iexact H6
    ipureintro; exact hr

theorem row3 (t : Fin cfg3.N) : defs₀ (F := F) .tc cfg3.body (cfg3.bodyArgs t (cfg3.slots t)) = bodyAt3 t := by
  unfold defs₀; rw [Defs.onTc_tc]

/-- The body does at every point what is said of it. -/
theorem oblig3 (c : Dev nD) : BodyObligation (pd3 (F := F) V c) (defs₀ (F := F)) Variants.none () Set.univ := fun t => by
  rw [bigSep_W3, bigSep_W3, row3]
  exact triple_restated (body3 V c t) rfl .rfl fun _ => .rfl

end Regions

end Cert.KernelIdeal.Attn

end
-- ==== Proof.Run.lean ====
/- The whole run: the host operations and the four calls, one after the other. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Regions
public import Idealize.ShloMosaic.Lib.WholeRead
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments' buffers. -/
abbrev args : List (Ref sig .tc) := [main_arg0, main_arg1, main_arg2, main_arg3, main_arg4, main_arg5, main_arg6, main_arg7, main_arg8, main_arg9, main_arg10, main_arg11]

theorem hostOps0_fr : (hostOps0 : List (HloOp τ sig (Elt F))).Forall fun op => op.fresh = ∅ := by
  simp only [List.Forall]; repeat' constructor
abbrev hostOps0_dst : List (Ref sig .tc) := [main_cst, main_v0, main_cst_0, main_v1, main_v2, main_v3, main_v4, main_v5, main_v6, main_v7, main_v8, main_v9, main_v10, main_cst_1, main_v11, main_c, main_v12, main_c_2, main_v13, main_v14, main_v15, main_c_3, main_v16, main_c_4, main_v17, main_v18, main_v19, main_c_5, main_v20, main_c_6, main_v21, main_v22, main_v23, main_c_7, main_v24, main_c_8, main_v25, main_v26, main_v27, main_cst_9, main_v28, main_v29, main_cst_10, main_v30, main_v31, main_v32, main_cst_11, main_v33, main_cst_12]
theorem hostOps0_wr : (hostOps0 : List (HloOp τ sig (Elt F))).Forall fun op => op.writes ⊆ (hostOps0_dst.map (Proc.devRef (τ := τ) .tc)).toFinset :=
  StableHlo.forall_writes_sub_of_map rfl
theorem hostOps0_keep : ∀ a ∈ args, a ∉ hostOps0_dst := ListAll.forall_mem_of_all_decide (by decide +kernel)

theorem hostOps0_1_fr : (hostOps0_1 : List (HloOp τ sig (Elt F))).Forall fun op => op.fresh = ∅ := by
  simp only [List.Forall]; repeat' constructor
abbrev hostOps0_1_dst : List (Ref sig .tc) := [main_call0_v0, main_v34]
theorem hostOps0_1_wr : (hostOps0_1 : List (HloOp τ sig (Elt F))).Forall fun op => op.writes ⊆ (hostOps0_1_dst.map (Proc.devRef (τ := τ) .tc)).toFinset :=
  StableHlo.forall_writes_sub_of_map rfl
theorem hostOps0_1_keep : ∀ a ∈ args, a ∉ hostOps0_1_dst := ListAll.forall_mem_of_all_decide (by decide +kernel)

theorem hostOps0_2_fr : (hostOps0_2 : List (HloOp τ sig (Elt F))).Forall fun op => op.fresh = ∅ := by
  simp only [List.Forall]; repeat' constructor
abbrev hostOps0_2_dst : List (Ref sig .tc) := [main_cst_13, main_v35, main_cst_14, main_v36, main_v37, main_v38, main_cst_15, main_v39, main_v40, main_cst_16, main_v41, main_v42, main_v43, main_cst_17, main_v44, main_cst_18]
theorem hostOps0_2_wr : (hostOps0_2 : List (HloOp τ sig (Elt F))).Forall fun op => op.writes ⊆ (hostOps0_2_dst.map (Proc.devRef (τ := τ) .tc)).toFinset :=
  StableHlo.forall_writes_sub_of_map rfl
theorem hostOps0_2_keep : ∀ a ∈ args, a ∉ hostOps0_2_dst := ListAll.forall_mem_of_all_decide (by decide +kernel)

theorem hostOps0_3_fr : (hostOps0_3 : List (HloOp τ sig (Elt F))).Forall fun op => op.fresh = ∅ := by
  simp only [List.Forall]; repeat' constructor
abbrev hostOps0_3_dst : List (Ref sig .tc) := [main_call1_v0, main_v45]
theorem hostOps0_3_wr : (hostOps0_3 : List (HloOp τ sig (Elt F))).Forall fun op => op.writes ⊆ (hostOps0_3_dst.map (Proc.devRef (τ := τ) .tc)).toFinset :=
  StableHlo.forall_writes_sub_of_map rfl
theorem hostOps0_3_keep : ∀ a ∈ args, a ∉ hostOps0_3_dst := ListAll.forall_mem_of_all_decide (by decide +kernel)

theorem hostOps0_4_fr : (hostOps0_4 : List (HloOp τ sig (Elt F))).Forall fun op => op.fresh = ∅ := by
  simp only [List.Forall]; repeat' constructor
abbrev hostOps0_4_dst : List (Ref sig .tc) := [main_cst_19, main_v46, main_cst_20, main_v47, main_v48, main_v49, main_v50]
theorem hostOps0_4_wr : (hostOps0_4 : List (HloOp τ sig (Elt F))).Forall fun op => op.writes ⊆ (hostOps0_4_dst.map (Proc.devRef (τ := τ) .tc)).toFinset :=
  StableHlo.forall_writes_sub_of_map rfl
theorem hostOps0_4_keep : ∀ a ∈ args, a ∉ hostOps0_4_dst := ListAll.forall_mem_of_all_decide (by decide +kernel)

theorem hostOps1_fr : (hostOps1 : List (HloOp τ sig (Elt F))).Forall fun op => op.fresh = ∅ := by
  simp only [List.Forall]; repeat' constructor
abbrev hostOps1_dst : List (Ref sig .tc) := [main_v52]
theorem hostOps1_wr : (hostOps1 : List (HloOp τ sig (Elt F))).Forall fun op => op.writes ⊆ (hostOps1_dst.map (Proc.devRef (τ := τ) .tc)).toFinset :=
  StableHlo.forall_writes_sub_of_map rfl
theorem hostOps1_keep : ∀ a ∈ args, a ∉ hostOps1_dst := ListAll.forall_mem_of_all_decide (by decide +kernel)

theorem hostOps3_fr : (hostOps3 : List (HloOp τ sig (Elt F))).Forall fun op => op.fresh = ∅ := by
  simp only [List.Forall]; repeat' constructor
abbrev hostOps3_dst : List (Ref sig .tc) := [main_v55, main_v56, main_cst_21, main_v57, main_v58, main_v59]
theorem hostOps3_wr : (hostOps3 : List (HloOp τ sig (Elt F))).Forall fun op => op.writes ⊆ (hostOps3_dst.map (Proc.devRef (τ := τ) .tc)).toFinset :=
  StableHlo.forall_writes_sub_of_map rfl
theorem hostOps3_keep : ∀ a ∈ args, a ∉ hostOps3_dst := ListAll.forall_mem_of_all_decide (by decide +kernel)

/-- The buffers at launch, -/
abbrev C0 : Dev nD → Valuation τ sig (Elt F) := fun c b => (s₀ m ρ).mem ((c : Dev nD), b)
theorem C0_args (c : Dev nD) : ∀ a ∈ args, C0 m ρ c (Proc.devRef .tc a) = m ((c : Thread nD τ).loc a) := fun _ _ => rfl

/- and after each item in turn. -/
abbrev C1 : Dev nD → Valuation τ sig (Elt F) := fun c => StableHlo.after hostOps0 (C0 m ρ c)
theorem C1_of (c : Dev nD) (r : Ref sig .tc) (h : r ∉ hostOps0_dst) : C1 m ρ c (Proc.devRef .tc r) = C0 m ρ c (Proc.devRef .tc r) :=
  StableHlo.after_of_writes_sub hostOps0 _ hostOps0_wr h
theorem C1_args (c : Dev nD) : ∀ a ∈ args, C1 m ρ c (Proc.devRef .tc a) = m ((c : Thread nD τ).loc a) :=
  fun a ha => (C1_of m ρ c a (hostOps0_keep a ha)).trans (C0_args m ρ c a ha)

abbrev C2 : Dev nD → Valuation τ sig (Elt F) := fun c => StableHlo.after hostOps0_1 (C1 m ρ c)
theorem C2_of (c : Dev nD) (r : Ref sig .tc) (h : r ∉ hostOps0_1_dst) : C2 m ρ c (Proc.devRef .tc r) = C1 m ρ c (Proc.devRef .tc r) :=
  StableHlo.after_of_writes_sub hostOps0_1 _ hostOps0_1_wr h
theorem C2_args (c : Dev nD) : ∀ a ∈ args, C2 m ρ c (Proc.devRef .tc a) = m ((c : Thread nD τ).loc a) :=
  fun a ha => (C2_of m ρ c a (hostOps0_1_keep a ha)).trans (C1_args m ρ c a ha)

abbrev C3 : Dev nD → Valuation τ sig (Elt F) := fun c => StableHlo.after hostOps0_2 (C2 m ρ c)
theorem C3_of (c : Dev nD) (r : Ref sig .tc) (h : r ∉ hostOps0_2_dst) : C3 m ρ c (Proc.devRef .tc r) = C2 m ρ c (Proc.devRef .tc r) :=
  StableHlo.after_of_writes_sub hostOps0_2 _ hostOps0_2_wr h
theorem C3_args (c : Dev nD) : ∀ a ∈ args, C3 m ρ c (Proc.devRef .tc a) = m ((c : Thread nD τ).loc a) :=
  fun a ha => (C3_of m ρ c a (hostOps0_2_keep a ha)).trans (C2_args m ρ c a ha)

abbrev C4 : Dev nD → Valuation τ sig (Elt F) := fun c => StableHlo.after hostOps0_3 (C3 m ρ c)
theorem C4_of (c : Dev nD) (r : Ref sig .tc) (h : r ∉ hostOps0_3_dst) : C4 m ρ c (Proc.devRef .tc r) = C3 m ρ c (Proc.devRef .tc r) :=
  StableHlo.after_of_writes_sub hostOps0_3 _ hostOps0_3_wr h
theorem C4_args (c : Dev nD) : ∀ a ∈ args, C4 m ρ c (Proc.devRef .tc a) = m ((c : Thread nD τ).loc a) :=
  fun a ha => (C4_of m ρ c a (hostOps0_3_keep a ha)).trans (C3_args m ρ c a ha)

abbrev C5 : Dev nD → Valuation τ sig (Elt F) := fun c => StableHlo.after hostOps0_4 (C4 m ρ c)
theorem C5_of (c : Dev nD) (r : Ref sig .tc) (h : r ∉ hostOps0_4_dst) : C5 m ρ c (Proc.devRef .tc r) = C4 m ρ c (Proc.devRef .tc r) :=
  StableHlo.after_of_writes_sub hostOps0_4 _ hostOps0_4_wr h
theorem C5_args (c : Dev nD) : ∀ a ∈ args, C5 m ρ c (Proc.devRef .tc a) = m ((c : Thread nD τ).loc a) :=
  fun a ha => (C5_of m ρ c a (hostOps0_4_keep a ha)).trans (C4_args m ρ c a ha)

abbrev B5 : (c : Dev nD) → (b : Ref sig .tc) → Buf (Elt F) ((c : Thread nD τ).loc b) := fun c b => C5 m ρ c b
def C6 (c : Dev nD) : Valuation τ sig (Elt F) := Pipeline.withArrays spec0 c (C5 m ρ c) fun w => (pd0 (B5 m ρ) c).arrAt w cfg0.N
theorem C6_arr (c : Dev nD) (w : Fin cfg0.W) : C6 m ρ c (Proc.devRef .tc (Pipeline.arrRef spec0 w)) = (pd0 (B5 m ρ) c).arrAt w cfg0.N := by
  unfold C6; exact Pipeline.withArrays_arr spec0 launch0.win.arr_inj c _ _ w
theorem C6_ne (c : Dev nD) (b : Ref sig .tc) (hb : ∀ w, Pipeline.arrRef spec0 w ≠ b) : C6 m ρ c (Proc.devRef .tc b) = C5 m ρ c (Proc.devRef .tc b) := by
  unfold C6; exact Pipeline.withArrays_of_ne spec0 c _ _ b hb
theorem C6_of (c : Dev nD) (r : Ref sig .tc) (h : ∀ w : Fin cfg0.W, Pipeline.arrRef spec0 w = r → (cfg0.win w).isOut = false) :
    C6 m ρ c (Proc.devRef .tc r) = C5 m ρ c (Proc.devRef .tc r) := by
  by_cases hw : ∃ w : Fin cfg0.W, Pipeline.arrRef spec0 w = r
  · obtain ⟨w, rfl⟩ := hw
    exact (C6_arr m ρ c w).trans (((pd0 (B5 m ρ) c).arrAt_in w (h w rfl) _).trans (pd0_A (B5 m ρ) c w))
  · exact C6_ne m ρ c r fun w e => hw ⟨w, e⟩
theorem in0_keep : ∀ a ∈ args, ∀ w : Fin cfg0.W, Pipeline.arrRef spec0 w = a → (cfg0.win w).isOut = false :=
  ListAll.forall_mem_of_all_decide (by decide +kernel)
theorem C6_args (c : Dev nD) : ∀ a ∈ args, C6 m ρ c (Proc.devRef .tc a) = m ((c : Thread nD τ).loc a) :=
  fun a ha => (C6_of m ρ c a (in0_keep a ha)).trans (C5_args m ρ c a ha)
abbrev E6 : (c : Dev nD) → (b : Ref sig .tc) → Buf (Elt F) ((c : Thread nD τ).loc b) := fun c b => C6 m ρ c b
theorem exit0 (c : Dev nD) (w : Fin cfg0.W) : (pd0 (B5 m ρ) c).arrAt w cfg0.N = E6 m ρ c (Pipeline.arrRef spec0 w) := (C6_arr m ρ c w).symm
theorem rest0 (c : Dev nD) : ∀ b, b ∉ Finset.univ.image (Pipeline.arrRef spec0) → E6 m ρ c b = B5 m ρ c b :=
  fun b hb => C6_ne m ρ c b fun w e => hb (Finset.mem_image.mpr ⟨w, Finset.mem_univ _, e⟩)

abbrev C7 : Dev nD → Valuation τ sig (Elt F) := fun c => StableHlo.after hostOps1 (C6 m ρ c)
theorem C7_of (c : Dev nD) (r : Ref sig .tc) (h : r ∉ hostOps1_dst) : C7 m ρ c (Proc.devRef .tc r) = C6 m ρ c (Proc.devRef .tc r) :=
  StableHlo.after_of_writes_sub hostOps1 _ hostOps1_wr h
theorem C7_args (c : Dev nD) : ∀ a ∈ args, C7 m ρ c (Proc.devRef .tc a) = m ((c : Thread nD τ).loc a) :=
  fun a ha => (C7_of m ρ c a (hostOps1_keep a ha)).trans (C6_args m ρ c a ha)

abbrev B7 : (c : Dev nD) → (b : Ref sig .tc) → Buf (Elt F) ((c : Thread nD τ).loc b) := fun c b => C7 m ρ c b
def C8 (c : Dev nD) : Valuation τ sig (Elt F) := Pipeline.withArrays spec1 c (C7 m ρ c) fun w => (pd1 (B7 m ρ) c).arrAt w cfg1.N
theorem C8_arr (c : Dev nD) (w : Fin cfg1.W) : C8 m ρ c (Proc.devRef .tc (Pipeline.arrRef spec1 w)) = (pd1 (B7 m ρ) c).arrAt w cfg1.N := by
  unfold C8; exact Pipeline.withArrays_arr spec1 launch1.win.arr_inj c _ _ w
theorem C8_ne (c : Dev nD) (b : Ref sig .tc) (hb : ∀ w, Pipeline.arrRef spec1 w ≠ b) : C8 m ρ c (Proc.devRef .tc b) = C7 m ρ c (Proc.devRef .tc b) := by
  unfold C8; exact Pipeline.withArrays_of_ne spec1 c _ _ b hb
theorem C8_of (c : Dev nD) (r : Ref sig .tc) (h : ∀ w : Fin cfg1.W, Pipeline.arrRef spec1 w = r → (cfg1.win w).isOut = false) :
    C8 m ρ c (Proc.devRef .tc r) = C7 m ρ c (Proc.devRef .tc r) := by
  by_cases hw : ∃ w : Fin cfg1.W, Pipeline.arrRef spec1 w = r
  · obtain ⟨w, rfl⟩ := hw
    exact (C8_arr m ρ c w).trans (((pd1 (B7 m ρ) c).arrAt_in w (h w rfl) _).trans (pd1_A (B7 m ρ) c w))
  · exact C8_ne m ρ c r fun w e => hw ⟨w, e⟩
theorem in1_keep : ∀ a ∈ args, ∀ w : Fin cfg1.W, Pipeline.arrRef spec1 w = a → (cfg1.win w).isOut = false :=
  ListAll.forall_mem_of_all_decide (by decide +kernel)
theorem C8_args (c : Dev nD) : ∀ a ∈ args, C8 m ρ c (Proc.devRef .tc a) = m ((c : Thread nD τ).loc a) :=
  fun a ha => (C8_of m ρ c a (in1_keep a ha)).trans (C7_args m ρ c a ha)
abbrev E8 : (c : Dev nD) → (b : Ref sig .tc) → Buf (Elt F) ((c : Thread nD τ).loc b) := fun c b => C8 m ρ c b
theorem exit1 (c : Dev nD) (w : Fin cfg1.W) : (pd1 (B7 m ρ) c).arrAt w cfg1.N = E8 m ρ c (Pipeline.arrRef spec1 w) := (C8_arr m ρ c w).symm
theorem rest1 (c : Dev nD) : ∀ b, b ∉ Finset.univ.image (Pipeline.arrRef spec1) → E8 m ρ c b = B7 m ρ c b :=
  fun b hb => C8_ne m ρ c b fun w e => hb (Finset.mem_image.mpr ⟨w, Finset.mem_univ _, e⟩)

abbrev B8 : (c : Dev nD) → (b : Ref sig .tc) → Buf (Elt F) ((c : Thread nD τ).loc b) := fun c b => C8 m ρ c b
def C9 (c : Dev nD) : Valuation τ sig (Elt F) := Pipeline.withArrays spec2 c (C8 m ρ c) fun w => (pd2 (B8 m ρ) c).arrAt w cfg2.N
theorem C9_arr (c : Dev nD) (w : Fin cfg2.W) : C9 m ρ c (Proc.devRef .tc (Pipeline.arrRef spec2 w)) = (pd2 (B8 m ρ) c).arrAt w cfg2.N := by
  unfold C9; exact Pipeline.withArrays_arr spec2 launch2.win.arr_inj c _ _ w
theorem C9_ne (c : Dev nD) (b : Ref sig .tc) (hb : ∀ w, Pipeline.arrRef spec2 w ≠ b) : C9 m ρ c (Proc.devRef .tc b) = C8 m ρ c (Proc.devRef .tc b) := by
  unfold C9; exact Pipeline.withArrays_of_ne spec2 c _ _ b hb
theorem C9_of (c : Dev nD) (r : Ref sig .tc) (h : ∀ w : Fin cfg2.W, Pipeline.arrRef spec2 w = r → (cfg2.win w).isOut = false) :
    C9 m ρ c (Proc.devRef .tc r) = C8 m ρ c (Proc.devRef .tc r) := by
  by_cases hw : ∃ w : Fin cfg2.W, Pipeline.arrRef spec2 w = r
  · obtain ⟨w, rfl⟩ := hw
    exact (C9_arr m ρ c w).trans (((pd2 (B8 m ρ) c).arrAt_in w (h w rfl) _).trans (pd2_A (B8 m ρ) c w))
  · exact C9_ne m ρ c r fun w e => hw ⟨w, e⟩
theorem in2_keep : ∀ a ∈ args, ∀ w : Fin cfg2.W, Pipeline.arrRef spec2 w = a → (cfg2.win w).isOut = false :=
  ListAll.forall_mem_of_all_decide (by decide +kernel)
theorem C9_args (c : Dev nD) : ∀ a ∈ args, C9 m ρ c (Proc.devRef .tc a) = m ((c : Thread nD τ).loc a) :=
  fun a ha => (C9_of m ρ c a (in2_keep a ha)).trans (C8_args m ρ c a ha)
abbrev E9 : (c : Dev nD) → (b : Ref sig .tc) → Buf (Elt F) ((c : Thread nD τ).loc b) := fun c b => C9 m ρ c b
theorem exit2 (c : Dev nD) (w : Fin cfg2.W) : (pd2 (B8 m ρ) c).arrAt w cfg2.N = E9 m ρ c (Pipeline.arrRef spec2 w) := (C9_arr m ρ c w).symm
theorem rest2 (c : Dev nD) : ∀ b, b ∉ Finset.univ.image (Pipeline.arrRef spec2) → E9 m ρ c b = B8 m ρ c b :=
  fun b hb => C9_ne m ρ c b fun w e => hb (Finset.mem_image.mpr ⟨w, Finset.mem_univ _, e⟩)

abbrev C10 : Dev nD → Valuation τ sig (Elt F) := fun c => StableHlo.after hostOps3 (C9 m ρ c)
theorem C10_of (c : Dev nD) (r : Ref sig .tc) (h : r ∉ hostOps3_dst) : C10 m ρ c (Proc.devRef .tc r) = C9 m ρ c (Proc.devRef .tc r) :=
  StableHlo.after_of_writes_sub hostOps3 _ hostOps3_wr h
theorem C10_args (c : Dev nD) : ∀ a ∈ args, C10 m ρ c (Proc.devRef .tc a) = m ((c : Thread nD τ).loc a) :=
  fun a ha => (C10_of m ρ c a (hostOps3_keep a ha)).trans (C9_args m ρ c a ha)

abbrev B10 : (c : Dev nD) → (b : Ref sig .tc) → Buf (Elt F) ((c : Thread nD τ).loc b) := fun c b => C10 m ρ c b
def C11 (c : Dev nD) : Valuation τ sig (Elt F) := Pipeline.withArrays spec3 c (C10 m ρ c) fun w => (pd3 (B10 m ρ) c).arrAt w cfg3.N
theorem C11_arr (c : Dev nD) (w : Fin cfg3.W) : C11 m ρ c (Proc.devRef .tc (Pipeline.arrRef spec3 w)) = (pd3 (B10 m ρ) c).arrAt w cfg3.N := by
  unfold C11; exact Pipeline.withArrays_arr spec3 launch3.win.arr_inj c _ _ w
theorem C11_ne (c : Dev nD) (b : Ref sig .tc) (hb : ∀ w, Pipeline.arrRef spec3 w ≠ b) : C11 m ρ c (Proc.devRef .tc b) = C10 m ρ c (Proc.devRef .tc b) := by
  unfold C11; exact Pipeline.withArrays_of_ne spec3 c _ _ b hb
theorem C11_of (c : Dev nD) (r : Ref sig .tc) (h : ∀ w : Fin cfg3.W, Pipeline.arrRef spec3 w = r → (cfg3.win w).isOut = false) :
    C11 m ρ c (Proc.devRef .tc r) = C10 m ρ c (Proc.devRef .tc r) := by
  by_cases hw : ∃ w : Fin cfg3.W, Pipeline.arrRef spec3 w = r
  · obtain ⟨w, rfl⟩ := hw
    exact (C11_arr m ρ c w).trans (((pd3 (B10 m ρ) c).arrAt_in w (h w rfl) _).trans (pd3_A (B10 m ρ) c w))
  · exact C11_ne m ρ c r fun w e => hw ⟨w, e⟩
theorem in3_keep : ∀ a ∈ args, ∀ w : Fin cfg3.W, Pipeline.arrRef spec3 w = a → (cfg3.win w).isOut = false :=
  ListAll.forall_mem_of_all_decide (by decide +kernel)
theorem C11_args (c : Dev nD) : ∀ a ∈ args, C11 m ρ c (Proc.devRef .tc a) = m ((c : Thread nD τ).loc a) :=
  fun a ha => (C11_of m ρ c a (in3_keep a ha)).trans (C10_args m ρ c a ha)
abbrev E11 : (c : Dev nD) → (b : Ref sig .tc) → Buf (Elt F) ((c : Thread nD τ).loc b) := fun c b => C11 m ρ c b
theorem exit3 (c : Dev nD) (w : Fin cfg3.W) : (pd3 (B10 m ρ) c).arrAt w cfg3.N = E11 m ρ c (Pipeline.arrRef spec3 w) := (C11_arr m ρ c w).symm
theorem rest3 (c : Dev nD) : ∀ b, b ∉ Finset.univ.image (Pipeline.arrRef spec3) → E11 m ρ c b = B10 m ρ c b :=
  fun b hb => C11_ne m ρ c b fun w e => hb (Finset.mem_image.mpr ⟨w, Finset.mem_univ _, e⟩)

/-! # The launch -/

abbrev adm : (p : Fin 4) → (pcfgs (F := F) p).Adm := fun p => (cfgs p).toPCfg_adm
/-- The four calls' data, each over the buffers it is entered with. -/
def pds : (p : Fin 4) → (c : Dev nD) → Dat τ (Elt F) Unit ℕ (UR sig nD τ) ℕ (Pipeline.pin (pcfgs (F := F)) adm p) c
  | ⟨0, _⟩ => fun c => pd0 (B5 m ρ) c
  | ⟨1, _⟩ => fun c => pd1 (B7 m ρ) c
  | ⟨2, _⟩ => fun c => pd2 (B8 m ρ) c
  | ⟨3, _⟩ => fun c => pd3 (B10 m ρ) c
abbrev nolv : GSem nD τ sig → Finset Unit := fun _ => ∅
abbrev zlv : GSem nD τ sig → Unit → ℕ := fun _ _ => 0
/-- What goes along beside the buffers. -/
abbrev Side (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfr : ops.Forall fun op => op.fresh = ∅) (W : Dev nD → Valuation τ sig (Elt F)) :
    Pipeline.HostSeg (Name := ℕ) (U := UR sig nD τ) (pcfgs (F := F)) defs₀ Variants.none nolv zlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfr) op h) W Side
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Last (c : Dev nD) : sProp 𝕄 := iprop(StableHlo.held (c : Thread nD τ) (Pipeline.ucRefs τ sig) (C11 m ρ c) ∗ ∃ r, prngReg c r)

set_option backward.isDefEq.respectTransparency.types false in
/-- Call 0, from the buffers before it to the buffers after it. -/
def seg0 : Pipeline.RegionSeg (pcfgs (F := F)) adm (pds m ρ) () defs₀ Variants.none nolv zlv 0 where
  win := launch0.win.to₀
  block_pos := launch0.block_pos
  stage_whole := launch0.stage_whole
  K := PEmpty
  osem k := k.elim
  ho := Pipeline.OwnSemFacts.none _
  hbody c := (oblig0 (B5 m ρ) c).loose
  hwaits := Pipeline.hwaits_of_owed_zero _ _ _ _ nolv zlv 0 fun _ _ => rfl
  pre c := iprop(StableHlo.held (c : Thread nD τ) (Pipeline.ucRefs τ sig) (C5 m ρ c) ∗ Side c)
  post c := iprop(StableHlo.held (c : Thread nD τ) (Pipeline.ucRefs τ sig) (C6 m ρ c) ∗ Side c)
  X c := iprop(∃ r, prngReg c r)
  Y c := iprop(∃ r, prngReg c r)
  Z c := Pipeline.unscopedRest (Ix := Unit) (Name := ℕ) (U := UR sig nD τ) (Lvl := ℕ) spec0 c (B5 m ρ c)
  hentry c := by
    rw [Pipeline.ownSems0_none]
    have hs := Pipeline.arrays_of_unscopedBufs (p := 0) (pcfgs (F := F)) adm (pds m ρ) launch0.win launch0.arr_whole c
      ((pds m ρ 0 c).share_full fun _ => rfl) (B5 m ρ c) (pd0_A (B5 m ρ) c)
    rw [Pipeline.unscopedBufs_held] at hs
    iintro ⟨⟨Hb, Hp, Ho⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hp]; · iexact Hp
    iexact Hr
  hin c := by
    rw [show (pds m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      launch0.win launch0.arr_whole c (pds m ρ) ((pds m ρ 0 c).share_full fun _ => rfl)
      (B5 m ρ c) (E6 m ρ c) ((pds m ρ 0 c).arrAt · cfg0.N) (exit0 m ρ c) (rest0 m ρ c)
    rw [Pipeline.unscopedBufs_held] at hj
    iintro ⟨Ha, Ho, Hp, Hr⟩
    imodintro
    isplitl [Ha Hr]
    · iapply hj; isplitl [Ha] <;> iassumption
    isplitl [Hp]; · iexact Hp
    unfold Pipeline.Dat.owesAt Pipeline.owesWithin
    icases Ho with ⟨%W, -, Ho⟩; iexists W; iexact Ho

set_option backward.isDefEq.respectTransparency.types false in
/-- Call 1, from the buffers before it to the buffers after it. -/
def seg1 : Pipeline.RegionSeg (pcfgs (F := F)) adm (pds m ρ) () defs₀ Variants.none nolv zlv 1 where
  win := launch1.win.to₀
  block_pos := launch1.block_pos
  stage_whole := launch1.stage_whole
  K := PEmpty
  osem k := k.elim
  ho := Pipeline.OwnSemFacts.none _
  hbody c := (oblig1 (B7 m ρ) c).loose
  hwaits := Pipeline.hwaits_of_owed_zero _ _ _ _ nolv zlv 1 fun _ _ => rfl
  pre c := iprop(StableHlo.held (c : Thread nD τ) (Pipeline.ucRefs τ sig) (C7 m ρ c) ∗ Side c)
  post c := iprop(StableHlo.held (c : Thread nD τ) (Pipeline.ucRefs τ sig) (C8 m ρ c) ∗ Side c)
  X c := iprop(∃ r, prngReg c r)
  Y c := iprop(∃ r, prngReg c r)
  Z c := Pipeline.unscopedRest (Ix := Unit) (Name := ℕ) (U := UR sig nD τ) (Lvl := ℕ) spec1 c (B7 m ρ c)
  hentry c := by
    rw [Pipeline.ownSems0_none]
    have hs := Pipeline.arrays_of_unscopedBufs (p := 1) (pcfgs (F := F)) adm (pds m ρ) launch1.win launch1.arr_whole c
      ((pds m ρ 1 c).share_full fun _ => rfl) (B7 m ρ c) (pd1_A (B7 m ρ) c)
    rw [Pipeline.unscopedBufs_held] at hs
    iintro ⟨⟨Hb, Hp, Ho⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hp]; · iexact Hp
    iexact Hr
  hin c := by
    rw [show (pds m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pds m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      launch1.win launch1.arr_whole c (pds m ρ) ((pds m ρ 1 c).share_full fun _ => rfl)
      (B7 m ρ c) (E8 m ρ c) ((pds m ρ 1 c).arrAt · cfg1.N) (exit1 m ρ c) (rest1 m ρ c)
    rw [Pipeline.unscopedBufs_held] at hj
    iintro ⟨Ha, Ho, Hp, Hr⟩
    imodintro
    isplitl [Ha Hr]
    · iapply hj; isplitl [Ha] <;> iassumption
    isplitl [Hp]; · iexact Hp
    unfold Pipeline.Dat.owesAt Pipeline.owesWithin
    icases Ho with ⟨%W, -, Ho⟩; iexists W; iexact Ho

set_option backward.isDefEq.respectTransparency.types false in
/-- Call 2, from the buffers before it to the buffers after it. -/
def seg2 : Pipeline.RegionSeg (pcfgs (F := F)) adm (pds m ρ) () defs₀ Variants.none nolv zlv 2 where
  win := launch2.win.to₀
  block_pos := launch2.block_pos
  stage_whole := launch2.stage_whole
  K := PEmpty
  osem k := k.elim
  ho := Pipeline.OwnSemFacts.none _
  hbody c := (oblig2 (B8 m ρ) c).loose
  hwaits := Pipeline.hwaits_of_owed_zero _ _ _ _ nolv zlv 2 fun _ _ => rfl
  pre c := iprop(StableHlo.held (c : Thread nD τ) (Pipeline.ucRefs τ sig) (C8 m ρ c) ∗ Side c)
  post c := iprop(StableHlo.held (c : Thread nD τ) (Pipeline.ucRefs τ sig) (C9 m ρ c) ∗ Side c)
  X c := iprop(∃ r, prngReg c r)
  Y c := iprop(∃ r, prngReg c r)
  Z c := Pipeline.unscopedRest (Ix := Unit) (Name := ℕ) (U := UR sig nD τ) (Lvl := ℕ) spec2 c (B8 m ρ c)
  hentry c := by
    rw [Pipeline.ownSems0_none]
    have hs := Pipeline.arrays_of_unscopedBufs (p := 2) (pcfgs (F := F)) adm (pds m ρ) launch2.win launch2.arr_whole c
      ((pds m ρ 2 c).share_full fun _ => rfl) (B8 m ρ c) (pd2_A (B8 m ρ) c)
    rw [Pipeline.unscopedBufs_held] at hs
    iintro ⟨⟨Hb, Hp, Ho⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hp]; · iexact Hp
    iexact Hr
  hin c := by
    rw [show (pds m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pds m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hj := Pipeline.unscopedBufs_of_arrays (p := 2) (pcfgs (F := F)) adm (Ix := Unit) (Name := ℕ) (U := UR sig nD τ) (Lvl := ℕ)
      launch2.win launch2.arr_whole c (pds m ρ) ((pds m ρ 2 c).share_full fun _ => rfl)
      (B8 m ρ c) (E9 m ρ c) ((pds m ρ 2 c).arrAt · cfg2.N) (exit2 m ρ c) (rest2 m ρ c)
    rw [Pipeline.unscopedBufs_held] at hj
    iintro ⟨Ha, Ho, Hp, Hr⟩
    imodintro
    isplitl [Ha Hr]
    · iapply hj; isplitl [Ha] <;> iassumption
    isplitl [Hp]; · iexact Hp
    unfold Pipeline.Dat.owesAt Pipeline.owesWithin
    icases Ho with ⟨%W, -, Ho⟩; iexists W; iexact Ho

set_option backward.isDefEq.respectTransparency.types false in
/-- Call 3, from the buffers before it to the buffers after it. -/
def seg3 : Pipeline.RegionSeg (pcfgs (F := F)) adm (pds m ρ) () defs₀ Variants.none nolv zlv 3 where
  win := launch3.win.to₀
  block_pos := launch3.block_pos
  stage_whole := launch3.stage_whole
  K := PEmpty
  osem k := k.elim
  ho := Pipeline.OwnSemFacts.none _
  hbody c := (oblig3 (B10 m ρ) c).loose
  hwaits := Pipeline.hwaits_of_owed_zero _ _ _ _ nolv zlv 3 fun _ _ => rfl
  pre c := iprop(StableHlo.held (c : Thread nD τ) (Pipeline.ucRefs τ sig) (C10 m ρ c) ∗ Side c)
  post c := iprop(StableHlo.held (c : Thread nD τ) (Pipeline.ucRefs τ sig) (C11 m ρ c) ∗ Side c)
  X c := iprop(∃ r, prngReg c r)
  Y c := iprop(∃ r, prngReg c r)
  Z c := Pipeline.unscopedRest (Ix := Unit) (Name := ℕ) (U := UR sig nD τ) (Lvl := ℕ) spec3 c (B10 m ρ c)
  hentry c := by
    rw [Pipeline.ownSems0_none]
    have hs := Pipeline.arrays_of_unscopedBufs (p := 3) (pcfgs (F := F)) adm (pds m ρ) launch3.win launch3.arr_whole c
      ((pds m ρ 3 c).share_full fun _ => rfl) (B10 m ρ c) (pd3_A (B10 m ρ) c)
    rw [Pipeline.unscopedBufs_held] at hs
    iintro ⟨⟨Hb, Hp, Ho⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hp]; · iexact Hp
    iexact Hr
  hin c := by
    rw [show (pds m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pds m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hj := Pipeline.unscopedBufs_of_arrays (p := 3) (pcfgs (F := F)) adm (Ix := Unit) (Name := ℕ) (U := UR sig nD τ) (Lvl := ℕ)
      launch3.win launch3.arr_whole c (pds m ρ) ((pds m ρ 3 c).share_full fun _ => rfl)
      (B10 m ρ c) (E11 m ρ c) ((pds m ρ 3 c).arrAt · cfg3.N) (exit3 m ρ c) (rest3 m ρ c)
    rw [Pipeline.unscopedBufs_held] at hj
    iintro ⟨Ha, Ho, Hp, Hr⟩
    imodintro
    isplitl [Ha Hr]
    · iapply hj; isplitl [Ha] <;> iassumption
    isplitl [Hp]; · iexact Hp
    unfold Pipeline.Dat.owesAt Pipeline.owesWithin
    icases Ho with ⟨%W, -, Ho⟩; iexists W; iexact Ho

abbrev allSegs : List (Pipeline.Seg (pcfgs (F := F)) adm (pds m ρ) () defs₀ Variants.none nolv zlv) :=
  [ .host (hostSeg hostOps0 hostOps0_sub hostOps0_fr (C0 m ρ)),
    .host (hostSeg hostOps0_1 hostOps0_1_sub hostOps0_1_fr (C1 m ρ)),
    .host (hostSeg hostOps0_2 hostOps0_2_sub hostOps0_2_fr (C2 m ρ)),
    .host (hostSeg hostOps0_3 hostOps0_3_sub hostOps0_3_fr (C3 m ρ)),
    .host (hostSeg hostOps0_4 hostOps0_4_sub hostOps0_4_fr (C4 m ρ)),
    .region (seg0 m ρ),
    .host (hostSeg hostOps1 hostOps1_sub hostOps1_fr (C6 m ρ)),
    .region (seg1 m ρ),
    .region (seg2 m ρ),
    .host (hostSeg hostOps3 hostOps3_sub hostOps3_fr (C9 m ρ)),
    .region (seg3 m ρ) ]
theorem main_segs (c : Dev nD) : main (F := F) c = Pipeline.Seg.run (allSegs m ρ) := (main_chain c).trans (by chain_rfl)
theorem all_scoped : ∀ sm : SemLoc sig, sm.isScoped .tc = true := by decide

theorem last_eq (c : Dev nD) : iprop(StableHlo.held (c : Thread nD τ) (Pipeline.ucRefs τ sig) (C11 m ρ c) ∗ Side c)
    ⊢ iprop(Last m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- The run ends with every buffer outside the calls' own as the last item leaves it and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = C11 m ρ c b) ∧ r.2.sem = fun _ => 0) :=
  Pipeline.θ_run_regions_kit_sems (pcfgs (F := F)) adm (pds m ρ) () cellOf_inj emb₁ defs₀ Variants.none nolv zlv m ρ main (allSegs m ρ)
    (fun c Q => by rw [main_segs m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m ρ c) ∗ Side c)) (Tₙ := Last m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => last_eq m ρ c⟩)
    (hinit := by
      refine Pipeline.initEach nolv zlv fun c => ?_
      rw [show unscopedBufs c (fun b => m ((c : Thread nD τ).loc b)) = StableHlo.held (c : Thread nD τ) (Pipeline.ucRefs τ sig) (C0 m ρ c)
        from Pipeline.unscopedBufs_held c (C0 m ρ c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = C11 m ρ c b)
    (hfin := fun c s' => by
      iintro ⟨⟨Hh, -⟩, Hs⟩
      unfold StableHlo.held
      imodintro
      iapply (pointsTo_read_all (Pipeline.ucRefs τ sig) (fun b => (((c : Thread nD τ)).1, b)) (C11 m ρ c) s')
      isplitl [Hh] <;> iassumption)
    (hQ := fun s h hz => ⟨h, funext fun g => hz g (.inr (all_scoped g.2))⟩)

theorem args_uc : ∀ a ∈ args, ¬ (Proc.devRef .tc a : DevRef τ sig).isScoped := by
  intro a ha; simp only [args, List.mem_cons, List.not_mem_nil, or_false] at ha
  rcases ha with rfl | rfl | rfl | rfl | rfl | rfl | rfl | rfl | rfl | rfl | rfl | rfl <;> decide

/-- What the run leaves: the arguments as they were, the result as the attention call leaves it, the semaphores at zero. -/
theorem run_main : θ_run defs (onTc (τ := τ) (main (F := F))) ⟨m, fun _ => 0, ρ⟩ (fun r =>
      (∀ c : Dev nD, ∀ a ∈ args, r.2.mem ((c.tc : Thread nD τ).loc a) = m ((c.tc : Thread nD τ).loc a))
      ∧ (∀ c : Dev nD, r.2.mem ((c.tc : Thread nD τ).loc main_v60) = (pd3 (B10 m ρ) c).arrAt 6 cfg3.N) ∧ r.2.sem = fun _ => 0) :=
  (θ_run defs _ _).mono (fun r h => ⟨fun c a ha => (h.1 c _ (uc_mem a (args_uc a ha))).trans (C11_args m ρ c a ha),
    fun c => (h.1 c _ (uc_mem main_v60 (by decide))).trans (C11_arr m ρ c 6), h.2⟩) (run_all m ρ)

end Cert.KernelIdeal.Attn

end
-- ==== Proof.Kept.lean ====
/- The arguments after the run, one by one. -/
module

public import proofs.«01_k».proof.Defs
public import proofs.«01_k».proof.Proof.Run

@[expose] public section

noncomputable section

namespace Cert.Proof

open Idealize.ShloMosaic Idealize.SL.Sem

/-- What the run says of the arguments, one by one. -/
theorem kept {F : FTy → Type} [FloatOps F] (m : (ℓ : Loc Cert.KernelIdeal.nD Cert.KernelIdeal.τ Cert.KernelIdeal.sig) → Buf (Elt F) ℓ) (s : MemSt Cert.KernelIdeal.nD Cert.KernelIdeal.τ Cert.KernelIdeal.sig (Elt F)) (c : Dev Cert.KernelIdeal.nD)
    (h : ∀ a ∈ Cert.KernelIdeal.Attn.args, s.mem ((c.tc : Thread Cert.KernelIdeal.nD Cert.KernelIdeal.τ).loc a) = m ((c.tc : Thread Cert.KernelIdeal.nD Cert.KernelIdeal.τ).loc a)) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ s.mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ s.mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ s.mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ s.mem ((c.tc : Thread Cert.KernelIdeal.nD Cert.KernelIdeal.τ).loc Cert.KernelIdeal.main_arg11) = m ((c.tc : Thread Cert.KernelIdeal.nD Cert.KernelIdeal.τ).loc Cert.KernelIdeal.main_arg11) :=
  ⟨h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args]), h _ (by simp [Cert.KernelIdeal.Attn.args])⟩

end Cert.Proof

end
-- ==== Proof.SameHost.lean ====
/- The host's program in the kernel and in its ideal form is one program: the texts are the same. -/
module

public import proofs.«01_k».proof.Defs
public import proofs.«01_k».proof.Proof.Gen.Kernel
public import proofs.«01_k».proof.Proof.Gen.KernelIdeal

@[expose] public section

set_option maxRecDepth 100000
set_option maxHeartbeats 20000000

noncomputable section

namespace Cert.Proof

open Idealize.ShloMosaic Idealize.SL.Sem

variable [Cert.Kernel.Facts] [Cert.KernelIdeal.Facts]

/-- The first call of the choice between two scalars is the same in the two programs. -/
theorem same_where0 : Cert.Kernel.fn_where.body (F := Bits) (.of Cert.Kernel.main_v28) (.of Cert.Kernel.main_v33) (.of Cert.Kernel.main_cst_12) Cert.Kernel.main_call0
    = Cert.KernelIdeal.fn_where.body (F := Bits) (.of Cert.KernelIdeal.main_v28) (.of Cert.KernelIdeal.main_v33) (.of Cert.KernelIdeal.main_cst_12) Cert.KernelIdeal.main_call0 := by
  delta Cert.Kernel.fn_where.body Cert.KernelIdeal.fn_where.body Cert.Kernel.main_call0 Cert.KernelIdeal.main_call0
  dsimp only
  rfl

/-- The second call of the choice between two scalars is the same in the two programs. -/
theorem same_where1 : Cert.Kernel.fn_where.body (F := Bits) (.of Cert.Kernel.main_v39) (.of Cert.Kernel.main_v44) (.of Cert.Kernel.main_cst_18) Cert.Kernel.main_call1
    = Cert.KernelIdeal.fn_where.body (F := Bits) (.of Cert.KernelIdeal.main_v39) (.of Cert.KernelIdeal.main_v44) (.of Cert.KernelIdeal.main_cst_18) Cert.KernelIdeal.main_call1 := by
  delta Cert.Kernel.fn_where.body Cert.KernelIdeal.fn_where.body Cert.Kernel.main_call1 Cert.KernelIdeal.main_call1
  dsimp only
  rfl

/-- The host's first sixty lines are the same in the two programs. -/
theorem same_part0 (d : Dev Cert.Kernel.nD) : Cert.Kernel.main_part0 (F := Bits) d = Cert.KernelIdeal.main_part0 (F := Bits) d := by
  delta Cert.Kernel.main_part0 Cert.KernelIdeal.main_part0
  dsimp only
  rw [same_where0]
  rfl

/-- The host's other lines are the same in the two programs. -/
theorem same_part1 (d : Dev Cert.Kernel.nD) : Cert.Kernel.main_part1 (F := Bits) d = Cert.KernelIdeal.main_part1 (F := Bits) d := by
  delta Cert.Kernel.main_part1 Cert.KernelIdeal.main_part1
  dsimp only
  rw [same_where1]
  rfl

end Cert.Proof
end
-- ==== Proof.SameMain.lean ====
/- The kernel's program and the ideal form's, over the same float values, are one. -/
module

public import proofs.«01_k».proof.Proof.SameHost

@[expose] public section

set_option maxRecDepth 100000
set_option maxHeartbeats 20000000

noncomputable section

namespace Cert.Proof

open Idealize.ShloMosaic Idealize.SL.Sem

variable [Cert.Kernel.Facts] [Cert.KernelIdeal.Facts]

/-- The host's program is the same in the two. -/
theorem same_main (d : Dev Cert.Kernel.nD) : Cert.Kernel.main (F := Bits) d = Cert.KernelIdeal.main (F := Bits) d := by
  delta Cert.Kernel.main Cert.KernelIdeal.main
  rw [same_part0, same_part1]
  rfl

/-- As a program of every device. -/
theorem same_prog : onTc (τ := Cert.Kernel.τ) (Cert.Kernel.main (F := Bits)) = onTc (τ := Cert.KernelIdeal.τ) (Cert.KernelIdeal.main (F := Bits)) := by
  have e : Cert.Kernel.main (F := Bits) = Cert.KernelIdeal.main (F := Bits) := funext same_main
  rw [e]
  rfl

end Cert.Proof
end
-- ==== Proof.SameDefs.lean ====
/- The kernels' bodies in the kernel and in its ideal form are the same. -/
module

public import proofs.«01_k».proof.Defs
public import proofs.«01_k».proof.Proof.Gen.Kernel
public import proofs.«01_k».proof.Proof.Gen.KernelIdeal

@[expose] public section

set_option maxRecDepth 100000
set_option maxHeartbeats 1000000

noncomputable section

namespace Cert.Proof

open Idealize.ShloMosaic Idealize.SL.Sem

variable [Cert.Kernel.Facts] [Cert.KernelIdeal.Facts]

/-- The bodies are the same. -/
theorem same_bodies : @Cert.Kernel.defs₀ Bits _ _ = @Cert.KernelIdeal.defs₀ Bits _ _ := by
  funext pr l a
  cases pr with
  | tc =>
    match l, a with
    | ⟨0, _⟩, (t, s) => rfl
    | ⟨1, _⟩, (t, s) => rfl
    | ⟨2, _⟩, (t, s) => rfl
    | ⟨3, _⟩, (t, s) => rfl
  | scScalar _ => rfl
  | scVector _ _ => rfl

/-- The bodies and the calls are the same. -/
theorem same_defs : @Cert.Kernel.defs Bits _ _ = @Cert.KernelIdeal.defs Bits _ _ := by
  delta Cert.Kernel.defs Cert.KernelIdeal.defs
  rw [same_bodies]
  rfl

end Cert.Proof
end
-- ==== Proof.Frames.lean ====
/- The frames of the three programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kept
public import proofs.«01_k».proof.Proof.SameMain
public import proofs.«01_k».proof.Proof.SameDefs

@[expose] public section

noncomputable section

namespace Cert.Proof

open Idealize.ShloMosaic Idealize.SL.Sem

set_option maxHeartbeats 20000000 in
set_option maxRecDepth 100000 in
/-- The kernel's frame: its program is the ideal form's, whose run is over any float values. -/
theorem frame_kernel : Cert.quiescent_Kernel := fun m ρ _ => by
  rw [same_defs, same_prog]
  exact (θ_run Cert.KernelIdeal.defs _ _).mono (fun r h => ⟨fun c => kept m r.2 c (h.1 c), h.2.2⟩) (Cert.KernelIdeal.Attn.run_main (F := Bits) m ρ)

/-- The ideal form's frame. -/
theorem frame_ideal : Cert.quiescent_KernelIdeal := fun m ρ _ =>
  (θ_run Cert.KernelIdeal.defs _ _).mono (fun r h => ⟨fun c => kept m r.2 c (h.1 c), h.2.2⟩) (Cert.KernelIdeal.Attn.run_main (F := Ideal) m ρ)

/-- The reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Host.lean ====
/- What the host operations before the calls leave: the scaled queries, the keys and values in one line each, the two
   scales, and the rows for the components' weight. -/
module

public import proofs.«01_k».proof.Proof.Run
public import Idealize.ShloMosaic.Lib.Claim
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

section
variable (W : Valuation τ sig (Elt Ideal))

/-- A scalar's exponent, through its logarithm. -/
def exponent (x : FVec Ideal S_ .f32) : FVec Ideal S_ .f32 :=
  addf (Host.floor (mulf (Host.log x) (broadcastInDim S_ ![] bcast_S_S_ (constant S_ .f32 0x3FB8AA3B#32 : FVec Ideal S_ .f32)))) (constant S_ .f32 0x3F800000#32)

/-- The scale of an operand whose greatest magnitude is `x`: 2 to the power 5 less `x`'s exponent. -/
def powScale (x : FVec Ideal S_ .f32) : FVec Ideal S_ .f32 :=
  Host.exp (mulf (broadcastInDim S_ ![] bcast_S_S_ (constant S_ .f32 0x3F317218#32 : FVec Ideal S_ .f32))
    (subf (constant S_ .f32 0x40A00000#32) (select (cmpf .ogt x (constant S_ .f32 0x00000000#32)) (exponent x) (constant S_ .f32 0x00000000#32))))

/-- The queries scaled by 0.125 / log 2. -/
def qScaled (x : FVec Ideal S16384x1024 .f32) : FVec Ideal S16384x1024 .bf16 :=
  truncf .bf16 (mulf x (broadcastInDim S16384x1024 ![] bcast_S_S16384x1024
      (Host.divf (constant S_ .f32 0x3E000000#32) (Host.log (constant S_ .f32 0x40000000#32)) : FVec Ideal S_ .f32))) bitsLt_bf16_f32

/-- The context's rows, then the sequence's. -/
def joined (a : FVec Ideal S256x1024 .f32) (b : FVec Ideal S16384x1024 .f32) : FVec Ideal S16640x1024 .bf16 :=
  concatenate S16640x1024 0 [⟨S256x1024, (truncf .bf16 a bitsLt_bf16_f32 : FVec Ideal S256x1024 .bf16)⟩, ⟨S16384x1024, (truncf .bf16 b bitsLt_bf16_f32 : FVec Ideal S16384x1024 .bf16)⟩] concatenates_S256x1024_S16384x1024_S16640x1024_d0

/-- Row `i`, column 0. -/
def rowIdx (i : BitVec 32) : IVec S2 32 :=
  concatenate S2 0 [⟨S1, (broadcastInDim S1 ![] bcast_S_S1 (constantI S_ 32 i) : IVec S1 32)⟩, ⟨S1, (broadcastInDim S1 ![] bcast_S_S1 (constantI S_ 32 0#32) : IVec S1 32)⟩] concatenates_S1_S1_S2_d0

/-- A vector set into row `i`. -/
def setRow (x : FVec Ideal S8x128 .f32) (i : BitVec 32) (u : FVec Ideal S64 .f32) : FVec Ideal S8x128 .f32 :=
  Host.scatter scatter_S8x128_S2_S64_0_0_01_0 (fun _ b => b) x (rowIdx i) u

/-- The four vectors in the first four rows. -/
def lamRows (a b c d : FVec Ideal S64 .f32) : FVec Ideal S8x128 .f32 :=
  setRow (setRow (setRow (setRow (broadcastInDim S8x128 ![] bcast_S_S8x128 (constant S_ .f32 0x00000000#32 : FVec Ideal S_ .f32)) 0#32 a) 1#32 b) 2#32 c) 3#32 d

theorem h0_v4 : StableHlo.after (hostOps0 (F := Ideal)) W (Proc.devRef .tc main_v4) = qScaled (W (Proc.devRef .tc main_arg0)) := by
  unfold_abbrev_sides
  after_results
  rfl

theorem h0_v7 : StableHlo.after (hostOps0 (F := Ideal)) W (Proc.devRef .tc main_v7) = joined (W (Proc.devRef .tc main_arg1)) (W (Proc.devRef .tc main_arg2)) := by
  unfold_abbrev_sides
  after_results
  rfl

theorem h0_v10 : StableHlo.after (hostOps0 (F := Ideal)) W (Proc.devRef .tc main_v10) = joined (W (Proc.devRef .tc main_arg3)) (W (Proc.devRef .tc main_arg4)) := by
  unfold_abbrev_sides
  after_results
  rfl

theorem h0_v27 : StableHlo.after (hostOps0 (F := Ideal)) W (Proc.devRef .tc main_v27)
    = lamRows (W (Proc.devRef .tc main_arg7)) (W (Proc.devRef .tc main_arg8)) (W (Proc.devRef .tc main_arg9)) (W (Proc.devRef .tc main_arg10)) := by
  unfold_abbrev_sides
  after_results
  rfl

theorem h0_v28 : StableHlo.after (hostOps0 (F := Ideal)) W (Proc.devRef .tc main_v28) = cmpf (F := Ideal) .ogt (W (Proc.devRef .tc main_arg5) : FVec Ideal S_ .f32) (constant S_ .f32 0x00000000#32) := by
  unfold_abbrev_sides
  after_results

theorem h0_v33 : StableHlo.after (hostOps0 (F := Ideal)) W (Proc.devRef .tc main_v33) = exponent (W (Proc.devRef .tc main_arg5)) := by
  unfold_abbrev_sides
  after_results
  rfl

theorem h0_zero : StableHlo.after (hostOps0 (F := Ideal)) W (Proc.devRef .tc main_cst_12) = (constant S_ .f32 0x00000000#32 : FVec Ideal S_ .f32) := by
  unfold_abbrev_sides
  after_results

theorem h1_v34 : StableHlo.after (hostOps0_1 (F := Ideal)) W (Proc.devRef .tc main_v34)
    = (select (W (Proc.devRef .tc main_v28) : IVec S_ 1) (W (Proc.devRef .tc main_v33) : FVec Ideal S_ .f32) (W (Proc.devRef .tc main_cst_12) : FVec Ideal S_ .f32) : FVec Ideal S_ .f32) := by
  unfold_abbrev_sides
  after_results
  rfl

theorem h2_v38 : StableHlo.after (hostOps0_2 (F := Ideal)) W (Proc.devRef .tc main_v38)
    = (Host.exp (mulf (broadcastInDim S_ ![] bcast_S_S_ (constant S_ .f32 0x3F317218#32 : FVec Ideal S_ .f32))
    (subf (constant S_ .f32 0x40A00000#32) (W (Proc.devRef .tc main_v34) : FVec Ideal S_ .f32))) : FVec Ideal S_ .f32) := by
  unfold_abbrev_sides
  after_results

theorem h2_v39 : StableHlo.after (hostOps0_2 (F := Ideal)) W (Proc.devRef .tc main_v39) = cmpf (F := Ideal) .ogt (W (Proc.devRef .tc main_arg6) : FVec Ideal S_ .f32) (constant S_ .f32 0x00000000#32) := by
  unfold_abbrev_sides
  after_results

theorem h2_v44 : StableHlo.after (hostOps0_2 (F := Ideal)) W (Proc.devRef .tc main_v44) = exponent (W (Proc.devRef .tc main_arg6)) := by
  unfold_abbrev_sides
  after_results
  rfl

theorem h2_zero : StableHlo.after (hostOps0_2 (F := Ideal)) W (Proc.devRef .tc main_cst_18) = (constant S_ .f32 0x00000000#32 : FVec Ideal S_ .f32) := by
  unfold_abbrev_sides
  after_results

theorem h3_v45 : StableHlo.after (hostOps0_3 (F := Ideal)) W (Proc.devRef .tc main_v45)
    = (select (W (Proc.devRef .tc main_v39) : IVec S_ 1) (W (Proc.devRef .tc main_v44) : FVec Ideal S_ .f32) (W (Proc.devRef .tc main_cst_18) : FVec Ideal S_ .f32) : FVec Ideal S_ .f32) := by
  unfold_abbrev_sides
  after_results
  rfl

theorem h4_v49 : StableHlo.after (hostOps0_4 (F := Ideal)) W (Proc.devRef .tc main_v49)
    = (Host.exp (mulf (broadcastInDim S_ ![] bcast_S_S_ (constant S_ .f32 0x3F317218#32 : FVec Ideal S_ .f32))
    (subf (constant S_ .f32 0x40A00000#32) (W (Proc.devRef .tc main_v45) : FVec Ideal S_ .f32))) : FVec Ideal S_ .f32) := by
  unfold_abbrev_sides
  after_results

theorem h4_v50 : StableHlo.after (hostOps0_4 (F := Ideal)) W (Proc.devRef .tc main_v50)
    = (shapeCast S1 (W (Proc.devRef .tc main_v38) : FVec Ideal S_ .f32) shapeCasts_S_S1 : FVec Ideal S1 .f32) := by
  unfold_abbrev_sides
  after_results
  rfl

theorem h5_v52 : StableHlo.after (hostOps1 (F := Ideal)) W (Proc.devRef .tc main_v52)
    = (shapeCast S1 (W (Proc.devRef .tc main_v49) : FVec Ideal S_ .f32) shapeCasts_S_S1 : FVec Ideal S1 .f32) := by
  unfold_abbrev_sides
  after_results
  rfl

theorem h6_v55 : StableHlo.after (hostOps3 (F := Ideal)) W (Proc.devRef .tc main_v55)
    = (shapeCast S8x2x5x3328x256 (W (Proc.devRef .tc main_v53) : FVec Ideal S8x2x16640x256 .fp8e4m3) shapeCasts_S8x2x16640x256_S8x2x5x3328x256 : FVec Ideal S8x2x5x3328x256 .fp8e4m3) := by
  unfold_abbrev_sides
  after_results
  rfl

theorem h6_v58 : StableHlo.after (hostOps3 (F := Ideal)) W (Proc.devRef .tc main_v58)
    = (shapeCast S1 (Host.divf (constant S_ .f32 0x3F800000#32) (mulf (W (Proc.devRef .tc main_v38) : FVec Ideal S_ .f32) (W (Proc.devRef .tc main_v49) : FVec Ideal S_ .f32)) : FVec Ideal S_ .f32) shapeCasts_S_S1 : FVec Ideal S1 .f32) := by
  unfold_abbrev_sides
  after_results
  rfl

theorem h6_v59 : StableHlo.after (hostOps3 (F := Ideal)) W (Proc.devRef .tc main_v59)
    = (shapeCast S128x1 (W (Proc.devRef .tc main_arg11) : FVec Ideal S128 .f32) shapeCasts_S128_S128x1 : FVec Ideal S128x1 .f32) := by
  unfold_abbrev_sides
  after_results
  rfl

end

end Cert.KernelIdeal.Attn

end
-- ==== Proof.Entries.lean ====
/-
  What the three preparing bodies leave, entry by entry, over the extended reals.
-/
module

public import proofs.«01_k».proof.Proof.Prep
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen

/-- A scaled operand where the row is one of the first half, its rounding error where it is of the second. -/
def hiLo (b : Prop) [Decidable b] (x : EReal) : EReal := if b then x else x - x

theorem slt64 : ∀ d : Fin 128, IntOp.cmpi CmpIPredicate.slt (BitVec.ofNat 32 (d : ℕ)) 64#32 = if (d : ℕ) < 64 then 1#1 else 0#1 := by
  decide +kernel

theorem sel64 (d : Fin 128) (u v : EReal) : Scalar.select (IntOp.cmpi CmpIPredicate.slt (BitVec.ofNat 32 (d : ℕ)) 64#32) u v = if (d : ℕ) < 64 then u else v := by
  rw [slt64]
  split <;> rfl

theorem q7_at (x1 : FVec Ideal S2048x128 .bf16) (a : Ideal .f32) (d : Fin 128) (s : Fin 2048) :
    k0_pay7 (F := Ideal) x1 a (ix4 0 0 d s) = hiLo ((d : ℕ) < 64) (x1 (ix2 s ⟨(d : ℕ) % 64, by omega⟩) * a) := by
  pointwise [k0_pay7, k0_pay6, k0_pay5, k0_pay4, k0_pay3, k0_pay2]
  refine (sel64 _ _ _).trans ?_
  unfold hiLo
  by_cases h : (d : ℕ) < 64
  · rw [if_pos h, if_pos h]
    exact congrArg (fun i => x1 (ix2 s i) * a) (Fin.ext (by dsimp only; omega))
  · rw [if_neg h, if_neg h]
    exact congrArg (fun i => x1 (ix2 s i) * a - x1 (ix2 s i) * a) (Fin.ext (by dsimp only; omega))

theorem q8_at (x1 : FVec Ideal S2048x128 .bf16) (a : Ideal .f32) (d : Fin 128) (s : Fin 2048) :
    k0_pay8 (F := Ideal) x1 a (ix4 0 0 d s) = hiLo ((d : ℕ) < 64) (x1 (ix2 s ⟨(d : ℕ) % 64, by omega⟩) * a) := by
  pointwise [k0_pay8, k0_pay6, k0_pay5, k0_pay4, k0_pay3, k0_pay2]
  refine (sel64 _ _ _).trans ?_
  unfold hiLo
  by_cases h : (d : ℕ) < 64
  · rw [if_pos h, if_pos h]
    exact congrArg (fun i => x1 (ix2 s i) * a) (Fin.ext (by dsimp only; omega))
  · rw [if_neg h, if_neg h]
    exact congrArg (fun i => x1 (ix2 s i) * a - x1 (ix2 s i) * a) (Fin.ext (by dsimp only; omega))

theorem q10_at (x1 : FVec Ideal S2048x128 .bf16) (a : Ideal .f32) (d : Fin 128) (s : Fin 2048) :
    k0_pay10 (F := Ideal) x1 a (ix4 0 0 d s) = hiLo ((d : ℕ) < 64) (x1 (ix2 s ⟨64 + (d : ℕ) % 64, by omega⟩) * a) := by
  pointwise [k0_pay10, k0_pay9, k0_pay5, k0_pay4, k0_pay3, k0_pay2]
  refine (sel64 _ _ _).trans ?_
  unfold hiLo
  by_cases h : (d : ℕ) < 64
  · rw [if_pos h, if_pos h]
    exact congrArg (fun i => x1 (ix2 s i) * a) (Fin.ext (by dsimp only; omega))
  · rw [if_neg h, if_neg h]
    exact congrArg (fun i => x1 (ix2 s i) * a - x1 (ix2 s i) * a) (Fin.ext (by dsimp only; omega))

theorem q1_at (x1 : FVec Ideal S2048x128 .bf16) (a : Ideal .f32) (d : Fin 128) (s : Fin 2048) :
    k0_pay1 (k0_pay9 (F := Ideal) x1 a) (ix4 0 0 d s) = hiLo ((d : ℕ) < 64) (x1 (ix2 s ⟨64 + (d : ℕ) % 64, by omega⟩) * a) := by
  pointwise [k0_pay1, k0_pay9, k0_pay5, k0_pay4, k0_pay3, k0_pay2]
  refine (sel64 _ _ _).trans ?_
  unfold hiLo
  by_cases h : (d : ℕ) < 64
  · rw [if_pos h, if_pos h]
    exact congrArg (fun i => x1 (ix2 s i) * a) (Fin.ext (by dsimp only; omega))
  · rw [if_neg h, if_neg h]
    exact congrArg (fun i => x1 (ix2 s i) * a - x1 (ix2 s i) * a) (Fin.ext (by dsimp only; omega))

theorem k8_at (x1 : FVec Ideal S3328x128 .bf16) (a : Ideal .f32) (d : Fin 128) (s : Fin 3328) :
    k1_pay8 (F := Ideal) x1 a (ix4 0 0 s d) = x1 (ix2 s ⟨(d : ℕ) % 64, by omega⟩) * a := by
  pointwise [k1_pay8, k1_pay7, k1_pay6, k1_pay5, k1_pay4, k1_pay3, k1_pay2]
  refine (sel64 _ _ _).trans ?_
  by_cases h : (d : ℕ) < 64
  · rw [if_pos h]
    exact congrArg (fun i => x1 (ix2 s i) * a) (Fin.ext (by dsimp only; omega))
  · rw [if_neg h]
    exact congrArg (fun i => x1 (ix2 s i) * a) (Fin.ext (by dsimp only; omega))

theorem k9_at (x1 : FVec Ideal S3328x128 .bf16) (a : Ideal .f32) (d : Fin 128) (s : Fin 3328) :
    k1_pay9 (F := Ideal) x1 a (ix4 0 0 s d) = x1 (ix2 s ⟨(d : ℕ) % 64, by omega⟩) * a - x1 (ix2 s ⟨(d : ℕ) % 64, by omega⟩) * a := by
  pointwise [k1_pay9, k1_pay7, k1_pay6, k1_pay5, k1_pay4, k1_pay3, k1_pay2]
  refine (sel64 _ _ _).trans ?_
  by_cases h : (d : ℕ) < 64
  · rw [if_pos h]
    exact congrArg (fun i => x1 (ix2 s i) * a - x1 (ix2 s i) * a) (Fin.ext (by dsimp only; omega))
  · rw [if_neg h]
    exact congrArg (fun i => x1 (ix2 s i) * a - x1 (ix2 s i) * a) (Fin.ext (by dsimp only; omega))

theorem k10_at (x1 : FVec Ideal S3328x128 .bf16) (a : Ideal .f32) (d : Fin 128) (s : Fin 3328) :
    k1_pay10 (F := Ideal) x1 a (ix4 0 0 s d) = x1 (ix2 s ⟨64 + (d : ℕ) % 64, by omega⟩) * a := by
  pointwise [k1_pay10, k1_pay7, k1_pay6, k1_pay5, k1_pay4, k1_pay3, k1_pay2]
  refine (sel64 _ _ _).trans ?_
  by_cases h : (d : ℕ) < 64
  · rw [if_pos h]
    exact congrArg (fun i => x1 (ix2 s i) * a) (Fin.ext (by dsimp only; omega))
  · rw [if_neg h]
    exact congrArg (fun i => x1 (ix2 s i) * a) (Fin.ext (by dsimp only; omega))

theorem k1_at (x1 : FVec Ideal S3328x128 .bf16) (a : Ideal .f32) (d : Fin 128) (s : Fin 3328) :
    k1_pay1 (k1_pay11 (F := Ideal) x1 a) (ix4 0 0 s d) = x1 (ix2 s ⟨64 + (d : ℕ) % 64, by omega⟩) * a - x1 (ix2 s ⟨64 + (d : ℕ) % 64, by omega⟩) * a := by
  pointwise [k1_pay1, k1_pay11, k1_pay7, k1_pay6, k1_pay5, k1_pay4, k1_pay3, k1_pay2]
  refine (sel64 _ _ _).trans ?_
  by_cases h : (d : ℕ) < 64
  · rw [if_pos h]
    exact congrArg (fun i => x1 (ix2 s i) * a - x1 (ix2 s i) * a) (Fin.ext (by dsimp only; omega))
  · rw [if_neg h]
    exact congrArg (fun i => x1 (ix2 s i) * a - x1 (ix2 s i) * a) (Fin.ext (by dsimp only; omega))

theorem eq16 : ∀ d : Fin 16, IntOp.cmpi CmpIPredicate.eq (BitVec.ofNat 32 (d : ℕ)) 0#32 = if (d : ℕ) = 0 then 1#1 else 0#1 := by
  decide +kernel

theorem v1_at (x0 : FVec Ideal S3328x128 .bf16) (d : Fin 128) (s : Fin 3328) :
    k2_pay1 (F := Ideal) x0 (ix4 0 0 d s) = x0 (ix2 s d) := by
  pointwise [k2_pay1]

theorem v2_at (d : Fin 16) (s : Fin 3328) :
    k2_pay2 (F := Ideal) (ix4 0 0 d s) = if (d : ℕ) = 0 then (1 : EReal) else 0 := by
  pointwise [k2_pay2]
  show Scalar.select (IntOp.cmpi CmpIPredicate.eq (BitVec.ofNat 32 (d : ℕ)) 0#32) (1 : EReal) 0 = _
  rw [eq16]
  split <;> rfl

theorem hiLo_congr {b b' : Prop} [Decidable b] [Decidable b'] {x x' : EReal} (h : b ↔ b') (e : x = x') : hiLo b x = hiLo b' x' := by
  subst e; unfold hiLo; simp only [h]

theorem at_congr2 {m n : ℕ} (X : (⟨2, ![m, n]⟩ : Shape).Idx → EReal) {i i' : Fin m} {j j' : Fin n} (hi : (i : ℕ) = i') (hj : (j : ℕ) = j') : X (ix2 i j) = X (ix2 i' j') := by
  obtain rfl := Fin.ext hi; obtain rfl := Fin.ext hj; rfl

/-- The prepared queries, entry by entry. -/
theorem prepQ_at (x0 : FVec Ideal S1 .f32) (X : FVec Ideal S2048x128 .bf16) (c : Fin 2) (r : Fin 256) (s : Fin 2048) :
    prepQ (F := Ideal) x0 X (ix4 0 c r s)
      = hiLo ((r : ℕ) % 128 < 64) (X (ix2 s ⟨64 * c + r % 64, by omega⟩) * scaleOf (F := Ideal) x0) := by
  unfold prepQ
  rw [View.read_writes_junk_eq_canon]
  generalize scaleOf (F := Ideal) x0 = a
  canon_tiles x h
  case piece0 =>
    idx_vars x
    obtain rfl : x0 = 0 := Subsingleton.elim _ _
    obtain rfl : x1 = 0 := Subsingleton.elim _ _
    simp only [Fin.val_zero, Nat.add_zero] at h1
    exact (q1_at X a x2 x3).trans (hiLo_congr (by omega) (congrArg (· * a) (at_congr2 X (by omega) (by dsimp only; omega))))
  case piece1 =>
    idx_vars x
    obtain rfl : x0 = 0 := Subsingleton.elim _ _
    obtain rfl : x1 = 0 := Subsingleton.elim _ _
    simp only [Fin.val_zero, Nat.add_zero] at h1
    exact (q10_at X a x2 x3).trans (hiLo_congr (by omega) (congrArg (· * a) (at_congr2 X (by omega) (by dsimp only; omega))))
  case piece2 =>
    idx_vars x
    obtain rfl : x0 = 0 := Subsingleton.elim _ _
    obtain rfl : x1 = 0 := Subsingleton.elim _ _
    simp only [Fin.val_zero, Nat.add_zero] at h1
    exact (q8_at X a x2 x3).trans (hiLo_congr (by omega) (congrArg (· * a) (at_congr2 X (by omega) (by dsimp only; omega))))
  case piece3 =>
    idx_vars x
    obtain rfl : x0 = 0 := Subsingleton.elim _ _
    obtain rfl : x1 = 0 := Subsingleton.elim _ _
    simp only [Fin.val_zero, Nat.add_zero] at h1
    exact (q7_at X a x2 x3).trans (hiLo_congr (by omega) (congrArg (· * a) (at_congr2 X (by omega) (by dsimp only; omega))))

/-- The prepared keys, entry by entry. -/
theorem prepK_at (x0 : FVec Ideal S1 .f32) (X : FVec Ideal S3328x128 .bf16) (c : Fin 2) (s : Fin 3328) (r : Fin 256) :
    prepK (F := Ideal) x0 X (ix4 0 c s r)
      = hiLo ((r : ℕ) < 128) (X (ix2 s ⟨64 * c + r % 64, by omega⟩) * scaleOf (F := Ideal) x0) := by
  unfold prepK
  rw [View.read_writes_junk_eq_canon]
  generalize scaleOf (F := Ideal) x0 = a
  unfold hiLo
  canon_tiles x h
  case piece0 =>
    idx_vars x
    obtain rfl : x0 = 0 := Subsingleton.elim _ _
    obtain rfl : x1 = 0 := Subsingleton.elim _ _
    simp only [Fin.val_zero, Nat.add_zero] at h1
    rw [if_neg (by omega)]
    exact (k1_at X a x3 x2).trans (congrArg (fun z : EReal => z * a - z * a) (at_congr2 X (by omega) (by dsimp only; omega)))
  case piece1 =>
    idx_vars x
    obtain rfl : x0 = 0 := Subsingleton.elim _ _
    obtain rfl : x1 = 0 := Subsingleton.elim _ _
    simp only [Fin.val_zero, Nat.add_zero] at h1
    rw [if_pos (by omega)]
    exact (k10_at X a x3 x2).trans (congrArg (· * a) (at_congr2 X (by omega) (by dsimp only; omega)))
  case piece2 =>
    idx_vars x
    obtain rfl : x0 = 0 := Subsingleton.elim _ _
    obtain rfl : x1 = 0 := Subsingleton.elim _ _
    simp only [Fin.val_zero, Nat.add_zero] at h1
    rw [if_neg (by omega)]
    exact (k9_at X a x3 x2).trans (congrArg (fun z : EReal => z * a - z * a) (at_congr2 X (by omega) (by dsimp only; omega)))
  case piece3 =>
    idx_vars x
    obtain rfl : x0 = 0 := Subsingleton.elim _ _
    obtain rfl : x1 = 0 := Subsingleton.elim _ _
    simp only [Fin.val_zero, Nat.add_zero] at h1
    rw [if_pos (by omega)]
    exact (k8_at X a x3 x2).trans (congrArg (· * a) (at_congr2 X (by omega) (by dsimp only; omega)))

/-- The prepared values, entry by entry: the values, then a row of ones, then zeros. -/
theorem prepV_at (X : FVec Ideal S3328x128 .bf16) (r : Fin 144) (s : Fin 3328) :
    prepV (F := Ideal) X (ix4 0 0 r s) = if h : (r : ℕ) < 128 then X (ix2 s ⟨r, h⟩) else if (r : ℕ) = 128 then (1 : EReal) else 0 := by
  unfold prepV
  rw [View.read_writes_junk_eq_canon]
  canon_tiles x h using View.cover_of_tiledBy _ ![1,1,16,3328] (by sl_kernel_rfl) _
  case piece0 =>
    idx_vars x
    obtain rfl : x0 = 0 := Subsingleton.elim _ _
    obtain rfl : x1 = 0 := Subsingleton.elim _ _
    rw [dif_neg (by omega)]
    refine (v2_at x2 x3).trans ?_
    by_cases h : (x2 : ℕ) = 0
    · rw [if_pos h, if_pos (by omega)]
    · rw [if_neg h, if_neg (by omega)]
  case piece1 =>
    idx_vars x
    obtain rfl : x0 = 0 := Subsingleton.elim _ _
    obtain rfl : x1 = 0 := Subsingleton.elim _ _
    rw [dif_pos (by omega)]
    exact (v1_at X x2 x3).trans (at_congr2 X (by omega) (by dsimp only; omega))

end Cert.KernelIdeal.Attn

end
-- ==== Proof.Arrays.lean ====
/- What the four calls leave in their arrays, at an index. -/
module

public import proofs.«01_k».proof.Proof.Run
public import proofs.«01_k».proof.Proof.Entries
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.ShloMosaic.ValueKit
open Idealize.ShloMosaic.Pipeline (Dat Cfg Window)
open Cert.KernelIdeal Cert.KernelIdeal.Gen

variable (V : (c : Dev nD) → (b : Ref sig .tc) → Buf (Elt Ideal) ((c : Thread nD τ).loc b))

theorem idx0 : ∀ t : Fin cfg0.N, win0_0.index t = ![0] ∧ win0_1.index t = ![(grid0.coords t 1).val, (grid0.coords t 0).val]
    ∧ win0_2.index t = ![(grid0.coords t 0).val, 0, 0, (grid0.coords t 1).val] :=
  (by decide +kernel : ∀ t : Fin grid0.N, _)
theorem idx1 : ∀ t : Fin cfg1.N, win1_0.index t = ![0] ∧ win1_1.index t = ![(grid1.coords t 1).val, (grid1.coords t 0).val]
    ∧ win1_2.index t = ![(grid1.coords t 0).val, 0, (grid1.coords t 1).val, 0] :=
  (by decide +kernel : ∀ t : Fin grid1.N, _)
theorem idx2 : ∀ t : Fin cfg2.N, win2_0.index t = ![(grid2.coords t 1).val, (grid2.coords t 0).val]
    ∧ win2_1.index t = ![(grid2.coords t 0).val, (grid2.coords t 1).val, 0, 0] :=
  (by decide +kernel : ∀ t : Fin grid2.N, _)
theorem idx3 : ∀ t : Fin cfg3.N, win3_0.index t = ![0] ∧ win3_1.index t = ![0, 0] ∧ win3_2.index t = ![0, 0]
    ∧ win3_3.index t = ![(grid3.coords t 0).val, 0, 0, (grid3.coords t 1).val] ∧ win3_4.index t = ![(grid3.coords t 0).val, 0, 0, 0, 0]
    ∧ win3_5.index t = ![(grid3.coords t 0).val, 0, 0, 0] ∧ win3_6.index t = ![(grid3.coords t 1).val, (grid3.coords t 0).val] :=
  (by decide +kernel : ∀ t : Fin grid3.N, _)

/-- The queries' operand, from the queries and their scale. -/
def qArr (X : FVec Ideal S16384x1024 .bf16) (a : FVec Ideal S1 .f32) : FVec Ideal S8x2x256x16384 .fp8e4m3 := fun i =>
  hiLo ((i 2).val % 128 < 64) (X (ix2 ⟨(i 3).val, (i 3).isLt⟩
    ⟨128 * (i 0).val + 64 * (i 1).val + (i 2).val % 64, by have h0 : (i 0).val < 8 := (i 0).isLt; have h1 : (i 1).val < 2 := (i 1).isLt; omega⟩)
      * scaleOf (F := Ideal) a)

/-- The keys' operand, from the keys and their scale. -/
def kArr (X : FVec Ideal S16640x1024 .bf16) (a : FVec Ideal S1 .f32) : FVec Ideal S8x2x16640x256 .fp8e4m3 := fun i =>
  hiLo ((i 3).val < 128) (X (ix2 ⟨(i 2).val, (i 2).isLt⟩
    ⟨128 * (i 0).val + 64 * (i 1).val + (i 3).val % 64, by have h0 : (i 0).val < 8 := (i 0).isLt; have h1 : (i 1).val < 2 := (i 1).isLt; omega⟩)
      * scaleOf (F := Ideal) a)

/-- A row of the values' operand: the values themselves, then ones, then zeros. -/
def pick (r : ℕ) (x : EReal) : EReal := if r < 128 then x else if r = 128 then 1 else 0

theorem pick_congr {r r' : ℕ} {x x' : EReal} (h : r = r') (e : r < 128 → x = x') : pick r x = pick r' x' := by
  subst h; unfold pick; by_cases h : r < 128
  · rw [if_pos h, if_pos h, e h]
  · rw [if_neg h, if_neg h]

theorem pick_of (r : ℕ) (f : Fin 128 → EReal) : (if h : r < 128 then f ⟨r, h⟩ else if r = 128 then 1 else 0) = pick r (f ⟨r % 128, Nat.mod_lt _ (by decide)⟩) := by
  unfold pick
  by_cases h : r < 128
  · rw [dif_pos h, if_pos h]
    exact congrArg f (Fin.ext (Nat.mod_eq_of_lt h).symm)
  · rw [dif_neg h, if_neg h]

/-- The values' operand: the values transposed, and the row of ones. -/
def vArr (X : FVec Ideal S16640x1024 .bf16) : FVec Ideal S8x5x144x3328 .bf16 := fun i =>
  pick (i 2).val (X (ix2 ⟨3328 * (i 1).val + (i 3).val, by have h1 : (i 1).val < 5 := (i 1).isLt; have h3 : (i 3).val < 3328 := (i 3).isLt; omega⟩
    ⟨128 * (i 0).val + (i 2).val % 128, by have h0 : (i 0).val < 8 := (i 0).isLt; omega⟩))

theorem arr0 (c : Dev nD) : (pd0 V c).arrAt 2 cfg0.N = qArr (V c main_v4) (V c main_v50) := by
  refine (pd0 V c).arrAt_eq_of_covers 2 _ (by decide +kernel) fun t _ y => ?_
  blk_simp
  rw [pd0_after2]
  idx_vars y
  obtain rfl : y0 = 0 := Subsingleton.elim _ _
  refine (prepQ_at (blk0 V c 0 t) (blk0 V c 1 t) y1 y2 y3).trans ?_
  unfold qArr
  refine hiLo_congr ?_ ?_
  · blk_simp [idx0 t]
  · refine congrArg₂ (fun a b : EReal => a * b) ?_ ?_
    · blk_ext [blk0, idx0 t]
    · unfold scaleOf
      blk_ext [blk0, idx0 t]

theorem arr1 (c : Dev nD) : (pd1 V c).arrAt 2 cfg1.N = kArr (V c main_v7) (V c main_v52) := by
  refine (pd1 V c).arrAt_eq_of_covers 2 _ (by decide +kernel) fun t _ y => ?_
  blk_simp
  rw [pd1_after2]
  idx_vars y
  obtain rfl : y0 = 0 := Subsingleton.elim _ _
  refine (prepK_at (blk1 V c 0 t) (blk1 V c 1 t) y1 y2 y3).trans ?_
  unfold kArr
  refine hiLo_congr ?_ ?_
  · blk_simp [idx1 t]
  · refine congrArg₂ (fun a b : EReal => a * b) ?_ ?_
    · blk_ext [blk1, idx1 t]
    · unfold scaleOf
      blk_ext [blk1, idx1 t]

theorem arr2 (c : Dev nD) : (pd2 V c).arrAt 1 cfg2.N = vArr (V c main_v10) := by
  refine (pd2 V c).arrAt_eq_of_covers 1 _ (by decide +kernel) fun t _ y => ?_
  blk_simp
  rw [pd2_after1]
  idx_vars y
  obtain rfl : y0 = 0 := Subsingleton.elim _ _
  obtain rfl : y1 = 0 := Subsingleton.elim _ _
  refine (prepV_at (blk2 V c 0 t) y2 y3).trans ?_
  unfold vArr
  have e := pick_of (y2 : ℕ) fun k => blk2 V c 0 t (ix2 y3 k)
  refine Eq.trans e (pick_congr ?_ fun h => ?_)
  · blk_simp [idx2 t]
  · blk_ext [blk2, idx2 t]

end Cert.KernelIdeal.Attn

end
-- ==== Proof.Entry.lean ====
/- What the attention call finds in its arrays. -/
module

public import proofs.«01_k».proof.Proof.Host
public import proofs.«01_k».proof.Proof.Arrays

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg) (c : Dev nD)

/-- An argument's contents at the start. -/
abbrev arg (r : Ref sig .tc) : Buf (Elt Ideal) ((c : Thread nD τ).loc r) := m ((c : Thread nD τ).loc r)

theorem c2_v34 : C2 m ρ c (Proc.devRef .tc main_v34)
    = (select (cmpf (F := Ideal) .ogt (arg m c main_arg5 : FVec Ideal S_ .f32) (constant S_ .f32 0x00000000#32)) (exponent (arg m c main_arg5)) (constant S_ .f32 0x00000000#32) : FVec Ideal S_ .f32) := by
  refine (h1_v34 (C1 m ρ c)).trans ?_
  rw [show C1 m ρ c (Proc.devRef .tc main_v28) = _ from h0_v28 (C0 m ρ c), show C1 m ρ c (Proc.devRef .tc main_v33) = _ from h0_v33 (C0 m ρ c),
    show C1 m ρ c (Proc.devRef .tc main_cst_12) = _ from h0_zero (C0 m ρ c)]

theorem c3_v38 : C3 m ρ c (Proc.devRef .tc main_v38) = powScale (arg m c main_arg5) := by
  refine (h2_v38 (C2 m ρ c)).trans ?_
  rw [c2_v34]
  rfl

theorem c4_v45 : C4 m ρ c (Proc.devRef .tc main_v45)
    = (select (cmpf (F := Ideal) .ogt (arg m c main_arg6 : FVec Ideal S_ .f32) (constant S_ .f32 0x00000000#32)) (exponent (arg m c main_arg6)) (constant S_ .f32 0x00000000#32) : FVec Ideal S_ .f32) := by
  refine (h3_v45 (C3 m ρ c)).trans ?_
  rw [show C3 m ρ c (Proc.devRef .tc main_v39) = _ from h2_v39 (C2 m ρ c), show C3 m ρ c (Proc.devRef .tc main_v44) = _ from h2_v44 (C2 m ρ c),
    show C3 m ρ c (Proc.devRef .tc main_cst_18) = _ from h2_zero (C2 m ρ c), C2_args m ρ c main_arg6 (by decide)]

theorem c5_v49 : C5 m ρ c (Proc.devRef .tc main_v49) = powScale (arg m c main_arg6) := by
  refine (h4_v49 (C4 m ρ c)).trans ?_
  rw [c4_v45]
  rfl

theorem c4_v38 : C4 m ρ c (Proc.devRef .tc main_v38) = powScale (arg m c main_arg5) :=
  (C4_of m ρ c main_v38 (by decide)).trans (c3_v38 m ρ c)

theorem b5_v50 : B5 m ρ c main_v50 = (shapeCast S1 (powScale (arg m c main_arg5)) shapeCasts_S_S1 : FVec Ideal S1 .f32) := by
  refine (h4_v50 (C4 m ρ c)).trans ?_
  rw [c4_v38]

/-- What the first line wrote is there when the first call starts. -/
theorem c5_of1 (r : Ref sig .tc) (h1 : r ∉ hostOps0_1_dst) (h2 : r ∉ hostOps0_2_dst) (h3 : r ∉ hostOps0_3_dst) (h4 : r ∉ hostOps0_4_dst) :
    C5 m ρ c (Proc.devRef .tc r) = C1 m ρ c (Proc.devRef .tc r) :=
  (C5_of m ρ c r h4).trans ((C4_of m ρ c r h3).trans ((C3_of m ρ c r h2).trans (C2_of m ρ c r h1)))

/-- What the second call does not find rewritten. -/
theorem c7_of5 (r : Ref sig .tc) (h1 : ∀ w, Pipeline.arrRef spec0 w ≠ r) (h2 : r ∉ hostOps1_dst) :
    C7 m ρ c (Proc.devRef .tc r) = C5 m ρ c (Proc.devRef .tc r) :=
  (C7_of m ρ c r h2).trans (C6_ne m ρ c r h1)

/-- What the two calls after it leave alone. -/
theorem c9_of7 (r : Ref sig .tc) (h1 : ∀ w, Pipeline.arrRef spec1 w ≠ r) (h2 : ∀ w, Pipeline.arrRef spec2 w ≠ r) :
    C9 m ρ c (Proc.devRef .tc r) = C7 m ρ c (Proc.devRef .tc r) :=
  (C9_ne m ρ c r h2).trans (C8_ne m ρ c r h1)

theorem b5_v4 : B5 m ρ c main_v4 = qScaled (arg m c main_arg0) :=
  (c5_of1 m ρ c main_v4 (by decide) (by decide) (by decide) (by decide)).trans (h0_v4 (C0 m ρ c))

theorem b7_v7 : B7 m ρ c main_v7 = joined (arg m c main_arg1) (arg m c main_arg2) :=
  (c7_of5 m ρ c main_v7 (by decide) (by decide)).trans ((c5_of1 m ρ c main_v7 (by decide) (by decide) (by decide) (by decide)).trans (h0_v7 (C0 m ρ c)))

theorem b7_v52 : B7 m ρ c main_v52 = (shapeCast S1 (powScale (arg m c main_arg6)) shapeCasts_S_S1 : FVec Ideal S1 .f32) := by
  refine (h5_v52 (C6 m ρ c)).trans ?_
  rw [C6_ne m ρ c main_v49 (by decide), c5_v49]

theorem b8_v10 : B8 m ρ c main_v10 = joined (arg m c main_arg3) (arg m c main_arg4) :=
  (C8_ne m ρ c main_v10 (by decide)).trans ((c7_of5 m ρ c main_v10 (by decide) (by decide)).trans
    ((c5_of1 m ρ c main_v10 (by decide) (by decide) (by decide) (by decide)).trans (h0_v10 (C0 m ρ c))))

/-- The queries' operand. -/
theorem b10_q : B10 m ρ c main_v51 = qArr (qScaled (arg m c main_arg0)) (shapeCast S1 (powScale (arg m c main_arg5)) shapeCasts_S_S1 : FVec Ideal S1 .f32) := by
  have e : B10 m ρ c main_v51 = qArr (B5 m ρ c main_v4) (B5 m ρ c main_v50) :=
    (C10_of m ρ c main_v51 (by decide)).trans ((c9_of7 m ρ c main_v51 (by decide) (by decide)).trans ((C7_of m ρ c main_v51 (by decide)).trans
      ((C6_arr m ρ c 2).trans (arr0 (B5 m ρ) c))))
  rw [e, b5_v4, b5_v50]

/-- The keys' operand, its rows in chunks. -/
theorem b10_k : B10 m ρ c main_v55 = (shapeCast S8x2x5x3328x256 (kArr (joined (arg m c main_arg1) (arg m c main_arg2)) (shapeCast S1 (powScale (arg m c main_arg6)) shapeCasts_S_S1 : FVec Ideal S1 .f32))
      shapeCasts_S8x2x16640x256_S8x2x5x3328x256 : FVec Ideal S8x2x5x3328x256 .fp8e4m3) := by
  refine (h6_v55 (C9 m ρ c)).trans ?_
  have e : C9 m ρ c (Proc.devRef .tc main_v53) = kArr (B7 m ρ c main_v7) (B7 m ρ c main_v52) :=
    (C9_ne m ρ c main_v53 (by decide)).trans ((C8_arr m ρ c 2).trans (arr1 (B7 m ρ) c))
  rw [e, b7_v7, b7_v52]

/-- The values' operand. -/
theorem b10_v : B10 m ρ c main_v54 = vArr (joined (arg m c main_arg3) (arg m c main_arg4)) := by
  have e : B10 m ρ c main_v54 = vArr (B8 m ρ c main_v10) :=
    (C10_of m ρ c main_v54 (by decide)).trans ((C9_arr m ρ c 1).trans (arr2 (B8 m ρ) c))
  rw [e, b8_v10]

/-- The factor of the exponents. -/
theorem b10_c : B10 m ρ c main_v58 = (shapeCast S1 (Host.divf (constant S_ .f32 0x3F800000#32) (mulf (powScale (arg m c main_arg5)) (powScale (arg m c main_arg6))) : FVec Ideal S_ .f32) shapeCasts_S_S1 : FVec Ideal S1 .f32) := by
  refine (h6_v58 (C9 m ρ c)).trans ?_
  rw [c9_of7 m ρ c main_v38 (by decide) (by decide), c7_of5 m ρ c main_v38 (by decide) (by decide), C5_of m ρ c main_v38 (by decide), c4_v38,
    c9_of7 m ρ c main_v49 (by decide) (by decide), c7_of5 m ρ c main_v49 (by decide) (by decide), c5_v49]

/-- The rows of the components' weight. -/
theorem b10_lam : B10 m ρ c main_v27 = lamRows (arg m c main_arg7) (arg m c main_arg8) (arg m c main_arg9) (arg m c main_arg10) :=
  (C10_of m ρ c main_v27 (by decide)).trans ((c9_of7 m ρ c main_v27 (by decide) (by decide)).trans ((c7_of5 m ρ c main_v27 (by decide) (by decide)).trans
    ((c5_of1 m ρ c main_v27 (by decide) (by decide) (by decide) (by decide)).trans (h0_v27 (C0 m ρ c)))))

/-- The gain. -/
theorem b10_g : B10 m ρ c main_v59 = (shapeCast S128x1 (arg m c main_arg11 : FVec Ideal S128 .f32) shapeCasts_S128_S128x1 : FVec Ideal S128x1 .f32) := by
  refine (h6_v59 (C9 m ρ c)).trans ?_
  rw [C9_args m ρ c main_arg11 (by decide)]

end Cert.KernelIdeal.Attn

end
-- ==== Proof.Softmax.lean ====
/-
  The attention body over the extended reals: its operations read at an index, and the running softmax over the five
  key chunks as one sum of weights.
-/
module

public import proofs.«01_k».proof.Proof.Model
public import Idealize.ShloMosaic.Lib.Pointwise

@[expose] public section

set_option maxRecDepth 16384

noncomputable section

namespace Cert.KernelIdeal.Attn

open Idealize.ShloMosaic Idealize.ShloMosaic.TcCoe
open Cert.KernelIdeal Cert.KernelIdeal.Gen

theorem score_at (q : FVec Ideal S256x512 .fp8e4m3) (k : FVec Ideal S1x1x1x256x256 .fp8e4m3) (y : Fin 256) (l : Fin 512) :
    score q k (ix2 y l) = ∑ d : Fin 256, k (ix5 0 0 0 y d) * q (ix2 d l) := by
  pointwise [score]

theorem scoreMax_at (q : FVec Ideal S256x512 .fp8e4m3) (k : FVec Ideal S1x1x1x256x256 .fp8e4m3) (l : Fin 512) :
    scoreMax q k (ix2 0 l) = Finset.univ.fold max (Ideal.ofBits .f32 0xFF800000#32) (fun y : Fin 256 => score q k (ix2 y l)) := by
  pointwise [scoreMax]

theorem weighted_at (cb : Ideal .bf16) (mn : FVec Ideal S1x512 .f32) (v : FVec Ideal S1x1x144x256 .bf16) (q : FVec Ideal S256x512 .fp8e4m3)
    (k : FVec Ideal S1x1x1x256x256 .fp8e4m3) (e : Fin 144) (l : Fin 512) :
    weighted cb mn v (scoreBox q k) (ix2 e l)
      = ∑ y : Fin 256, v (ix4 0 0 e y) * Ideal.exp2 ((score q k (ix2 y l) - mn (ix2 0 l)) * cb) := by
  pointwise [weighted, weight, scoreBox]
  rfl

theorem rescale_at (cs : Ideal .f32) (m mn : FVec Ideal S1x512 .f32) (acc pv : FVec Ideal S144x512 .f32) (e : Fin 144) (l : Fin 512) :
    rescale cs m mn acc pv (ix2 e l) = Ideal.exp2 ((m (ix2 0 l) - mn (ix2 0 l)) * cs) * acc (ix2 e l) + pv (ix2 e l) := by
  pointwise [rescale]
  rfl

theorem ofBits_ninf : Ideal.ofBits .f32 0xFF800000#32 = ⊥ := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_max (a b : ℝ) : ((max a b : ℝ) : EReal) = max (a : EReal) b := EReal.coe_strictMono.monotone.map_max

/-- A maximum of finitely many reals, from below, is a real (there being one). -/
theorem fold_real {n : ℕ} (f : Fin (n + 1) → ℝ) : ∃ M : ℝ, Finset.univ.fold max (⊥ : EReal) (fun y => (f y : EReal)) = (M : EReal) := by
  have h : ∀ s : Finset (Fin (n + 1)), (s = ∅ ∧ s.fold max (⊥ : EReal) (fun y => (f y : EReal)) = ⊥) ∨ ∃ M : ℝ, s.fold max (⊥ : EReal) (fun y => (f y : EReal)) = (M : EReal) := by
    intro s
    induction s using Finset.induction_on with
    | empty => exact .inl ⟨rfl, by simp⟩
    | insert a s h ih =>
      right
      rw [Finset.fold_insert h]
      rcases ih with ⟨_, ih⟩ | ⟨M, ih⟩
      · exact ⟨f a, by rw [ih]; simp⟩
      · exact ⟨max (f a) M, by rw [ih, coe_max]⟩
  rcases h Finset.univ with ⟨h, _⟩ | h
  · exact absurd h (Finset.univ_nonempty.ne_empty)
  · exact h

theorem chain13_real (f : Fin 13 → EReal) (h : ∀ r, ∃ M : ℝ, f r = (M : EReal)) : ∃ M : ℝ, chain13 max f = (M : EReal) := by
  choose g hg using h
  have two : ∀ a b : ℝ, max (a : EReal) b = ((max a b : ℝ) : EReal) := fun a b => (coe_max a b).symm
  refine ⟨chain13 max g, ?_⟩
  simp only [chain13, hg, two]

theorem chain13_sum (f : Fin 13 → EReal) : chain13 (· + ·) f = ∑ r, f r := by
  simp only [chain13, Fin.sum_univ_castSucc, Fin.sum_univ_zero, zero_add]
  rfl

theorem chain13_maximumf_at (f : Fin 13 → FVec Ideal S1x512 .f32) (i : S1x512.Idx) : chain13 maximumf f i = chain13 max fun r => f r i := rfl

theorem chain13_addf_at (f : Fin 13 → FVec Ideal S144x512 .f32) (i : S144x512.Idx) : chain13 addf f i = chain13 (· + ·) fun r => f r i := rfl

/-- The weight of a score against a maximum, both real. -/
theorem exp2_real (s M c : ℝ) : Ideal.exp2 (((s : EReal) - M) * c) = (((2 : ℝ) ^ ((s - M) * c) : ℝ) : EReal) := by
  rw [← EReal.coe_sub, ← EReal.coe_mul]; rfl

/-- A chunk's maximum is real when its scores are. -/
theorem chunkMax_real (q : FVec Ideal S256x512 .fp8e4m3) (x4 : FVec Ideal S1x2x5x3328x256 .fp8e4m3) (c : Fin 2) (j : Fin 5) (l : Fin 512)
    (s : Fin 13 → Fin 256 → ℝ) (h : ∀ r y, score q (kTile x4 c j r) (ix2 y l) = (s r y : EReal)) :
    ∃ M : ℝ, chunkMax q x4 c j (ix2 0 l) = (M : EReal) := by
  unfold chunkMax
  rw [chain13_maximumf_at]
  refine chain13_real _ fun r => ?_
  obtain ⟨M, hM⟩ := fold_real (n := 255) (s r)
  refine ⟨M, ?_⟩
  rw [scoreMax_at, ofBits_ninf]
  simp only [h]
  exact hM

/-- A chunk's weighted values, as a real sum. -/
theorem chunkPV_real (cb : Ideal .bf16) (c : ℝ) (hc : cb = (c : EReal)) (mn : FVec Ideal S1x512 .f32) (q : FVec Ideal S256x512 .fp8e4m3)
    (x4 : FVec Ideal S1x2x5x3328x256 .fp8e4m3) (x5 : FVec Ideal S1x5x144x3328 .bf16) (k : Fin 2) (j : Fin 5) (l : Fin 512) (e : Fin 144) (M : ℝ)
    (hM : mn (ix2 0 l) = (M : EReal)) (s v : Fin 13 → Fin 256 → ℝ) (h : ∀ r y, score q (kTile x4 k j r) (ix2 y l) = (s r y : EReal))
    (hv : ∀ r y, vTile (F := Ideal) x5 j r (ix4 0 0 e y) = (v r y : EReal)) :
    chunkPV cb mn x5 j (fun r => scoreBox q (kTile x4 k j r)) (ix2 e l) = ((∑ r, ∑ y, v r y * (2 : ℝ) ^ ((s r y - M) * c) : ℝ) : EReal) := by
  unfold chunkPV
  rw [chain13_addf_at, chain13_sum, coe_sum]
  refine Finset.sum_congr rfl fun r _ => ?_
  rw [weighted_at, coe_sum]
  refine Finset.sum_congr rfl fun y _ => ?_
  rw [h, hv, hM, hc, exp2_real, ← EReal.coe_mul]

/-- The state before chunk `j`: some real maximum (none before the first), and every accumulator entry the sum of the
    weighted values so far. -/
theorem state_real (cs : Ideal .f32) (cb : Ideal .bf16) (c : ℝ) (hs : cs = (c : EReal)) (hb : cb = (c : EReal)) (q : FVec Ideal S256x512 .fp8e4m3)
    (x4 : FVec Ideal S1x2x5x3328x256 .fp8e4m3) (x5 : FVec Ideal S1x5x144x3328 .bf16) (k : Fin 2) (l : Fin 512)
    (s : Fin 5 → Fin 13 → Fin 256 → ℝ) (v : Fin 144 → Fin 5 → Fin 13 → Fin 256 → ℝ)
    (h : ∀ j r y, score q (kTile x4 k j r) (ix2 y l) = (s j r y : EReal)) (hv : ∀ e j r y, vTile (F := Ideal) x5 j r (ix4 0 0 e y) = (v e j r y : EReal)) (n : ℕ) :
    ∃ M : ℝ, (n = 0 ∧ mState q x4 k n (ix2 0 l) = ⊥ ∨ mState q x4 k n (ix2 0 l) = (M : EReal))
      ∧ ∀ e, aState cs cb q x4 x5 k n (ix2 e l)
        = ((∑ j ∈ Finset.range n, ∑ r, ∑ y, v e (Fin.ofNat 5 j) r y * (2 : ℝ) ^ ((s (Fin.ofNat 5 j) r y - M) * c) : ℝ) : EReal) := by
  induction n with
  | zero =>
    refine ⟨0, .inl ⟨rfl, ?_⟩, fun e => ?_⟩
    · exact ofBits_ninf
    · rw [Finset.sum_range_zero, EReal.coe_zero]
      unfold aState
      pointwise
  | succ n ih =>
    obtain ⟨M, hm, ha⟩ := ih
    obtain ⟨N, hN⟩ := chunkMax_real q x4 k (Fin.ofNat 5 n) l (s (Fin.ofNat 5 n)) (h (Fin.ofNat 5 n))
    obtain ⟨M', hM'⟩ : ∃ M' : ℝ, mState q x4 k (n + 1) (ix2 0 l) = (M' : EReal) := by
      show ∃ M' : ℝ, max (mState q x4 k n (ix2 0 l)) (chunkMax q x4 k (Fin.ofNat 5 n) (ix2 0 l)) = (M' : EReal)
      rcases hm with ⟨_, hm⟩ | hm
      · exact ⟨N, by rw [hm, hN]; simp⟩
      · exact ⟨max M N, by rw [hm, hN, coe_max]⟩
    refine ⟨M', .inr hM', fun e => ?_⟩
    rw [aState, rescale_at, chunkPV_real cb c hb _ q x4 x5 k (Fin.ofNat 5 n) l e M' hM' (s (Fin.ofNat 5 n)) (v e (Fin.ofNat 5 n)) (h _) (hv e _), ha, hM',
      Finset.sum_range_succ, EReal.coe_add]
    refine congrArg (fun z : EReal => z + _) ?_
    rcases hm with ⟨h0, _⟩ | hm
    · subst h0; simp
    · rw [hm, hs, exp2_real, ← EReal.coe_mul, EReal.coe_eq_coe_iff, Finset.mul_sum]
      refine Finset.sum_congr rfl fun j _ => ?_
      rw [Finset.mul_sum]
      refine Finset.sum_congr rfl fun r _ => ?_
      rw [Finset.mul_sum]
      refine Finset.sum_congr rfl fun y _ => ?_
      rw [mul_left_comm, ← Real.rpow_add two_pos]
      refine congrArg (fun z : ℝ => _ * (2 : ℝ) ^ z) ?_
      ring

/-- The accumulator of a component after the five chunks. -/
theorem accOf_real (x0 : FVec Ideal S1 .f32) (c : ℝ) (hs : scaleOf (F := Ideal) x0 = (c : EReal)) (x3 : FVec Ideal S1x2x256x512 .fp8e4m3)
    (x4 : FVec Ideal S1x2x5x3328x256 .fp8e4m3) (x5 : FVec Ideal S1x5x144x3328 .bf16) (k : Fin 2) (l : Fin 512)
    (s : Fin 5 → Fin 13 → Fin 256 → ℝ) (v : Fin 144 → Fin 5 → Fin 13 → Fin 256 → ℝ)
    (h : ∀ j r y, score (F := Ideal) (qTile x3 k) (kTile x4 k j r) (ix2 y l) = (s j r y : EReal)) (hv : ∀ e j r y, vTile (F := Ideal) x5 j r (ix4 0 0 e y) = (v e j r y : EReal)) :
    ∃ M : ℝ, ∀ e, accOf (F := Ideal) x0 x3 x4 x5 k (ix2 e l) = ((∑ j, ∑ r, ∑ y, v e j r y * (2 : ℝ) ^ ((s j r y - M) * c) : ℝ) : EReal) := by
  obtain ⟨M, -, ha⟩ := state_real (scaleOf (F := Ideal) x0) (Scalar.truncf (F := Ideal) .bf16 bitsLt_bf16_f32 (scaleOf (F := Ideal) x0)) c hs hs (qTile (F := Ideal) x3 k) x4 x5 k l s v h hv 5
  refine ⟨M, fun e => ?_⟩
  rw [accOf, ha e, EReal.coe_eq_coe_iff, Finset.sum_range]
  refine Finset.sum_congr rfl fun j _ => ?_
  rw [show Fin.ofNat 5 (j : ℕ) = j from Fin.ext (Nat.mod_eq_of_lt j.2)]

end Cert.KernelIdeal.Attn

end
-- ==== Proof.RealMath.lean ====
/- The attention over the reals: the scaled scores, and weights of powers of two against weights of exponentials. -/
module

public import proofs.«01_k».proof.Proof.Softmax
public import proofs.«01_k».proof.Proof.Entries

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- Attention over scores `S` of values `v`: the mean of the values in the weights of the scores' exponentials. -/
def att (S v : Fin 16640 → ℝ) : ℝ := (∑ k, v k * Real.exp (S k)) / ∑ k, Real.exp (S k)

/-- The key at sub-block `r` of chunk `j`, row `y`. -/
def keyAt (j : Fin 5) (r : Fin 13) (y : Fin 256) : Fin 16640 := ⟨3328 * j + 256 * r + y, by omega⟩

theorem sum_keys (f : Fin 16640 → ℝ) : ∑ j : Fin 5, ∑ r : Fin 13, ∑ y : Fin 256, f (keyAt j r y) = ∑ k, f k := by
  rw [Fin.sum_univ_tiles 5 3328 rfl f]
  refine Finset.sum_congr rfl fun j _ => ?_
  rw [Fin.sum_univ_tiles 13 256 rfl]
  refine Finset.sum_congr rfl fun r _ => Finset.sum_congr rfl fun y _ => congrArg f (Fin.ext ?_)
  simp only [keyAt]
  omega

/-- The quotient of two accumulators of weights `2 ^ ((s - M) * c)` is the attention over the scores `s * c * log 2`. -/
theorem ratio_real (M c : ℝ) (s : Fin 5 → Fin 13 → Fin 256 → ℝ) (v o : Fin 5 → Fin 13 → Fin 256 → ℝ) (S V : Fin 16640 → ℝ)
    (hs : ∀ j r y, s j r y * c = S (keyAt j r y) / Real.log 2) (hv : ∀ j r y, v j r y = V (keyAt j r y)) (ho : ∀ j r y, o j r y = 1) :
    Ideal.div (↑(∑ j, ∑ r, ∑ y, v j r y * (2 : ℝ) ^ ((s j r y - M) * c)) : EReal) (↑(∑ j, ∑ r, ∑ y, o j r y * (2 : ℝ) ^ ((s j r y - M) * c)) : EReal)
      = ((att S V : ℝ) : EReal) := by
  have hl : (0 : ℝ) < Real.log 2 := Real.log_pos (by norm_num)
  have hw : ∀ j r y, (2 : ℝ) ^ ((s j r y - M) * c) = Real.exp (S (keyAt j r y)) * (2 : ℝ) ^ (-(M * c)) := by
    intro j r y
    have : (s j r y - M) * c = S (keyAt j r y) / Real.log 2 + -(M * c) := by rw [← hs]; ring
    rw [this, Real.rpow_add (by norm_num), Real.rpow_def_of_pos (by norm_num : (0:ℝ) < 2) (S (keyAt j r y) / Real.log 2), mul_div_cancel₀ _ hl.ne']
  set K : ℝ := (2 : ℝ) ^ (-(M * c)) with hK
  have hK0 : 0 < K := Real.rpow_pos_of_pos (by norm_num) _
  have e1 : ∑ j, ∑ r, ∑ y, v j r y * (2 : ℝ) ^ ((s j r y - M) * c) = (∑ k, V k * Real.exp (S k)) * K := by
    rw [Finset.sum_mul, ← sum_keys]
    refine Finset.sum_congr rfl fun j _ => Finset.sum_congr rfl fun r _ => Finset.sum_congr rfl fun y _ => ?_
    rw [hw, hv]; ring
  have e2 : ∑ j, ∑ r, ∑ y, o j r y * (2 : ℝ) ^ ((s j r y - M) * c) = (∑ k, Real.exp (S k)) * K := by
    rw [Finset.sum_mul, ← sum_keys]
    refine Finset.sum_congr rfl fun j _ => Finset.sum_congr rfl fun r _ => Finset.sum_congr rfl fun y _ => ?_
    rw [hw, ho]; ring
  have hp : 0 < ∑ k : Fin 16640, Real.exp (S k) := Finset.sum_pos (fun k _ => Real.exp_pos _) ⟨0, Finset.mem_univ _⟩
  rw [e1, e2, Ideal.div_coe (mul_pos hp hK0).ne', ← EReal.coe_mul]
  refine congrArg Real.toEReal ?_
  unfold att
  field_simp

theorem hiLo_coe (b : Prop) [Decidable b] (x : ℝ) : hiLo b (x : EReal) = ((if b then x else 0 : ℝ) : EReal) := by
  unfold hiLo
  split
  · rfl
  · rw [← EReal.coe_sub, sub_self]

/-- The score of split operands is the inner product of what was split: the rows of differences are zero. -/
theorem split_score (f g : ℕ → ℝ) :
    ∑ d : Fin 256, hiLo ((d : ℕ) < 128) (f ((d : ℕ) % 64) : EReal) * hiLo ((d : ℕ) % 128 < 64) (g ((d : ℕ) % 64) : EReal)
      = ((∑ d : Fin 64, f d * g d : ℝ) : EReal) := by
  simp only [hiLo_coe, ← EReal.coe_mul, ← coe_sum]

  refine congrArg Real.toEReal ?_
  refine (Fin.sum_univ_tiles 4 64 rfl (fun d : Fin 256 => (if (d : ℕ) < 128 then f ((d : ℕ) % 64) else 0) * (if (d : ℕ) % 128 < 64 then g ((d : ℕ) % 64) else 0))).trans ?_
  rw [Fin.sum_univ_four]
  have a0 : ∑ t : Fin 64, (if ((0 : Fin 4) : ℕ) * 64 + (t : ℕ) < 128 then f ((((0 : Fin 4) : ℕ) * 64 + (t : ℕ)) % 64) else 0)
      * (if (((0 : Fin 4) : ℕ) * 64 + (t : ℕ)) % 128 < 64 then g ((((0 : Fin 4) : ℕ) * 64 + (t : ℕ)) % 64) else 0) = ∑ d : Fin 64, f d * g d :=
    Finset.sum_congr rfl fun t _ => by
      have e : (((0 : Fin 4) : ℕ) * 64 + (t : ℕ)) = t := by rw [show ((0 : Fin 4) : ℕ) = 0 from rfl]; omega
      rw [e, if_pos (by omega), if_pos (by omega), Nat.mod_eq_of_lt t.isLt]
  have a1 : ∑ t : Fin 64, (if ((1 : Fin 4) : ℕ) * 64 + (t : ℕ) < 128 then f ((((1 : Fin 4) : ℕ) * 64 + (t : ℕ)) % 64) else 0)
      * (if (((1 : Fin 4) : ℕ) * 64 + (t : ℕ)) % 128 < 64 then g ((((1 : Fin 4) : ℕ) * 64 + (t : ℕ)) % 64) else 0) = 0 :=
    Finset.sum_eq_zero fun t _ => by rw [show ((1 : Fin 4) : ℕ) = 1 from rfl, if_neg (show ¬ ((1 * 64 + (t : ℕ)) % 128 < 64) by omega), mul_zero]
  have a2 : ∑ t : Fin 64, (if ((2 : Fin 4) : ℕ) * 64 + (t : ℕ) < 128 then f ((((2 : Fin 4) : ℕ) * 64 + (t : ℕ)) % 64) else 0)
      * (if (((2 : Fin 4) : ℕ) * 64 + (t : ℕ)) % 128 < 64 then g ((((2 : Fin 4) : ℕ) * 64 + (t : ℕ)) % 64) else 0) = 0 :=
    Finset.sum_eq_zero fun t _ => by rw [show ((2 : Fin 4) : ℕ) = 2 from rfl, if_neg (show ¬ (2 * 64 + (t : ℕ) < 128) by omega), zero_mul]
  have a3 : ∑ t : Fin 64, (if ((3 : Fin 4) : ℕ) * 64 + (t : ℕ) < 128 then f ((((3 : Fin 4) : ℕ) * 64 + (t : ℕ)) % 64) else 0)
      * (if (((3 : Fin 4) : ℕ) * 64 + (t : ℕ)) % 128 < 64 then g ((((3 : Fin 4) : ℕ) * 64 + (t : ℕ)) % 64) else 0) = 0 :=
    Finset.sum_eq_zero fun t _ => by rw [show ((3 : Fin 4) : ℕ) = 3 from rfl, if_neg (show ¬ (3 * 64 + (t : ℕ) < 128) by omega), zero_mul]
  refine (congrArg₂ (fun x y : ℝ => x + y) (congrArg₂ (fun x y : ℝ => x + y) (congrArg₂ (fun x y : ℝ => x + y) a0 a1) a2) a3).trans ?_
  rw [add_zero, add_zero, add_zero]

/-- Weights taken against any shift are the attention. -/
theorem att_shift (S v : Fin 16640 → ℝ) (M : ℝ) : ∑ k, Real.exp (S k - M) / (∑ k', Real.exp (S k' - M)) * v k = att S v := by
  have hp : 0 < ∑ k : Fin 16640, Real.exp (S k) := Finset.sum_pos (fun k _ => Real.exp_pos _) ⟨0, Finset.mem_univ _⟩
  have hm := Real.exp_pos M
  have e : ∑ k', Real.exp (S k' - M) = (∑ k, Real.exp (S k)) / Real.exp M := by
    rw [Finset.sum_div]; exact Finset.sum_congr rfl fun k _ => Real.exp_sub _ _
  rw [e]
  unfold att
  generalize (∑ k, Real.exp (S k)) = Z at hp ⊢
  rw [Finset.sum_div]
  refine Finset.sum_congr rfl fun k _ => ?_
  rw [Real.exp_sub]
  field_simp

end Cert.KernelIdeal.Attn

end
-- ==== Proof.Head.lean ====
/- One query of one head: the quotient of its accumulators is the attention over the real scores. -/
module

public import proofs.«01_k».proof.Proof.RealMath
public import proofs.«01_k».proof.Proof.Arrays

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

theorem kTile_at (x4 : FVec Ideal S1x2x5x3328x256 .fp8e4m3) (c : Fin 2) (j : Fin 5) (r : Fin 13) (y d : Fin 256) :
    kTile (F := Ideal) x4 c j r (ix5 0 0 0 y d) = x4 (ix5 0 c j ⟨256 * r + y, by omega⟩ d) := by
  unfold kTile
  refine congrArg x4 (funext fun a => Fin.ext ?_)
  fin_cases a <;> simp [Rect.toLoadRect, LoadRect.idx, Rect.unit]

theorem vTile_at (x5 : FVec Ideal S1x5x144x3328 .bf16) (j : Fin 5) (r : Fin 13) (e : Fin 144) (y : Fin 256) :
    vTile (F := Ideal) x5 j r (ix4 0 0 e y) = x5 (ix4 0 j e ⟨256 * r + y, by omega⟩) := by
  unfold vTile
  refine congrArg x5 (funext fun a => Fin.ext ?_)
  fin_cases a <;> simp [Rect.toLoadRect, LoadRect.idx, Rect.unit]

theorem box_at (z : FVec Ideal S1x1x256x512 .fp8e4m3) (d : Fin 256) (l : Fin 512) :
    (shapeCast S256x512 z shapeCasts_S1x1x256x512_S256x512 : FVec Ideal S256x512 .fp8e4m3) (ix2 d l) = z (ix4 0 0 d l) := by
  pointwise

theorem qTile_at (x3 : FVec Ideal S1x2x256x512 .fp8e4m3) (c : Fin 2) (d : Fin 256) (l : Fin 512) :
    qTile (F := Ideal) x3 c (ix2 d l) = x3 (ix4 0 c d l) := by
  unfold qTile
  refine (box_at _ d l).trans (congrArg x3 (funext fun a => Fin.ext ?_))
  fin_cases a <;> simp [Rect.toLoadRect, LoadRect.idx, Rect.unit]

theorem head_ratio (x0 : FVec Ideal S1 .f32) (c : ℝ) (hs : scaleOf (F := Ideal) x0 = (c : EReal)) (x3 : FVec Ideal S1x2x256x512 .fp8e4m3)
    (x4 : FVec Ideal S1x2x5x3328x256 .fp8e4m3) (x5 : FVec Ideal S1x5x144x3328 .bf16) (k : Fin 2) (l : Fin 512)
    (q : ℕ → ℝ) (f : Fin 16640 → ℕ → ℝ) (v : Fin 16640 → ℕ → ℝ) (S : Fin 16640 → ℝ)
    (hq : ∀ d : Fin 256, x3 (ix4 0 k d l) = hiLo ((d : ℕ) % 128 < 64) (q ((d : ℕ) % 64) : EReal))
    (hk : ∀ (j : Fin 5) (s : Fin 3328) (d : Fin 256), x4 (ix5 0 k j s d) = hiLo ((d : ℕ) < 128) (f ⟨3328 * j + s, by omega⟩ ((d : ℕ) % 64) : EReal))
    (hv : ∀ (j : Fin 5) (e : Fin 144) (s : Fin 3328), x5 (ix4 0 j e s) = pick e (v ⟨3328 * j + s, by omega⟩ ((e : ℕ) % 128) : EReal))
    (hS : ∀ κ, (∑ d : Fin 64, f κ d * q d) * c = S κ / Real.log 2) (e : Fin 128) :
    Ideal.div (accOf (F := Ideal) x0 x3 x4 x5 k (ix2 ⟨e, by omega⟩ l)) (accOf (F := Ideal) x0 x3 x4 x5 k (ix2 128 l)) = ((att S (fun κ => v κ e) : ℝ) : EReal) := by
  obtain ⟨M, hM⟩ := accOf_real x0 c hs x3 x4 x5 k l (fun j r y => ∑ d : Fin 64, f (keyAt j r y) d * q d)
    (fun e j r y => if (e : ℕ) < 128 then v (keyAt j r y) ((e : ℕ) % 128) else if (e : ℕ) = 128 then 1 else 0)
    (fun j r y => by
      rw [score_at, ← split_score]
      refine Finset.sum_congr rfl fun d _ => ?_
      rw [kTile_at, qTile_at, hk, hq]
      have e : (⟨3328 * (j : ℕ) + (256 * (r : ℕ) + (y : ℕ)), by omega⟩ : Fin 16640) = keyAt j r y := Fin.ext (by simp only [keyAt]; omega)
      rw [← e])
    (fun e j r y => by
      rw [vTile_at, hv]
      have e' : (⟨3328 * (j : ℕ) + (256 * (r : ℕ) + (y : ℕ)), by omega⟩ : Fin 16640) = keyAt j r y := Fin.ext (by simp only [keyAt]; omega)
      rw [← e']
      unfold pick
      split
      · rfl
      · split <;> simp)
  rw [hM, hM]
  refine ratio_real M c _ _ _ S (fun κ => v κ e) (fun j r y => hS _) (fun j r y => ?_) (fun j r y => ?_)
  · simp only
    rw [if_pos e.isLt, Nat.mod_eq_of_lt e.isLt]
  · rfl

end Cert.KernelIdeal.Attn

end
-- ==== Proof.Final.lean ====
/- The end of the attention's body at an index: the difference of the two components, normalised and scaled. -/
module

public import proofs.«01_k».proof.Proof.Model
public import Idealize.ShloMosaic.Lib.Pointwise
public import Idealize.ShloMosaic.Lib.Tactic

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- The weight of the second component, from the two sums of products. -/
def lamE (s t : EReal) : EReal := Ideal.exp s - Ideal.exp t + Ideal.ofBits .f32 0x3E4CCCCD#32

/-- An entry of a head's result, from the differences `o` over the head's 128 entries and the gain. -/
def normed (o : Fin 128 → EReal) (g : EReal) (e : Fin 128) : EReal :=
  o e * Ideal.rsqrt (Ideal.div (∑ k : Fin 128, o k * o k) (Ideal.ofBits .f32 0x43000000#32) + Ideal.ofBits .f32 0x358637BD#32) * g
    * Ideal.ofBits .f32 0x3F4CCCCD#32

theorem tops_at (A : FVec Ideal S144x512 .f32) (e : Fin 128) (l : Fin 512) : tops (F := Ideal) A (ix2 e l) = A (ix2 ⟨e, by omega⟩ l) := by
  unfold tops
  refine congrArg A (funext fun a => Fin.ext ?_)
  fin_cases a <;> simp [Rect.toLoadRect, LoadRect.idx, Rect.unit]

theorem sums_at (A : FVec Ideal S144x512 .f32) (l : Fin 512) : sums (F := Ideal) A (ix2 0 l) = A (ix2 128 l) := by
  unfold sums
  refine congrArg A (funext fun a => Fin.ext ?_)
  fin_cases a <;> simp [Rect.toLoadRect, LoadRect.idx, Rect.unit]

/-- The difference of the components at an entry. -/
theorem diff_at (x1 : FVec Ideal S8x128 .f32) (ta : FVec Ideal S128x512 .f32) (sa : FVec Ideal S1x512 .f32) (tb : FVec Ideal S128x512 .f32) (sb : FVec Ideal S1x512 .f32) (e : Fin 128) (l : Fin 512) :
    k3_pay377 (F := Ideal) x1 ta sa tb sb (ix2 e l) = Ideal.div (ta (ix2 e l)) (sa (ix2 0 l))
      - lamE (∑ k : Fin 128, x1 (ix2 0 k) * x1 (ix2 1 k)) (∑ k : Fin 128, x1 (ix2 2 k) * x1 (ix2 3 k)) * Ideal.div (tb (ix2 e l)) (sb (ix2 0 l)) := by
  unfold lamE
  pointwise [k3_pay377]

/-- The sums of squares. -/
theorem squares_at (x1 : FVec Ideal S8x128 .f32) (ta : FVec Ideal S128x512 .f32) (sa : FVec Ideal S1x512 .f32) (tb : FVec Ideal S128x512 .f32) (sb : FVec Ideal S1x512 .f32) (l : Fin 512) :
    k3_pay378 (F := Ideal) x1 ta sa tb sb (ix2 0 l) = ∑ k : Fin 128, k3_pay377 (F := Ideal) x1 ta sa tb sb (ix2 k l) * k3_pay377 (F := Ideal) x1 ta sa tb sb (ix2 k l) := by
  generalize hD : k3_pay377 (F := Ideal) x1 ta sa tb sb = D
  unfold k3_pay378
  rw [hD]
  pointwise

/-- The result block at an entry. -/
theorem out_at (D : FVec Ideal S128x512 .f32) (Q : FVec Ideal S1x512 .f32) (x2 : FVec Ideal S128x1 .f32) (e : Fin 128) (l : Fin 512) :
    k3_pay1 (F := Ideal) D Q (k3_pay379 (F := Ideal)) x2 (ix2 l e)
      = D (ix2 e l) * Ideal.rsqrt (Ideal.div (Q (ix2 0 l)) (Ideal.ofBits .f32 0x43000000#32) + Ideal.ofBits .f32 0x358637BD#32) * x2 (ix2 e 0)
    * Ideal.ofBits .f32 0x3F4CCCCD#32 := by
  pointwise [k3_pay1, k3_pay379]

theorem attnOut_at (x0 : FVec Ideal S1 .f32) (x1 : FVec Ideal S8x128 .f32) (x2 : FVec Ideal S128x1 .f32) (x3 : FVec Ideal S1x2x256x512 .fp8e4m3) (x4 : FVec Ideal S1x2x5x3328x256 .fp8e4m3) (x5 : FVec Ideal S1x5x144x3328 .bf16)
    (l : Fin 512) (e : Fin 128) :
    attnOut (F := Ideal) x0 x1 x2 x3 x4 x5 (ix2 l e) = normed (fun k =>
      Ideal.div (accOf (F := Ideal) x0 x3 x4 x5 0 (ix2 ⟨k, by omega⟩ l)) (accOf (F := Ideal) x0 x3 x4 x5 0 (ix2 128 l))
      - lamE (∑ k : Fin 128, x1 (ix2 0 k) * x1 (ix2 1 k)) (∑ k : Fin 128, x1 (ix2 2 k) * x1 (ix2 3 k))
        * Ideal.div (accOf (F := Ideal) x0 x3 x4 x5 1 (ix2 ⟨k, by omega⟩ l)) (accOf (F := Ideal) x0 x3 x4 x5 1 (ix2 128 l))) (x2 (ix2 e 0)) e := by
  unfold attnOut
  generalize accOf (F := Ideal) x0 x3 x4 x5 0 = A
  generalize accOf (F := Ideal) x0 x3 x4 x5 1 = B
  rw [out_at, squares_at]
  simp only [diff_at, tops_at, sums_at]
  rfl

end Cert.KernelIdeal.Attn

end
-- ==== Proof.Scalars.lean ====
/- The constants and the host's scalars as real numbers, and the host's arrays at an index. -/
module

public import proofs.«01_k».proof.Proof.Host
public import proofs.«01_k».proof.Proof.Softmax
public import proofs.«01_k».proof.Proof.Final
public import Idealize.ShloMosaic.Lib.Routing.OpsSet
public import Idealize.ShloMosaic.Lib.Routing.OpsPair

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen
open scoped BigOperators

theorem two_eq : Ideal.ofBits .f32 0x40000000#32 = ((2 : ℝ) : EReal) := by
  simp [Ideal.ofBits, Ideal.ieee]
  rw [← EReal.coe_mul]; norm_num

theorem one_eq : Ideal.ofBits .f32 0x3F800000#32 = ((1 : ℝ) : EReal) := by
  simp [Ideal.ofBits, Ideal.ieee]
  rw [← EReal.coe_mul]; norm_num

theorem eighth_eq : Ideal.ofBits .f32 0x3E000000#32 = ((1 / 8 : ℝ) : EReal) := by
  simp [Ideal.ofBits, Ideal.ieee]
  rw [← EReal.coe_mul]; norm_num

theorem ln2_real : ∃ r : ℝ, Ideal.ofBits .f32 0x3F317218#32 = (r : EReal) := by
  simp [Ideal.ofBits, Ideal.ieee]
  exact ⟨_, (EReal.coe_mul _ _).symm⟩

theorem five_real : ∃ r : ℝ, Ideal.ofBits .f32 0x40A00000#32 = (r : EReal) := by
  simp [Ideal.ofBits, Ideal.ieee]
  exact ⟨_, (EReal.coe_mul _ _).symm⟩

theorem log2e_real : ∃ r : ℝ, Ideal.ofBits .f32 0x3FB8AA3B#32 = (r : EReal) := by
  simp [Ideal.ofBits, Ideal.ieee]
  exact ⟨_, (EReal.coe_mul _ _).symm⟩

theorem fifth_real : ∃ r : ℝ, Ideal.ofBits .f32 0x3E4CCCCD#32 = (r : EReal) := by
  simp [Ideal.ofBits, Ideal.ieee]
  exact ⟨_, (EReal.coe_mul _ _).symm⟩

/-- The components' weight is real where the sums of products are. -/
theorem lamE_real (s t : ℝ) : ∃ r : ℝ, lamE (s : EReal) (t : EReal) = (r : EReal) := by
  obtain ⟨f, hf⟩ := fifth_real
  exact ⟨Real.exp s - Real.exp t + f, by rw [lamE, hf, Ideal.exp_coe, Ideal.exp_coe, ← EReal.coe_sub, ← EReal.coe_add]⟩

/-- The scale of a real magnitude is a positive real. -/
theorem powScale_real (x : FVec Ideal S_ .f32) (r : ℝ) (h : x ix0 = (r : EReal)) : ∃ a : ℝ, 0 < a ∧ powScale x ix0 = (a : EReal) := by
  obtain ⟨l, hl⟩ := ln2_real
  obtain ⟨f, hf⟩ := five_real
  obtain ⟨g, hg⟩ := log2e_real
  have e : powScale x ix0 = Ideal.exp (Ideal.ofBits .f32 0x3F317218#32 * (Ideal.ofBits .f32 0x40A00000#32 -
      if 0 < x ix0 then Ideal.liftRound Int.floor (Ideal.log (x ix0) * Ideal.ofBits .f32 0x3FB8AA3B#32) + 1 else 0)) := by
    pointwise [powScale, exponent]
  rw [e, h, hl, hf, hg]
  by_cases hr : 0 < r
  · rw [if_pos (by exact_mod_cast hr), Ideal.log_coe, if_neg (not_le.mpr hr), ← EReal.coe_mul, Ideal.liftRound_coe, ← EReal.coe_one, ← EReal.coe_add, ← EReal.coe_sub, ← EReal.coe_mul, Ideal.exp_coe]
    exact ⟨_, Real.exp_pos _, rfl⟩
  · rw [if_neg (by exact_mod_cast hr), ← EReal.coe_zero, ← EReal.coe_sub, ← EReal.coe_mul, Ideal.exp_coe]
    exact ⟨_, Real.exp_pos _, rfl⟩

/-- A scaled query. -/
theorem qScaled_at (x : FVec Ideal S16384x1024 .f32) (n : Fin 16384) (d : Fin 1024) (r : ℝ) (h : x (ix2 n d) = (r : EReal)) :
    qScaled x (ix2 n d) = ((r * (1 / 8 / Real.log 2) : ℝ) : EReal) := by
  have e : qScaled x (ix2 n d) = x (ix2 n d) * Ideal.div (Ideal.ofBits .f32 0x3E000000#32) (Ideal.log (Ideal.ofBits .f32 0x40000000#32)) := by
    pointwise [qScaled]
  have hl : (0 : ℝ) < Real.log 2 := Real.log_pos (by norm_num)
  rw [e, h, two_eq, eighth_eq, Ideal.log_coe, if_neg (by norm_num), Ideal.div_coe hl.ne', ← EReal.coe_mul, ← EReal.coe_mul]
  refine congrArg Real.toEReal ?_
  field_simp

/-- A joined row. -/
theorem joined_at (a : FVec Ideal S256x1024 .f32) (b : FVec Ideal S16384x1024 .f32) (n : Fin 16640) (d : Fin 1024) :
    joined a b (ix2 n d) = if h : (n : ℕ) < 256 then a (ix2 ⟨n, h⟩ d) else b (ix2 ⟨n - 256, by omega⟩ d) := by
  pointwise [joined]

/-- A scalar put in a vector of one. -/
theorem scale_one (x : FVec Ideal S_ .f32) : scaleOf (F := Ideal) (shapeCast S1 x shapeCasts_S_S1 : FVec Ideal S1 .f32) = x ix0 := by
  have e : (shapeCast S1 x shapeCasts_S_S1 : FVec Ideal S1 .f32) (ix1 0) = x ix0 := by pointwise
  rw [← e]
  unfold scaleOf
  exact congrArg _ (funext fun a => Fin.ext (by fin_cases a; rfl))

/-- The factor of the exponents. -/
theorem factor_real (x y : FVec Ideal S_ .f32) (a b : ℝ) (ha : 0 < a) (hb : 0 < b) (hx : x ix0 = (a : EReal)) (hy : y ix0 = (b : EReal)) :
    (Host.divf (constant S_ .f32 0x3F800000#32) (mulf x y) : FVec Ideal S_ .f32) ix0 = ((1 / (a * b) : ℝ) : EReal) := by
  have e : (Host.divf (constant S_ .f32 0x3F800000#32) (mulf x y) : FVec Ideal S_ .f32) ix0 = Ideal.div 1 (x ix0 * y ix0) := by
    pointwise
  rw [e, hx, hy, ← EReal.coe_mul, Ideal.div_coe (mul_pos ha hb).ne', one_mul]

/-- A gain. -/
theorem gain_at (g : FVec Ideal S128 .f32) (e : Fin 128) : (shapeCast S128x1 g shapeCasts_S128_S128x1 : FVec Ideal S128x1 .f32) (ix2 e 0) = g (ix1 e) := by
  pointwise

/-- Update `k` of row `i` lands at entry `k` of that row. -/
theorem row_lands (i : Fin 8) (k : Fin 64) (r : Fin 8) (e : Fin 128) :
    scatter_S8x128_S2_S64_0_0_01_0.resultIdx? (ix1 k) (rowIdx (BitVec.ofNat 32 i)) = some (ix2 r e) ↔ r = i ∧ (e : ℕ) = k := by
  have h0 : rowIdx (BitVec.ofNat 32 i) (ix1 (0 : Fin 2)) = BitVec.ofNat 32 i := by pointwise [rowIdx]
  have h1 : rowIdx (BitVec.ofNat 32 i) (ix1 (1 : Fin 2)) = 0#32 := by pointwise [rowIdx]
  have w0 : scatter_S8x128_S2_S64_0_0_01_0.window (ix1 k) 0 = 0 := rfl
  have w1 : scatter_S8x128_S2_S64_0_0_01_0.window (ix1 k) 1 = k := rfl
  have s0 : scatter_S8x128_S2_S64_0_0_01_0.start (ix1 k) (rowIdx (BitVec.ofNat 32 i)) 0 = (i : ℕ) := by
    have e : scatter_S8x128_S2_S64_0_0_01_0.start (ix1 k) (rowIdx (BitVec.ofNat 32 i)) 0 = (rowIdx (BitVec.ofNat 32 i) (ix1 (0 : Fin 2))).toInt := by
      refine congrArg (fun x => (rowIdx (BitVec.ofNat 32 i) x).toInt) ?_
      funext a; match a with | ⟨0, _⟩ => rfl
    rw [e, h0, StableHlo.Predicate.toInt_ofNat_small _ (by omega)]
  have s1 : scatter_S8x128_S2_S64_0_0_01_0.start (ix1 k) (rowIdx (BitVec.ofNat 32 i)) 1 = 0 := by
    have e : scatter_S8x128_S2_S64_0_0_01_0.start (ix1 k) (rowIdx (BitVec.ofNat 32 i)) 1 = (rowIdx (BitVec.ofNat 32 i) (ix1 (1 : Fin 2))).toInt := by
      unfold ScatterDims.start
      rw [dif_pos (by decide)]
      refine congrArg (fun x => (rowIdx (BitVec.ofNat 32 i) x).toInt) ?_
      funext a; match a with | ⟨0, _⟩ => rfl
    rw [e, h1]; rfl
  refine (Routing.resultIdx?_ix2 _ _ _ r e).trans ?_
  rw [s0, s1, w0, w1, Fin.ext_iff]
  omega

/-- The row set, and the others. -/
theorem setRow_at (x : FVec Ideal S8x128 .f32) (i : Fin 8) (u : FVec Ideal S64 .f32) (r : Fin 8) (k : Fin 128) :
    setRow x (BitVec.ofNat 32 i) u (ix2 r k) = if h : r = i ∧ (k : ℕ) < 64 then u (ix1 ⟨k, h.2⟩) else x (ix2 r k) := by
  have lands : ∀ j : S64.Idx, scatter_S8x128_S2_S64_0_0_01_0.resultIdx? j (rowIdx (BitVec.ofNat 32 i)) = some (ix2 r k) → r = i ∧ (k : ℕ) = (j 0).val := fun j hj =>
    (row_lands i (j 0) r k).1 ((congrArg (fun t => scatter_S8x128_S2_S64_0_0_01_0.resultIdx? t (rowIdx (BitVec.ofNat 32 i))) (ValueIdx.eq_ix1 j)).symm.trans hj)
  split
  · rename_i h
    refine Routing.scatter_set_hit _ x _ u _ _ (fun j hj => ?_) (ix1 ⟨k, h.2⟩) ((row_lands i ⟨k, h.2⟩ r k).2 ⟨h.1, rfl⟩)
    refine congrArg u ((ValueIdx.eq_ix1 j).trans ?_)
    exact congrArg ix1 (Fin.ext (lands j hj).2.symm)
  · rename_i h
    exact Routing.scatter_set_miss _ x _ u _ fun j hj => h ⟨(lands j hj).1, (lands j hj).2 ▸ (j 0).isLt⟩

/-- A row of the four, a vector and zeros after it. -/
def padded (u : FVec Ideal S64 .f32) (k : Fin 128) : EReal := if h : (k : ℕ) < 64 then u (ix1 ⟨k, h⟩) else 0

theorem lamRows_at (a b c d : FVec Ideal S64 .f32) (r : Fin 8) (k : Fin 128) :
    lamRows a b c d (ix2 r k) = if (r : ℕ) = 3 then padded d k else if (r : ℕ) = 2 then padded c k else if (r : ℕ) = 1 then padded b k else if (r : ℕ) = 0 then padded a k else 0 := by
  have z : (broadcastInDim S8x128 ![] bcast_S_S8x128 (constant S_ .f32 0x00000000#32 : FVec Ideal S_ .f32) : FVec Ideal S8x128 .f32) (ix2 r k) = 0 := by pointwise
  unfold lamRows
  generalize (broadcastInDim S8x128 ![] bcast_S_S8x128 (constant S_ .f32 0x00000000#32 : FVec Ideal S_ .f32) : FVec Ideal S8x128 .f32) = x0 at z ⊢
  rw [show (3#32) = BitVec.ofNat 32 (3 : Fin 8) from rfl, setRow_at, show (2#32) = BitVec.ofNat 32 (2 : Fin 8) from rfl, setRow_at,
    show (1#32) = BitVec.ofNat 32 (1 : Fin 8) from rfl, setRow_at, show (0#32) = BitVec.ofNat 32 (0 : Fin 8) from rfl, setRow_at, z]
  unfold padded
  by_cases hk : (k : ℕ) < 64
  · simp only [hk, and_true, Fin.ext_iff, dite_true]
    split_ifs <;> first | rfl | (exfalso; simp_all; done) | (exfalso; omega)
  · simp only [hk, and_false, dite_false]
    simp

/-- The sum of products of two rows is the one of the vectors. -/
theorem sum_padded (a b : FVec Ideal S64 .f32) (x y : Fin 64 → ℝ) (ha : ∀ d, a (ix1 d) = (x d : EReal)) (hb : ∀ d, b (ix1 d) = (y d : EReal)) :
    ∑ k : Fin 128, padded a k * padded b k = ((∑ d, x d * y d : ℝ) : EReal) := by
  rw [show (∑ k : Fin 128, padded a k * padded b k) = ∑ k : Fin (64 + 64), padded a k * padded b k from rfl, Fin.sum_univ_add]
  rw [Finset.sum_eq_zero (s := Finset.univ) (f := fun i : Fin 64 => padded a (Fin.natAdd 64 i) * padded b (Fin.natAdd 64 i)), add_zero, coe_sum]
  · refine Finset.sum_congr rfl fun d _ => ?_
    unfold padded
    rw [dif_pos (by simp), dif_pos (by simp), EReal.coe_mul, ← ha, ← hb]
    rfl
  · intro d _
    unfold padded
    rw [dif_neg (by simp), zero_mul]

end Cert.KernelIdeal.Attn

end
-- ==== Proof.Spec.lean ====
/- What the call computes: attention of two components, their weighted difference, its norm. -/
module

public import proofs.«01_k».proof.Proof.Final
public import proofs.«01_k».proof.Proof.RealMath

@[expose] public section

noncomputable section

namespace Cert.KernelIdeal.Attn

open Idealize.ShloMosaic Idealize.ShloMosaic.TcCoe Idealize.ShloMosaic.Tactic
open Cert.KernelIdeal Cert.KernelIdeal.Gen
open scoped BigOperators

/-- The score of query `n` with key `κ` in component `k` of head `h`. -/
def scoreR (Q K : ℕ → ℕ → ℝ) (n h k : ℕ) (κ : Fin 16640) : ℝ := (1 / 8) * ∑ d : Fin 64, Q n (128 * h + 64 * k + d) * K κ (128 * h + 64 * k + d)

/-- Component `k` of head `h`: the values weighted by the softmax of the scores. -/
def attR (Q K V : ℕ → ℕ → ℝ) (n h k e : ℕ) : ℝ := att (scoreR Q K n h k) fun κ => V κ (128 * h + e)

/-- An element of the result: the difference of the components, normed over the head. -/
def specAt (Q K V : ℕ → ℕ → ℝ) (L : EReal) (g : FVec Ideal S128 .f32) (n h : ℕ) (e : Fin 128) : EReal :=
  normed (fun k => (attR Q K V n h 0 k : EReal) - L * (attR Q K V n h 1 k : EReal)) (g (ix1 e)) e

/-- The whole result. -/
def specOut (Q K V : ℕ → ℕ → ℝ) (L : EReal) (g : FVec Ideal S128 .f32) : FVec Ideal S16384x1024 .bf16 := fun i =>
  specAt Q K V L g (i 0).val ((i 1).val / 128) ⟨(i 1).val % 128, Nat.mod_lt _ (by decide)⟩

theorem specAt_congr (Q K V : ℕ → ℕ → ℝ) (L : EReal) (g : FVec Ideal S128 .f32) {n n' h h' : ℕ} {e e' : Fin 128} (hn : n = n') (hh : h = h') (he : e = e') :
    specAt Q K V L g n h e = specAt Q K V L g n' h' e' := by subst hn hh he; rfl

end Cert.KernelIdeal.Attn

end
-- ==== Proof.KernelValue.lean ====
/- The call's result, from its arguments. -/
module

public import proofs.«01_k».proof.Proof.Entry
public import proofs.«01_k».proof.Proof.Arrays
public import proofs.«01_k».proof.Proof.Head
public import proofs.«01_k».proof.Proof.Scalars
public import proofs.«01_k».proof.Proof.Spec

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen
open scoped BigOperators

/-- The joined keys in five blocks. -/
theorem five_at (x : FVec Ideal S8x2x16640x256 .fp8e4m3) (h : Fin 8) (k : Fin 2) (j : Fin 5) (s : Fin 3328) (d : Fin 256) :
    (shapeCast S8x2x5x3328x256 x shapeCasts_S8x2x16640x256_S8x2x5x3328x256 : FVec Ideal S8x2x5x3328x256 .fp8e4m3) (ix5 h k j s d)
      = x (ix4 h k ⟨3328 * (j : ℕ) + (s : ℕ), by omega⟩ d) := by
  pointwise
  exact congrArg (fun a => x (ix4 h k a d)) (Fin.ext (by dsimp only; omega))

/-- The query tile of a block is one of 32, and its head one of 8. -/
theorem tile_lt (t : Fin cfg3.N) : (grid3.coords t 0).val < 8 ∧ (grid3.coords t 1).val < 32 :=
  ⟨(grid3.coords t 0).isLt, (grid3.coords t 1).isLt⟩

variable (m : (ℓ : Loc nD τ sig) → Buf (Elt Ideal) ℓ) (ρ : Dev nD → PrngReg) (c : Dev nD) (t : Fin cfg3.N)

theorem q_blk (k : Fin 2) (d : Fin 256) (l : Fin 512) : (blk3 (B10 m ρ) c 3 t : FVec Ideal S1x2x256x512 .fp8e4m3) (ix4 0 k d l)
    = (B10 m ρ c main_v51 : FVec Ideal S8x2x256x16384 .fp8e4m3) (ix4 ⟨(grid3.coords t 0).val, (tile_lt t).1⟩ k d
      ⟨512 * (grid3.coords t 1).val + (l : ℕ), by have := (tile_lt t).2; omega⟩) := by
  blk_ext [blk3, idx3 t]

theorem k_blk (k : Fin 2) (j : Fin 5) (s : Fin 3328) (d : Fin 256) : (blk3 (B10 m ρ) c 4 t : FVec Ideal S1x2x5x3328x256 .fp8e4m3) (ix5 0 k j s d)
    = (B10 m ρ c main_v55 : FVec Ideal S8x2x5x3328x256 .fp8e4m3) (ix5 ⟨(grid3.coords t 0).val, (tile_lt t).1⟩ k j s d) := by
  blk_ext [blk3, idx3 t]

theorem v_blk (j : Fin 5) (e : Fin 144) (s : Fin 3328) : (blk3 (B10 m ρ) c 5 t : FVec Ideal S1x5x144x3328 .bf16) (ix4 0 j e s)
    = (B10 m ρ c main_v54 : FVec Ideal S8x5x144x3328 .bf16) (ix4 ⟨(grid3.coords t 0).val, (tile_lt t).1⟩ j e s) := by
  blk_ext [blk3, idx3 t]

theorem c_blk : (blk3 (B10 m ρ) c 0 t : FVec Ideal S1 .f32) = (B10 m ρ c main_v58 : FVec Ideal S1 .f32) := by
  funext y
  idx_vars y
  blk_ext [blk3, idx3 t]

theorem lam_blk (r : Fin 8) (k : Fin 128) : (blk3 (B10 m ρ) c 1 t : FVec Ideal S8x128 .f32) (ix2 r k) = (B10 m ρ c main_v27 : FVec Ideal S8x128 .f32) (ix2 r k) := by
  blk_ext [blk3, idx3 t]

theorem g_blk (e : Fin 128) : (blk3 (B10 m ρ) c 2 t : FVec Ideal S128x1 .f32) (ix2 e 0) = (B10 m ρ c main_v59 : FVec Ideal S128x1 .f32) (ix2 e 0) := by
  blk_ext [blk3, idx3 t]

variable (Q K V : ℕ → ℕ → ℝ) (aq ak : ℝ) (x y u w : Fin 64 → ℝ)
variable (hQ : ∀ (n : Fin 16384) (d : Fin 1024), (arg m c main_arg0 : FVec Ideal S16384x1024 .f32) (ix2 n d) = (Q n d : EReal))
variable (hK : ∀ (n : Fin 16640) (d : Fin 1024), joined (arg m c main_arg1) (arg m c main_arg2) (ix2 n d) = (K n d : EReal))
variable (hV : ∀ (n : Fin 16640) (d : Fin 1024), joined (arg m c main_arg3) (arg m c main_arg4) (ix2 n d) = (V n d : EReal))
variable (haq : powScale (arg m c main_arg5) ix0 = (aq : EReal)) (hak : powScale (arg m c main_arg6) ix0 = (ak : EReal))

include hQ haq in
theorem q_at (k : Fin 2) (d : Fin 256) (l : Fin 512) : (blk3 (B10 m ρ) c 3 t : FVec Ideal S1x2x256x512 .fp8e4m3) (ix4 0 k d l)
    = hiLo ((d : ℕ) % 128 < 64) ((Q (512 * (grid3.coords t 1).val + l) (128 * (grid3.coords t 0).val + 64 * k + (d : ℕ) % 64) * (1 / 8 / Real.log 2) * aq : ℝ) : EReal) := by
  have h0 := (tile_lt t).1
  have h1 := (tile_lt t).2
  rw [q_blk, b10_q]
  refine hiLo_congr Iff.rfl ?_
  refine (congrArg₂ (fun a b : EReal => a * b) (qScaled_at _ ⟨512 * (grid3.coords t 1).val + l, by omega⟩ ⟨128 * (grid3.coords t 0).val + 64 * k + (d : ℕ) % 64, by omega⟩ _ (hQ _ _))
    ((scale_one _).trans haq)).trans ?_
  rw [← EReal.coe_mul]

include hK hak in
theorem k_at (k : Fin 2) (j : Fin 5) (s : Fin 3328) (d : Fin 256) : (blk3 (B10 m ρ) c 4 t : FVec Ideal S1x2x5x3328x256 .fp8e4m3) (ix5 0 k j s d)
    = hiLo ((d : ℕ) < 128) ((K (3328 * j + s) (128 * (grid3.coords t 0).val + 64 * k + (d : ℕ) % 64) * ak : ℝ) : EReal) := by
  have h0 := (tile_lt t).1
  rw [k_blk, b10_k, five_at]
  refine hiLo_congr Iff.rfl ?_
  refine (congrArg₂ (fun a b : EReal => a * b) (hK ⟨3328 * j + s, by omega⟩ ⟨128 * (grid3.coords t 0).val + 64 * k + (d : ℕ) % 64, by omega⟩)
    ((scale_one _).trans hak)).trans ?_
  rw [← EReal.coe_mul]

include hV in
theorem v_at (j : Fin 5) (e : Fin 144) (s : Fin 3328) : (blk3 (B10 m ρ) c 5 t : FVec Ideal S1x5x144x3328 .bf16) (ix4 0 j e s)
    = pick e ((V (3328 * j + s) (128 * (grid3.coords t 0).val + (e : ℕ) % 128) : ℝ) : EReal) := by
  have h0 := (tile_lt t).1
  rw [v_blk, b10_v]
  exact congrArg (pick e) (hV ⟨3328 * j + s, by omega⟩ ⟨128 * (grid3.coords t 0).val + (e : ℕ) % 128, by omega⟩)

include haq hak in
theorem c_at (pq : 0 < aq) (pk : 0 < ak) : scaleOf (F := Ideal) (blk3 (B10 m ρ) c 0 t : FVec Ideal S1 .f32) = ((1 / (aq * ak) : ℝ) : EReal) := by
  rw [c_blk, b10_c, scale_one]
  exact factor_real _ _ aq ak pq pk haq hak

include hQ hK hV haq hak in
/-- A component of a head, as the kernel's quotient of accumulators. -/
theorem ratio_at (pq : 0 < aq) (pk : 0 < ak) (k : Fin 2) (l : Fin 512) (e : Fin 128) :
    Ideal.div (accOf (F := Ideal) (blk3 (B10 m ρ) c 0 t) (blk3 (B10 m ρ) c 3 t) (blk3 (B10 m ρ) c 4 t) (blk3 (B10 m ρ) c 5 t) k (ix2 ⟨e, by omega⟩ l))
      (accOf (F := Ideal) (blk3 (B10 m ρ) c 0 t) (blk3 (B10 m ρ) c 3 t) (blk3 (B10 m ρ) c 4 t) (blk3 (B10 m ρ) c 5 t) k (ix2 128 l))
    = (attR Q K V (512 * (grid3.coords t 1).val + l) (grid3.coords t 0).val k e : EReal) := by
  have hl : (0 : ℝ) < Real.log 2 := Real.log_pos (by norm_num)
  refine head_ratio (blk3 (B10 m ρ) c 0 t) (1 / (aq * ak)) (c_at m ρ c t aq ak haq hak pq pk) (blk3 (B10 m ρ) c 3 t) (blk3 (B10 m ρ) c 4 t) (blk3 (B10 m ρ) c 5 t) k l
    (fun d => Q (512 * (grid3.coords t 1).val + l) (128 * (grid3.coords t 0).val + 64 * k + d) * (1 / 8 / Real.log 2) * aq)
    (fun κ d => K κ (128 * (grid3.coords t 0).val + 64 * k + d) * ak)
    (fun κ e => V κ (128 * (grid3.coords t 0).val + e))
    (scoreR Q K (512 * (grid3.coords t 1).val + l) (grid3.coords t 0).val k)
    (fun d => q_at m ρ c t Q aq hQ haq k d l) (fun j s d => k_at m ρ c t K ak hK hak k j s d) (fun j e s => v_at m ρ c t V hV j e s) (fun κ => ?_) e
  unfold scoreR
  rw [Finset.sum_mul, Finset.mul_sum, Finset.sum_div]
  refine Finset.sum_congr rfl fun d _ => ?_
  have := hl.ne'
  have := pq.ne'
  have := pk.ne'
  field_simp

variable (hx : ∀ d : Fin 64, (arg m c main_arg7 : FVec Ideal S64 .f32) (ix1 d) = (x d : EReal)) (hy : ∀ d : Fin 64, (arg m c main_arg8 : FVec Ideal S64 .f32) (ix1 d) = (y d : EReal))
variable (hu : ∀ d : Fin 64, (arg m c main_arg9 : FVec Ideal S64 .f32) (ix1 d) = (u d : EReal)) (hw : ∀ d : Fin 64, (arg m c main_arg10 : FVec Ideal S64 .f32) (ix1 d) = (w d : EReal))

include hx hy hu hw in
theorem lam_at (x1 : FVec Ideal S8x128 .f32)
    (e : ∀ (r : Fin 8) (k : Fin 128), x1 (ix2 r k) = lamRows (arg m c main_arg7) (arg m c main_arg8) (arg m c main_arg9) (arg m c main_arg10) (ix2 r k)) :
    lamE (∑ k : Fin 128, x1 (ix2 0 k) * x1 (ix2 1 k)) (∑ k : Fin 128, x1 (ix2 2 k) * x1 (ix2 3 k))
    = lamE ((∑ d, x d * y d : ℝ) : EReal) ((∑ d, u d * w d : ℝ) : EReal) := by
  refine congrArg₂ lamE ?_ ?_
  · refine (Finset.sum_congr rfl fun k _ => ?_).trans (sum_padded _ _ x y hx hy)
    rw [e, e, lamRows_at, lamRows_at]
    rfl
  · refine (Finset.sum_congr rfl fun k _ => ?_).trans (sum_padded _ _ u w hu hw)
    rw [e, e, lamRows_at, lamRows_at]
    rfl

include hQ hK hV haq hak hx hy hu hw in
/-- A block of the result. -/
theorem block_at (pq : 0 < aq) (pk : 0 < ak) (l : Fin 512) (e : Fin 128) :
    attnOut (F := Ideal) (blk3 (B10 m ρ) c 0 t) (blk3 (B10 m ρ) c 1 t) (blk3 (B10 m ρ) c 2 t) (blk3 (B10 m ρ) c 3 t) (blk3 (B10 m ρ) c 4 t) (blk3 (B10 m ρ) c 5 t) (ix2 l e)
    = specAt Q K V (lamE ((∑ d, x d * y d : ℝ) : EReal) ((∑ d, u d * w d : ℝ) : EReal)) (arg m c main_arg11)
      (512 * (grid3.coords t 1).val + l) (grid3.coords t 0).val e := by
  refine (attnOut_at _ _ _ _ _ _ l e).trans ?_
  unfold specAt
  refine congrArg₂ (fun o g => normed o g e) (funext fun k => ?_) ?_
  · exact congrArg₂ (fun a b : EReal => a - b) (ratio_at m ρ c t Q K V aq ak hQ hK hV haq hak pq pk 0 l k)
      (congrArg₂ (fun a b : EReal => a * b) (lam_at m c x y u w hx hy hu hw _ fun r k => (lam_blk m ρ c t r k).trans (by rw [b10_lam])) (ratio_at m ρ c t Q K V aq ak hQ hK hV haq hak pq pk 1 l k))
  · rw [g_blk, b10_g]
    exact gain_at _ e

include hQ hK hV haq hak hx hy hu hw in
/-- The result, element by element. -/
theorem kernel_value (pq : 0 < aq) (pk : 0 < ak) : (pd3 (B10 m ρ) c).arrAt 6 cfg3.N
    = specOut Q K V (lamE ((∑ d, x d * y d : ℝ) : EReal) ((∑ d, u d * w d : ℝ) : EReal)) (arg m c main_arg11) := by
  refine (pd3 (B10 m ρ) c).arrAt_eq_of_covers 6 _ (by decide +kernel) fun t _ z => ?_
  blk_simp
  rw [pd3_after6]
  idx_vars z
  refine (block_at m ρ c t Q K V aq ak x y u w hQ hK hV haq hak hx hy hu hw pq pk z0 z1).trans ?_
  unfold specOut
  refine specAt_congr Q K V _ _ ?_ ?_ (Fin.ext ?_)
  · blk_simp [idx3 t]
    omega
  · blk_simp [idx3 t]
    omega
  · blk_simp [idx3 t]
    dsimp only
    omega

end Cert.KernelIdeal.Attn

end
-- ==== Proof.Ref.lean ====
/- The reference's value in stages, each stage at an index. -/
module

public import proofs.«01_k».proof.Proof.Gen.ReferenceIdeal
public import proofs.«01_k».proof.Proof.Gen.ReferenceIdeal.Run
public import Idealize.ShloMosaic.Lib.Pointwise
public import Idealize.ShloMosaic.Lib.Tactic

@[expose] public section

set_option maxRecDepth 16384

noncomputable section

namespace Cert.ReferenceIdeal.Stages

open Idealize.ShloMosaic Idealize.ShloMosaic.TcCoe Idealize.ShloMosaic.Tactic
open Cert.ReferenceIdeal Cert.ReferenceIdeal.Gen
open scoped BigOperators

/-- The queries, head by head. -/
def queries (x : FVec Ideal S16384x1024 .f32) : FVec Ideal S8x2x16384x64 .f32 :=
  transpose S8x2x16384x64 [1, 2, 0, 3] (shapeCast _ x shapeCasts_S16384x1024_S16384x8x2x64) transposes_S16384x8x2x64_S8x2x16384x64_1_2_0_3

/-- The two caches one under the other. -/
def joint (a : FVec Ideal S256x1024 .f32) (b : FVec Ideal S16384x1024 .f32) : FVec Ideal S16640x1024 .f32 :=
  concatenate S16640x1024 0 [⟨S256x1024, a⟩, ⟨S16384x1024, b⟩] concatenates_S256x1024_S16384x1024_S16640x1024_d0

/-- The keys, head by head. -/
def keys (x : FVec Ideal S16640x1024 .f32) : FVec Ideal S8x2x16640x64 .f32 :=
  transpose S8x2x16640x64 [1, 2, 0, 3] (shapeCast _ x shapeCasts_S16640x1024_S16640x8x2x64) transposes_S16640x8x2x64_S8x2x16640x64_1_2_0_3

/-- The values, head by head. -/
def vals (x : FVec Ideal S16640x1024 .f32) : FVec Ideal S8x16640x128 .f32 :=
  transpose S8x16640x128 [1, 0, 2] (shapeCast _ x shapeCasts_S16640x1024_S16640x8x128) transposes_S16640x8x128_S8x16640x128_1_0_2

/-- The scores. -/
def scores (q : FVec Ideal S8x2x16384x64 .f32) (k : FVec Ideal S8x2x16640x64 .f32) : FVec Ideal S8x2x16384x16640 .f32 :=
  mulf (Host.dotGeneral dot_S8x2x16384x64_S8x2x16640x64_S8x2x16384x16640_3_3_2_2_01_01 none q k) (broadcastInDim S8x2x16384x16640 ![] bcast_S_S8x2x16384x16640 (constant S_ .f32 0x3E000000#32))

/-- The largest score of a row. -/
def top (s : FVec Ideal S8x2x16384x16640 .f32) : FVec Ideal S8x2x16384 .f32 :=
  maximumf (broadcastInDim S8x2x16384 ![] bcast_S_S8x2x16384 (constant S_ .f32 0xFF800000#32)) (Host.reduce FloatOps.maximumf s (constant S_ .f32 0xFF800000#32) reducesTo_S8x2x16384x16640_S8x2x16384_d3 h_S_)

/-- A row's number at each of its elements. -/
def spread (x : FVec Ideal S8x2x16384 .f32) : FVec Ideal S8x2x16384x16640 .f32 :=
  broadcastInDim S8x2x16384x16640 ![0, 1, 2, 3] bcast_S8x2x16384x1_S8x2x16384x16640_0_1_2_3 (broadcastInDim S8x2x16384x1 ![0, 1, 2] bcast_S8x2x16384_S8x2x16384x1_0_1_2 x)

/-- The exponentials. -/
def exps (s : FVec Ideal S8x2x16384x16640 .f32) : FVec Ideal S8x2x16384x16640 .f32 := Host.exp (subf s (spread (top s)))

/-- A row's sum. -/
def rowSum (e : FVec Ideal S8x2x16384x16640 .f32) : FVec Ideal S8x2x16384 .f32 :=
  Host.reduceAdd e (constant S_ .f32 0x00000000#32) reducesTo_S8x2x16384x16640_S8x2x16384_d3 h_S_

/-- The softmax. -/
def probs (e : FVec Ideal S8x2x16384x16640 .f32) : FVec Ideal S8x2x16384x16640 .f32 := Host.divf e (spread (rowSum e))

/-- The components' weight. -/
def lam (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The difference of the components' softmaxes. -/
def diff (p : FVec Ideal S8x2x16384x16640 .f32) (l : FVec Ideal S_ .f32) : FVec Ideal S8x16384x16640 .f32 :=
  subf (shapeCast _ (extractStridedSlice S8x1x16384x16640 ![0, 0, 0, 0] p slices_S8x2x16384x16640_S8x1x16384x16640_0_0_0_0) shapeCasts_S8x1x16384x16640_S8x16384x16640)
    (mulf (broadcastInDim S8x16384x16640 ![] bcast_S_S8x16384x16640 l) (shapeCast _ (extractStridedSlice S8x1x16384x16640 ![0, 1, 0, 0] p slices_S8x2x16384x16640_S8x1x16384x16640_0_1_0_0) shapeCasts_S8x1x16384x16640_S8x16384x16640))

/-- The values weighted. -/
def weigh (d : FVec Ideal S8x16384x16640 .f32) (v : FVec Ideal S8x16640x128 .f32) : FVec Ideal S8x16384x128 .f32 :=
  Host.dotGeneral dot_S8x16384x16640_S8x16640x128_S8x16384x128_2_1_1_2_0_0 none d v

/-- The norm over a head, and the heads side by side. -/
def finish (o : FVec Ideal S8x16384x128 .f32) (g : FVec Ideal S128 .f32) : FVec Ideal S16384x1024 .bf16 :=
  truncf .bf16 (shapeCast _ (transpose S16384x8x128 [1, 0, 2] (mulf (mulf (mulf o (broadcastInDim S8x16384x128 ![0, 1, 2] bcast_S8x16384x1_S8x16384x128_0_1_2 (Host.rsqrt (addf (Host.divf (broadcastInDim S8x16384x1 ![0, 1] bcast_S8x16384_S8x16384x1_0_1 (Host.reduceAdd (mulf o o) (constant S_ .f32 0x00000000#32) reducesTo_S8x16384x128_S8x16384_d2 h_S_)) (broadcastInDim S8x16384x1 ![] bcast_S_S8x16384x1 (constant S_ .f32 0x43000000#32))) (broadcastInDim S8x16384x1 ![] bcast_S_S8x16384x1 (constant S_ .f32 0x358637BD#32)))))) (broadcastInDim S8x16384x128 ![0, 1, 2] bcast_S1x1x128_S8x16384x128_0_1_2 (broadcastInDim S1x1x128 ![2] bcast_S128_S1x1x128_2 g))) (broadcastInDim S8x16384x128 ![] bcast_S_S8x16384x128 (constant S_ .f32 0x3F4CCCCD#32))) transposes_S8x16384x128_S16384x8x128_1_0_2) shapeCasts_S16384x8x128_S16384x1024) bitsLt_bf16_f32

/-- The reference's value is the stages composed. -/
theorem value_eq (m : (ℓ : Loc nD τ sig) → Buf (Elt Ideal) ℓ) (c : Dev nD) :
    Value.res_main_v55 m c = finish (weigh (diff (probs (exps (scores (queries (m ((c.tc : Thread nD τ).loc main_arg0)))
        (keys (joint (m ((c.tc : Thread nD τ).loc main_arg1)) (m ((c.tc : Thread nD τ).loc main_arg2)))))))
        (lam (m ((c.tc : Thread nD τ).loc main_arg7)) (m ((c.tc : Thread nD τ).loc main_arg8)) (m ((c.tc : Thread nD τ).loc main_arg9)) (m ((c.tc : Thread nD τ).loc main_arg10))))
        (vals (joint (m ((c.tc : Thread nD τ).loc main_arg3)) (m ((c.tc : Thread nD τ).loc main_arg4))))) (m ((c.tc : Thread nD τ).loc main_arg11)) := by
  unfold Value.res_main_v55
  rfl

theorem queries_at (x : FVec Ideal S16384x1024 .f32) (h : Fin 8) (k : Fin 2) (n : Fin 16384) (d : Fin 64) :
    queries x (ix4 h k n d) = x (ix2 n ⟨128 * (h : ℕ) + 64 * (k : ℕ) + (d : ℕ), by omega⟩) := by
  pointwise [queries]
  exact congrArg (fun a => x (ix2 n a)) (Fin.ext (by dsimp only; omega))

theorem keys_at (x : FVec Ideal S16640x1024 .f32) (h : Fin 8) (k : Fin 2) (n : Fin 16640) (d : Fin 64) :
    keys x (ix4 h k n d) = x (ix2 n ⟨128 * (h : ℕ) + 64 * (k : ℕ) + (d : ℕ), by omega⟩) := by
  pointwise [keys]
  exact congrArg (fun a => x (ix2 n a)) (Fin.ext (by dsimp only; omega))

theorem vals_at (x : FVec Ideal S16640x1024 .f32) (h : Fin 8) (n : Fin 16640) (e : Fin 128) :
    vals x (ix3 h n e) = x (ix2 n ⟨128 * (h : ℕ) + (e : ℕ), by omega⟩) := by
  pointwise [vals]
  exact congrArg (fun a => x (ix2 n a)) (Fin.ext (by dsimp only; omega))

theorem joint_at (a : FVec Ideal S256x1024 .f32) (b : FVec Ideal S16384x1024 .f32) (n : Fin 16640) (d : Fin 1024) :
    joint a b (ix2 n d) = if h : (n : ℕ) < 256 then a (ix2 ⟨n, h⟩ d) else b (ix2 ⟨n - 256, by omega⟩ d) := by
  pointwise [joint]

theorem scores_at (q : FVec Ideal S8x2x16384x64 .f32) (k : FVec Ideal S8x2x16640x64 .f32) (h : Fin 8) (j : Fin 2) (n : Fin 16384) (κ : Fin 16640) :
    scores q k (ix4 h j n κ) = (∑ d : Fin 64, q (ix4 h j n d) * k (ix4 h j κ d)) * Ideal.ofBits .f32 0x3E000000#32 := by
  pointwise [scores]

theorem spread_at (x : FVec Ideal S8x2x16384 .f32) (h : Fin 8) (j : Fin 2) (n : Fin 16384) (κ : Fin 16640) : spread x (ix4 h j n κ) = x (ix3 h j n) := by
  pointwise [spread]

theorem rowSum_at (e : FVec Ideal S8x2x16384x16640 .f32) (h : Fin 8) (j : Fin 2) (n : Fin 16384) : rowSum e (ix3 h j n) = ∑ κ : Fin 16640, e (ix4 h j n κ) := by
  pointwise [rowSum]

theorem lam_at (a b c d : FVec Ideal S64 .f32) : lam a b c d ix0
    = Ideal.exp (∑ k : Fin 64, a (ix1 k) * b (ix1 k)) - Ideal.exp (∑ k : Fin 64, c (ix1 k) * d (ix1 k)) + Ideal.ofBits .f32 0x3E4CCCCD#32 := by
  pointwise [lam]

theorem diff_at (p : FVec Ideal S8x2x16384x16640 .f32) (l : FVec Ideal S_ .f32) (h : Fin 8) (n : Fin 16384) (κ : Fin 16640) :
    diff p l (ix3 h n κ) = p (ix4 h 0 n κ) - l ix0 * p (ix4 h 1 n κ) := by
  pointwise [diff]

theorem weigh_at (d : FVec Ideal S8x16384x16640 .f32) (v : FVec Ideal S8x16640x128 .f32) (h : Fin 8) (n : Fin 16384) (e : Fin 128) :
    weigh d v (ix3 h n e) = ∑ κ : Fin 16640, d (ix3 h n κ) * v (ix3 h κ e) := by
  pointwise [weigh]

theorem finish_at (o : FVec Ideal S8x16384x128 .f32) (g : FVec Ideal S128 .f32) (n : Fin 16384) (f : Fin 1024) :
    finish o g (ix2 n f) = o (ix3 ⟨(f : ℕ) / 128, by omega⟩ n ⟨(f : ℕ) % 128, by omega⟩)
      * Ideal.rsqrt (Ideal.div (∑ k : Fin 128, o (ix3 ⟨(f : ℕ) / 128, by omega⟩ n k) * o (ix3 ⟨(f : ℕ) / 128, by omega⟩ n k)) (Ideal.ofBits .f32 0x43000000#32) + Ideal.ofBits .f32 0x358637BD#32)
      * g (ix1 ⟨(f : ℕ) % 128, by omega⟩) * Ideal.ofBits .f32 0x3F4CCCCD#32 := by
  pointwise [finish]

end Cert.ReferenceIdeal.Stages

end
-- ==== Proof.Top.lean ====
/- The largest of a row of reals is real. -/
module

public import proofs.«01_k».proof.Proof.Ref

@[expose] public section

set_option maxRecDepth 16384

noncomputable section

namespace Cert.ReferenceIdeal.Stages

open Idealize.ShloMosaic Idealize.ShloMosaic.TcCoe Idealize.ShloMosaic.Tactic
open Cert.ReferenceIdeal Cert.ReferenceIdeal.Gen

/-- The lowest float word is the least number. -/
theorem bot_eq : Ideal.ofBits .f32 0xFF800000#32 = ⊥ := by
  simp [Ideal.ofBits, Ideal.ieee]

theorem max_real (a b : ℝ) : max (a : EReal) (b : EReal) = ((max a b : ℝ) : EReal) := (EReal.coe_strictMono.monotone.map_max (a := a) (b := b)).symm

/-- A fold of the maximum over reals, from a real. -/
theorem foldl_real {β : Type} (l : List β) (g : β → ℝ) : ∀ r : ℝ, ∃ M : ℝ, l.foldl (fun (r : EReal) n => max r (g n : EReal)) (r : EReal) = (M : EReal) := by
  induction l with
  | nil => exact fun r => ⟨r, rfl⟩
  | cons b l ih =>
    intro r
    rw [List.foldl_cons, max_real]
    exact ih _

/-- A fold of the maximum over reals, from the least number, where there are some. -/
theorem foldl_bot {β : Type} (l : List β) (hl : l ≠ []) (g : β → ℝ) : ∃ M : ℝ, l.foldl (fun (r : EReal) n => max r (g n : EReal)) ⊥ = (M : EReal) := by
  cases l with
  | nil => exact absurd rfl hl
  | cons b l =>
    rw [List.foldl_cons, max_eq_right bot_le]
    exact foldl_real l g _

/-- The host's maximum over axes, where the elements are real. -/
theorem reduce_real {s t u : Shape} {axes : List (Fin s.rank)} (x : FVec Ideal s .f32) (g : s.Idx → ℝ) (hx : ∀ i, x i = (g i : EReal)) (h : s.ReducesTo axes t) (hu : 0 < u.numel)
    (i : s.Idx) : ∃ M : ℝ, Host.reduce FloatOps.maximumf x (constant u .f32 0xFF800000#32 : FVec Ideal u .f32) h hu (h.drop i) = (M : EReal) := by
  have e : x = fun i => (g i : EReal) := funext hx
  subst e
  obtain ⟨M, hM⟩ := foldl_bot ((List.finRange s.numel).filter fun n => h.drop (s.rowMajor.symm n) = h.drop i)
    (List.ne_nil_of_mem (a := s.rowMajor i) (List.mem_filter.2 ⟨List.mem_finRange _, by rw [Equiv.symm_apply_apply]; exact decide_eq_true rfl⟩)) fun n => g (s.rowMajor.symm n)
  refine ⟨M, Eq.trans ?_ hM⟩
  unfold Host.reduce
  rw [← bot_eq]
  rfl

/-- The largest of a number and the least one. -/
theorem max_at (z : FVec Ideal S8x2x16384 .f32) (h : Fin 8) (j : Fin 2) (n : Fin 16384) :
    (maximumf (broadcastInDim S8x2x16384 ![] bcast_S_S8x2x16384 (constant S_ .f32 0xFF800000#32)) z : FVec Ideal S8x2x16384 .f32) (ix3 h j n) = max (Ideal.ofBits .f32 0xFF800000#32) (z (ix3 h j n)) := by
  pointwise

theorem drop_eq (h : Fin 8) (j : Fin 2) (n : Fin 16384) (κ : Fin 16640) : reducesTo_S8x2x16384x16640_S8x2x16384_d3.drop (ix4 h j n κ) = (ix3 h j n : S8x2x16384.Idx) := by
  funext a
  match a with
  | ⟨0, _⟩ => rfl
  | ⟨1, _⟩ => rfl
  | ⟨2, _⟩ => rfl

theorem max_bot_real (z : FVec Ideal S8x2x16384 .f32) (h : Fin 8) (j : Fin 2) (n : Fin 16384) (e : ∃ M : ℝ, z (ix3 h j n) = (M : EReal)) :
    ∃ M : ℝ, (maximumf (broadcastInDim S8x2x16384 ![] bcast_S_S8x2x16384 (constant S_ .f32 0xFF800000#32)) z : FVec Ideal S8x2x16384 .f32) (ix3 h j n) = (M : EReal) := by
  obtain ⟨M, hM⟩ := e
  exact ⟨M, by rw [max_at, hM, bot_eq]; exact max_eq_right bot_le⟩

/-- The largest score of a row of reals is real. -/
theorem top_real (s : FVec Ideal S8x2x16384x16640 .f32) (g : S8x2x16384x16640.Idx → ℝ) (hs : ∀ i, s i = (g i : EReal)) (h : Fin 8) (j : Fin 2) (n : Fin 16384) :
    ∃ M : ℝ, top s (ix3 h j n) = (M : EReal) := by
  unfold top
  refine max_bot_real _ h j n ?_
  rw [← drop_eq h j n 0]
  exact reduce_real s g hs reducesTo_S8x2x16384x16640_S8x2x16384_d3 h_S_ (ix4 h j n (0 : Fin 16640))

end Cert.ReferenceIdeal.Stages

end
-- ==== Proof.RefValue.lean ====
/- The reference's value where its arguments are real. -/
module

public import proofs.«01_k».proof.Proof.Top
public import proofs.«01_k».proof.Proof.Spec
public import proofs.«01_k».proof.Proof.Scalars

@[expose] public section

set_option maxRecDepth 16384

noncomputable section

namespace Cert.ReferenceIdeal.Stages

open Idealize.ShloMosaic Idealize.ShloMosaic.TcCoe Idealize.ShloMosaic.Tactic
open Cert.ReferenceIdeal Cert.ReferenceIdeal.Gen
open Cert.KernelIdeal.Attn (att scoreR attR specAt specOut lamE lamE_real normed att_shift coe_sum)
open scoped BigOperators

theorem host_div_at (a b : FVec Ideal S8x2x16384x16640 .f32) (h : Fin 8) (j : Fin 2) (n : Fin 16384) (κ : Fin 16640) :
    (Host.divf a b : FVec Ideal S8x2x16384x16640 .f32) (ix4 h j n κ) = Ideal.div (a (ix4 h j n κ)) (b (ix4 h j n κ)) := by
  pointwise

theorem host_exp_at (a b : FVec Ideal S8x2x16384x16640 .f32) (h : Fin 8) (j : Fin 2) (n : Fin 16384) (κ : Fin 16640) :
    (Host.exp (subf a b) : FVec Ideal S8x2x16384x16640 .f32) (ix4 h j n κ) = Ideal.exp (a (ix4 h j n κ) - b (ix4 h j n κ)) := by
  pointwise

/-- The softmax of real scores: the exponentials over their sum, from some reference number. -/
theorem probs_at (s : FVec Ideal S8x2x16384x16640 .f32) (S : Fin 8 → Fin 2 → Fin 16384 → Fin 16640 → ℝ) (hs : ∀ h j n κ, s (ix4 h j n κ) = (S h j n κ : EReal))
    (h : Fin 8) (j : Fin 2) (n : Fin 16384) :
    ∃ M : ℝ, ∀ κ, probs (exps s) (ix4 h j n κ) = ((Real.exp (S h j n κ - M) / ∑ κ', Real.exp (S h j n κ' - M) : ℝ) : EReal) := by
  obtain ⟨M, hM⟩ := top_real s (fun i => S (i 0) (i 1) (i 2) (i 3)) (fun i => (congrArg s (ValueIdx.eq_ix4 i)).trans (hs _ _ _ _)) h j n
  have e : ∀ κ, exps s (ix4 h j n κ) = (Real.exp (S h j n κ - M) : EReal) := fun κ => by
    unfold exps
    rw [host_exp_at, spread_at, hM, hs, ← EReal.coe_sub, Ideal.exp_coe]
  have pos : (0 : ℝ) < ∑ κ', Real.exp (S h j n κ' - M) := Finset.sum_pos (fun _ _ => Real.exp_pos _) ⟨0, Finset.mem_univ _⟩
  have r : rowSum (exps s) (ix3 h j n) = ((∑ κ', Real.exp (S h j n κ' - M) : ℝ) : EReal) := by
    rw [rowSum_at, coe_sum]
    exact Finset.sum_congr rfl fun κ _ => e κ
  refine ⟨M, fun κ => ?_⟩
  unfold probs
  rw [host_div_at, spread_at, e, r]
  generalize (∑ κ', Real.exp (S h j n κ' - M)) = z at pos
  rw [Ideal.div_coe pos.ne', ← EReal.coe_mul, mul_one_div]

/-- The weighted difference summed is the difference of the weighted sums. -/
theorem split_sum (p₀ p₁ v : Fin 16640 → ℝ) (l : ℝ) :
    ∑ κ, ((p₀ κ : EReal) - (l : EReal) * (p₁ κ : EReal)) * (v κ : EReal) = ((∑ κ, p₀ κ * v κ : ℝ) : EReal) - (l : EReal) * ((∑ κ, p₁ κ * v κ : ℝ) : EReal) := by
  have e : ∀ κ, ((p₀ κ : EReal) - (l : EReal) * (p₁ κ : EReal)) * (v κ : EReal) = (((p₀ κ - l * p₁ κ) * v κ : ℝ) : EReal) := fun κ => by
    rw [EReal.coe_mul, EReal.coe_sub, EReal.coe_mul]
  rw [Finset.sum_congr rfl fun κ _ => e κ, ← coe_sum, ← EReal.coe_mul, ← EReal.coe_sub]
  have f : (∑ κ, (p₀ κ - l * p₁ κ) * v κ) = (∑ κ, p₀ κ * v κ) - l * ∑ κ, p₁ κ * v κ := by
    rw [Finset.mul_sum, ← Finset.sum_sub_distrib]
    exact Finset.sum_congr rfl fun κ _ => by ring
  rw [f]

variable (Q K V : ℕ → ℕ → ℝ) (x y u w : Fin 64 → ℝ)
variable (x0 : FVec Ideal S16384x1024 .f32) (x12 x34 : FVec Ideal S16640x1024 .f32) (x7 x8 x9 x10 : FVec Ideal S64 .f32) (x11 : FVec Ideal S128 .f32)
variable (hQ : ∀ (n : Fin 16384) (d : Fin 1024), x0 (ix2 n d) = (Q n d : EReal))
variable (hK : ∀ (n : Fin 16640) (d : Fin 1024), x12 (ix2 n d) = (K n d : EReal))
variable (hV : ∀ (n : Fin 16640) (d : Fin 1024), x34 (ix2 n d) = (V n d : EReal))
variable (hx : ∀ d : Fin 64, x7 (ix1 d) = (x d : EReal)) (hy : ∀ d : Fin 64, x8 (ix1 d) = (y d : EReal))
variable (hu : ∀ d : Fin 64, x9 (ix1 d) = (u d : EReal)) (hw : ∀ d : Fin 64, x10 (ix1 d) = (w d : EReal))

include hQ hK in
theorem scores_real (h : Fin 8) (j : Fin 2) (n : Fin 16384) (κ : Fin 16640) :
    scores (queries x0) (keys x12) (ix4 h j n κ) = (scoreR Q K n h j κ : EReal) := by
  rw [scores_at, Cert.KernelIdeal.Attn.eighth_eq]
  unfold scoreR
  rw [mul_comm (1 / 8 : ℝ), EReal.coe_mul, coe_sum]
  refine congrArg (fun a : EReal => a * ((1 / 8 : ℝ) : EReal)) (Finset.sum_congr rfl fun d _ => ?_)
  rw [queries_at, keys_at, hQ, hK, EReal.coe_mul]

include hx hy hu hw in
theorem lam_real : lam x7 x8 x9 x10 ix0 = lamE ((∑ d, x d * y d : ℝ) : EReal) ((∑ d, u d * w d : ℝ) : EReal) := by
  rw [lam_at]
  unfold lamE
  have e (a b : FVec Ideal S64 .f32) (f g : Fin 64 → ℝ) (ha : ∀ d : Fin 64, a (ix1 d) = (f d : EReal)) (hb : ∀ d : Fin 64, b (ix1 d) = (g d : EReal)) :
      ∑ k : Fin 64, a (ix1 k) * b (ix1 k) = ((∑ d, f d * g d : ℝ) : EReal) := by
    rw [coe_sum]
    exact Finset.sum_congr rfl fun d _ => by rw [ha, hb, EReal.coe_mul]
  rw [e x7 x8 x y hx hy, e x9 x10 u w hu hw]

include hQ hK hV hx hy hu hw in
theorem weighed_at (h : Fin 8) (n : Fin 16384) (e : Fin 128) :
    weigh (diff (probs (exps (scores (queries x0) (keys x12)))) (lam x7 x8 x9 x10)) (vals x34) (ix3 h n e)
    = (attR Q K V n h 0 e : EReal) - lamE ((∑ d, x d * y d : ℝ) : EReal) ((∑ d, u d * w d : ℝ) : EReal) * (attR Q K V n h 1 e : EReal) := by
  obtain ⟨l, hl⟩ := lamE_real (∑ d, x d * y d) (∑ d, u d * w d)
  have hL := (lam_real x y u w x7 x8 x9 x10 hx hy hu hw).trans hl
  have hS := scores_real Q K x0 x12 hQ hK
  generalize scores (queries x0) (keys x12) = s at hS ⊢
  generalize lam x7 x8 x9 x10 = L at hL ⊢
  obtain ⟨M, hM⟩ := probs_at s (fun h j n κ => scoreR Q K n h j κ) hS h 0 n
  obtain ⟨N, hN⟩ := probs_at s (fun h j n κ => scoreR Q K n h j κ) hS h 1 n
  generalize probs (exps s) = p at hM hN ⊢
  rw [weigh_at, hl]
  unfold attR
  rw [← att_shift (scoreR Q K n h 0) (fun κ => V κ (128 * h + e)) M, ← att_shift (scoreR Q K n h 1) (fun κ => V κ (128 * h + e)) N, ← split_sum]
  refine Finset.sum_congr rfl fun κ _ => ?_
  rw [diff_at, hM, hN, hL, vals_at, hV]
  rfl

include hQ hK hV hx hy hu hw in
/-- The reference's value. -/
theorem ref_value : finish (weigh (diff (probs (exps (scores (queries x0) (keys x12)))) (lam x7 x8 x9 x10)) (vals x34)) x11
    = specOut Q K V (lamE ((∑ d, x d * y d : ℝ) : EReal) ((∑ d, u d * w d : ℝ) : EReal)) x11 := by
  have ho := weighed_at Q K V x y u w x0 x12 x34 x7 x8 x9 x10 hQ hK hV hx hy hu hw
  generalize weigh (diff (probs (exps (scores (queries x0) (keys x12)))) (lam x7 x8 x9 x10)) (vals x34) = o at ho ⊢
  funext i
  rw [ValueIdx.eq_ix2 i]
  exact (finish_at o x11 (i 0) (i 1)).trans (congrArg (fun z : Fin 128 → EReal => normed z (x11 (ix1 ⟨(i 1).val % 128, Nat.mod_lt _ (by decide)⟩)) ⟨(i 1).val % 128, Nat.mod_lt _ (by decide)⟩)
    (funext fun k => ho ⟨(i 1).val / 128, Nat.div_lt_of_lt_mul (i 1).isLt⟩ (i 0) k))

end Cert.ReferenceIdeal.Stages

end
-- ==== Proof.Finite.lean ====
/- The precondition gives real arguments. -/
module

public import proofs.«01_k».proof.Defs
public import proofs.«01_k».proof.Proof.Gen.Pre_finite
public import Idealize.ShloMosaic.Lib.ReduceAll
public import Idealize.ShloMosaic.Lib.Pointwise
public import Idealize.ShloMosaic.Lib.Tactic

@[expose] public section

set_option maxRecDepth 16384

noncomputable section

namespace Cert.Pre_finite.Real

open Idealize.ShloMosaic Idealize.ShloMosaic.TcCoe Idealize.ShloMosaic.Tactic
open Cert.Pre_finite

/-- A number whose magnitude is below the largest is real. -/
theorem real_of (a : EReal) (h : FloatOps.cmpf (F := Ideal) (φ := .f32) .olt (FloatOps.hostAbsf (F := Ideal) (φ := .f32) a) (FloatOps.ofBits (F := Ideal) .f32 0x7F800000#32) = 1#1) : ∃ r : ℝ, a = (r : EReal) := by
  have t : (FloatOps.ofBits (F := Ideal) .f32 0x7F800000#32 : EReal) = ⊤ := by
    show Ideal.ofBits .f32 0x7F800000#32 = ⊤
    simp [Ideal.ofBits, Ideal.ieee]
  rw [t] at h
  induction a using EReal.rec with
  | bot => simp [Ideal.cmpf_def, Ideal.absf_def, Ideal.cmp] at h
  | top => simp [Ideal.cmpf_def, Ideal.absf_def, Ideal.cmp] at h
  | coe r => exact ⟨r, rfl⟩

instance : Subsingleton S_.Idx := ⟨fun a b => funext fun x => x.elim0⟩

theorem both (a b : IVec S_ 1) (h : andi a b ix0 = 1#1) : a ix0 = 1#1 ∧ b ix0 = 1#1 := IntOp.andi_eq_one.1 h

theorem real_all {s : Shape} {axes : List (Fin s.rank)} (x : FVec Ideal s .f32) (hb : S_.BroadcastsInDim s ![]) (hr : s.ReducesTo axes S_) (hu : 0 < S_.numel)
    (h : Host.reduce IntOp.andi (cmpf .olt (Host.absf x) (broadcastInDim s ![] hb (constant S_ .f32 0x7F800000#32)) : IVec s 1) (constantI S_ 1 1#1) hr hu ix0 = 1#1) (i : s.Idx) : ∃ r : ℝ, x i = (r : EReal) :=
  real_of (x i) (Host.reduce_andi_all _ _ hr hu ix0 h i)

theorem real_one (x : FVec Ideal S_ .f32) (h : (cmpf .olt (Host.absf x) (constant S_ .f32 0x7F800000#32) : IVec S_ 1) ix0 = 1#1) : ∃ r : ℝ, x ix0 = (r : EReal) :=
  real_of (x ix0) h

/-- Every entry of the first eleven arguments is real. -/
theorem finite_args [Facts] (x0 : FVec Ideal S16384x1024 .f32) (x1 : FVec Ideal S256x1024 .f32) (x2 : FVec Ideal S16384x1024 .f32) (x3 : FVec Ideal S256x1024 .f32)
    (x4 : FVec Ideal S16384x1024 .f32) (x5 x6 : FVec Ideal S_ .f32) (x7 x8 x9 x10 : FVec Ideal S64 .f32) (x11 : FVec Ideal S128 .f32)
    (h : fn x0 x1 x2 x3 x4 x5 x6 x7 x8 x9 x10 x11 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∃ r : ℝ, x5 ix0 = (r : EReal)) ∧ (∃ r : ℝ, x6 ix0 = (r : EReal)) ∧ (∀ i, ∃ r : ℝ, x7 i = (r : EReal))
    ∧ (∀ i, ∃ r : ℝ, x8 i = (r : EReal)) ∧ (∀ i, ∃ r : ℝ, x9 i = (r : EReal)) ∧ (∀ i, ∃ r : ℝ, x10 i = (r : EReal)) := by
  have h := congrFun h ix0
  unfold fn fn_part1 fn_part2 at h
  dsimp only at h
  obtain ⟨h, p10⟩ := both _ _ h
  obtain ⟨h, p9⟩ := both _ _ h
  obtain ⟨h, p8⟩ := both _ _ h
  obtain ⟨h, p7⟩ := both _ _ h
  obtain ⟨h, p6⟩ := both _ _ h
  obtain ⟨h, p5⟩ := both _ _ h
  obtain ⟨h, p4⟩ := both _ _ h
  obtain ⟨h, p3⟩ := both _ _ h
  obtain ⟨h, p2⟩ := both _ _ h
  obtain ⟨p0, p1⟩ := both _ _ h
  exact ⟨real_all x0 _ _ _ p0, real_all x1 _ _ _ p1, real_all x2 _ _ _ p2, real_all x3 _ _ _ p3, real_all x4 _ _ _ p4, real_one x5 p5, real_one x6 p6,
    real_all x7 _ _ _ p7, real_all x8 _ _ _ p8, real_all x9 _ _ _ p9, real_all x10 _ _ _ p10⟩

end Cert.Pre_finite.Real

end
-- ==== Proof.Equal.lean ====
/- The call and the reference agree on real arguments. -/
module

public import proofs.«01_k».proof.Proof.KernelValue
public import proofs.«01_k».proof.Proof.RefValue
public import proofs.«01_k».proof.Proof.Finite

@[expose] public section

set_option maxRecDepth 16384

noncomputable section

namespace Cert.Proof

open Idealize.ShloMosaic Idealize.ShloMosaic.TcCoe Idealize.ShloMosaic.Tactic
open Cert.KernelIdeal Cert.KernelIdeal.Gen Cert.KernelIdeal.Attn
open Cert.ReferenceIdeal.Stages (finish weigh diff probs exps scores queries keys joint lam vals ref_value joint_at)

/-- A real array, by its row and column numbers. -/
theorem numbered {a b : ℕ} (x : Fin a → Fin b → EReal) (h : ∀ n d, ∃ r : ℝ, x n d = (r : EReal)) :
    ∃ X : ℕ → ℕ → ℝ, ∀ n d, x n d = (X n d : EReal) := by
  choose f hf using h
  refine ⟨fun n d => if p : n < a ∧ d < b then f ⟨n, p.1⟩ ⟨d, p.2⟩ else 0, fun n d => ?_⟩
  dsimp only
  rw [dif_pos ⟨n.isLt, d.isLt⟩]
  exact hf n d

/-- Two real arrays one below the other are real. -/
theorem joined_real (a : FVec Ideal S256x1024 .f32) (b : FVec Ideal S16384x1024 .f32) (ha : ∀ i, ∃ r : ℝ, a i = (r : EReal)) (hb : ∀ i, ∃ r : ℝ, b i = (r : EReal))
    (n : Fin 16640) (d : Fin 1024) : ∃ r : ℝ, joined a b (ix2 n d) = (r : EReal) := by
  rw [joined_at]
  split
  · exact ha _
  · exact hb _

theorem joint_joined (a : FVec Ideal S256x1024 .f32) (b : FVec Ideal S16384x1024 .f32) (n : Fin 16640) (d : Fin 1024) :
    joint a b (ix2 n d) = joined a b (ix2 n d) :=
  (joint_at a b n d).trans (joined_at a b n d).symm

/-- The call's result is the reference's, from real arguments. -/
theorem values [Cert.Pre_finite.Facts] (m : (ℓ : Loc nD τ sig) → Buf (Elt Ideal) ℓ) (ρ : Dev nD → PrngReg) (pre : Cert.Pre_KernelIdeal_finite m) (c : Dev nD) :
    finish (weigh (diff (probs (exps (scores (queries (arg m c main_arg0)) (keys (joint (arg m c main_arg1) (arg m c main_arg2))))))
        (lam (arg m c main_arg7) (arg m c main_arg8) (arg m c main_arg9) (arg m c main_arg10)))
        (vals (joint (arg m c main_arg3) (arg m c main_arg4)))) (arg m c main_arg11)
      = (pd3 (B10 m ρ) c).arrAt 6 cfg3.N := by
  obtain ⟨p0, p1, p2, p3, p4, ⟨r5, p5⟩, ⟨r6, p6⟩, p7, p8, p9, p10⟩ := Cert.Pre_finite.Real.finite_args _ _ _ _ _ _ _ _ _ _ _ _ (pre c)
  obtain ⟨Q, hQ⟩ := numbered (fun (n : Fin 16384) (d : Fin 1024) => (arg m c main_arg0 : FVec Ideal S16384x1024 .f32) (ix2 n d)) fun n d => p0 _
  obtain ⟨K, hK⟩ := numbered (fun (n : Fin 16640) (d : Fin 1024) => joined (arg m c main_arg1) (arg m c main_arg2) (ix2 n d)) fun n d => joined_real _ _ p1 p2 n d
  obtain ⟨V, hV⟩ := numbered (fun (n : Fin 16640) (d : Fin 1024) => joined (arg m c main_arg3) (arg m c main_arg4) (ix2 n d)) fun n d => joined_real _ _ p3 p4 n d
  choose x hx using fun d : Fin 64 => p7 (ix1 d)
  choose y hy using fun d : Fin 64 => p8 (ix1 d)
  choose u hu using fun d : Fin 64 => p9 (ix1 d)
  choose w hw using fun d : Fin 64 => p10 (ix1 d)
  obtain ⟨aq, pq, haq⟩ := powScale_real _ r5 p5
  obtain ⟨ak, pk, hak⟩ := powScale_real _ r6 p6
  exact (ref_value Q K V x y u w _ _ _ _ _ _ _ _ hQ (fun n d => (joint_joined _ _ n d).trans (hK n d)) (fun n d => (joint_joined _ _ n d).trans (hV n d)) hx hy hu hw).trans
    (kernel_value m ρ c Q K V aq ak x y u w hQ hK hV haq hak hx hy hu hw pq pk).symm

end Cert.Proof

end
-- ==== Proof.Algebra.lean ====
/- The call and the reference, from memories that agree on the arguments, return the same array. -/
module

public import proofs.«01_k».proof.Proof.Equal
public import proofs.«01_k».proof.Proof.Kept
public import proofs.«01_k».proof.Proof.Gen.ReferenceIdeal.Run
public import proofs.«01_k».proof.Proof.Gen.Pre_finite

@[expose] public section

noncomputable section

namespace Cert.Proof

open Idealize.ShloMosaic Idealize.SL.Sem

/-- The reference's result is the call's. -/
theorem ref_result [Cert.Pre_finite.Facts] (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (pre : Cert.Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    : Cert.ReferenceIdeal.Value.res_main_v55 m' c = (Cert.KernelIdeal.Attn.pd3 (Cert.KernelIdeal.Attn.B10 m ρ) c).arrAt 6 Cert.KernelIdeal.cfg3.N := by
  rw [Cert.ReferenceIdeal.Stages.value_eq, e0, e1, e2, e3, e4, e7, e8, e9, e10, e11]
  exact values m ρ pre c

theorem algebra [Cert.Pre_finite.Facts] : Cert.algebraic_KernelIdeal_ReferenceIdeal_pre_finite := fun m ρ m' ρ' pre agree =>
  ⟨fun c => (Cert.KernelIdeal.Attn.pd3 (Cert.KernelIdeal.Attn.B10 m ρ) c).arrAt 6 Cert.KernelIdeal.cfg3.N,
    (θ_run Cert.KernelIdeal.defs _ _).mono (fun r h c => ⟨h.2.1 c, kept m r.2 c (h.1 c)⟩) (Cert.KernelIdeal.Attn.run_main (F := Ideal) m ρ),
    (θ_run Cert.ReferenceIdeal.defs _ _).mono (fun r h c => ⟨(h c).1.trans (by
      obtain ⟨e0, e1, e2, e3, e4, e5, e6, e7, e8, e9, e10, e11⟩ := agree c
      exact ref_result m ρ m' pre c e0 e1 e2 e3 e4 e7 e8 e9 e10 e11), (h c).2⟩) (Cert.ReferenceIdeal.Value.run (F := Ideal) m' ρ')⟩

end Cert.Proof

end
-- ==== Proof.ProjSpec.lean ====
/- The input projection's value: a normed and modulated row, its product with the weights, and the rotated pairs. -/
module

public import Idealize.ShloMosaic.PureOps.Ideal
public import Idealize.ShloMosaic.Lib.Pointwise

@[expose] public section

noncomputable section

namespace Cert.Proj

open Idealize.ShloMosaic
open scoped BigOperators

/-- A row less its mean. -/
def centred (r : Fin 2048 → EReal) (d : Fin 2048) : EReal := r d - Ideal.div (∑ k, r k) (Ideal.ofBits .f32 0x45000000#32)

/-- A row normed, scaled and shifted. -/
def hid (r sc sh : Fin 2048 → EReal) (d : Fin 2048) : EReal :=
  centred r d * Ideal.rsqrt (Ideal.div (∑ k, centred r k * centred r k) (Ideal.ofBits .f32 0x45000000#32) + Ideal.ofBits .f32 0x358637BD#32) * (1 + sc d) + sh d

/-- The product of a row with a column of the weights, and the bias. -/
def prj (r sc sh w : Fin 2048 → EReal) (b : EReal) : EReal := ∑ d, hid r sc sh d * w d + b

/-- The projection of the stream, row `n`, column `j`. -/
def lin (x : FVec Ideal ⟨2, ![16384, 2048]⟩ .f32) (mod : FVec Ideal ⟨1, ![12288]⟩ .f32) (w : FVec Ideal ⟨2, ![2048, 4608]⟩ .f32) (b : FVec Ideal ⟨1, ![4608]⟩ .f32)
    (n : Fin 16384) (j : Fin 4608) : EReal :=
  prj (fun d => x (ix2 n d)) (fun d => mod (ix1 ⟨2048 + d, by omega⟩)) (fun d => mod (ix1 ⟨d, by omega⟩)) (fun d => w (ix2 d j)) (b (ix1 j))

/-- The pairs (j, j + 32) of each 64 columns turned by the angles. -/
def turned (y : Fin 1024 → EReal) (a : Fin 32 → EReal) (j : Fin 1024) : EReal :=
  if h : (j : ℕ) % 64 < 32 then y j * Ideal.cos (a ⟨(j : ℕ) % 32, by omega⟩) - y ⟨j + 32, by omega⟩ * Ideal.sin (a ⟨(j : ℕ) % 32, by omega⟩)
  else y ⟨j - 32, by omega⟩ * Ideal.sin (a ⟨(j : ℕ) % 32, by omega⟩) + y j * Ideal.cos (a ⟨(j : ℕ) % 32, by omega⟩)

/-- The same with a table of cosines and two of sines over 128 lanes, the partners read around the lanes. -/
def rolled (y : Fin 1024 → EReal) (C A B : Fin 128 → EReal) (j : Fin 1024) : EReal :=
  y j * C ⟨(j : ℕ) % 128, by omega⟩ + y ⟨(j : ℕ) / 128 * 128 + ((j : ℕ) % 128 + 32) % 128, by omega⟩ * A ⟨(j : ℕ) % 128, by omega⟩
    + y ⟨(j : ℕ) / 128 * 128 + ((j : ℕ) % 128 + 96) % 128, by omega⟩ * B ⟨(j : ℕ) % 128, by omega⟩

theorem rolled_eq (y : Fin 1024 → EReal) (a : Fin 32 → EReal) (C A B : Fin 128 → EReal)
    (hC : ∀ l : Fin 128, C l = Ideal.cos (a ⟨(l : ℕ) % 32, by omega⟩))
    (hA : ∀ l : Fin 128, A l = if (l : ℕ) % 64 < 32 then -Ideal.sin (a ⟨(l : ℕ) % 32, by omega⟩) else 0)
    (hB : ∀ l : Fin 128, B l = if (l : ℕ) % 64 < 32 then 0 else Ideal.sin (a ⟨(l : ℕ) % 32, by omega⟩)) (j : Fin 1024) :
    rolled y C A B j = turned y a j := by
  have ej : (⟨(j : ℕ) % 128 % 32, by omega⟩ : Fin 32) = ⟨(j : ℕ) % 32, by omega⟩ := Fin.ext (by dsimp only; omega)
  unfold rolled turned
  rw [hC, hA, hB]
  dsimp only
  rw [ej]
  by_cases h : (j : ℕ) % 64 < 32
  · rw [if_pos (by omega), if_pos (by omega), dif_pos h, mul_zero, add_zero, mul_neg, ← sub_eq_add_neg]
    exact congrArg (fun k => _ - y k * _) (Fin.ext (by dsimp only; omega))
  · rw [if_neg (by omega), if_neg (by omega), dif_neg h, mul_zero, add_zero, add_comm]
    exact congrArg (fun k => y k * _ + _) (Fin.ext (by dsimp only; omega))

end Cert.Proj

end
-- ==== Proof.ProjBody.lean ====
/- The input projection's block, element by element. -/
module

public import proofs.«01_k».proof.Proof.Gen.Kernel2Ideal.Value
public import proofs.«01_k».proof.Proof.ProjSpec
public import Idealize.ShloMosaic.Lib.Pointwise
public import Idealize.ShloMosaic.Lib.Tactic
public import Idealize.ShloMosaic.Lib.Pipeline.ValueKit

@[expose] public section

set_option maxRecDepth 16384

noncomputable section

namespace Cert.Kernel2Ideal.Proj

open Idealize.ShloMosaic Idealize.ShloMosaic.TcCoe Idealize.ShloMosaic.Tactic
open Cert.Kernel2Ideal Cert.Kernel2Ideal.Gen
open Cert.Proj
open scoped BigOperators

theorem pay2_at (x : FVec Ideal S512x2048 .f32) (sc sh : FVec Ideal S1x2048 .f32) (i : Fin 512) (d : Fin 2048) :
    k0_pay2 (F := Ideal) x sc sh (ix2 i d) = hid (fun d => x (ix2 i d)) (fun d => sc (ix2 0 d)) (fun d => sh (ix2 0 d)) d := by
  pointwise [k0_pay2, hid, centred]

/-- The block's projection, row `i`, column `j`. -/
def blin (x0 : FVec Ideal S512x2048 .f32) (x1 : FVec Ideal S8x2048 .f32) (x2 : FVec Ideal S2048x4608 .bf16) (x3 : FVec Ideal S1x4608 .f32) (i : Fin 512) (j : Fin 4608) : EReal :=
  prj (fun d => x0 (ix2 i d)) (fun d => x1 (ix2 1 d)) (fun d => x1 (ix2 0 d)) (fun d => x2 (ix2 d j)) (x3 (ix2 0 j))

variable (x0 : FVec Ideal S512x2048 .f32) (x1 : FVec Ideal S8x2048 .f32) (x2 : FVec Ideal S2048x4608 .bf16) (x3 : FVec Ideal S1x4608 .f32)
variable (x4 x5 x6 : FVec Ideal S512x128 .f32)

theorem ld_x (i : Fin 512) (d : Fin 2048) : View.ld (Val := Elt Ideal) (e' := .f32) x0 r0_0 (ix2 i d) = x0 (ix2 i d) :=
  View.ld_unit_apply_of _ _ _ _ _ _ fun a => match a with | ⟨0, _⟩ => (by first | rfl | exact (Nat.zero_add _).symm) | ⟨1, _⟩ => (by first | rfl | exact (Nat.zero_add _).symm)
theorem ld_sc (d : Fin 2048) : View.ld (Val := Elt Ideal) (e' := .f32) x1 r0_1 (ix2 0 d) = x1 (ix2 1 d) :=
  View.ld_unit_apply_of _ _ _ _ _ _ fun a => match a with | ⟨0, _⟩ => (by first | rfl | exact (Nat.zero_add _).symm) | ⟨1, _⟩ => (by first | rfl | exact (Nat.zero_add _).symm)
theorem ld_sh (d : Fin 2048) : View.ld (Val := Elt Ideal) (e' := .f32) x1 r0_2 (ix2 0 d) = x1 (ix2 0 d) :=
  View.ld_unit_apply_of _ _ _ _ _ _ fun a => match a with | ⟨0, _⟩ => (by first | rfl | exact (Nat.zero_add _).symm) | ⟨1, _⟩ => (by first | rfl | exact (Nat.zero_add _).symm)
theorem ld_w3 (d : Fin 2048) (j : Fin 512) : View.ld (Val := Elt Ideal) (e' := .bf16) x2 r0_3 (ix2 d j) = x2 (ix2 d ⟨j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b4 (j : Fin 512) : View.ld (Val := Elt Ideal) (e' := .f32) x3 r0_4 (ix2 0 j) = x3 (ix2 0 ⟨j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_w6 (d : Fin 2048) (j : Fin 512) : View.ld (Val := Elt Ideal) (e' := .bf16) x2 r0_6 (ix2 d j) = x2 (ix2 d ⟨512 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b7 (j : Fin 512) : View.ld (Val := Elt Ideal) (e' := .f32) x3 r0_7 (ix2 0 j) = x3 (ix2 0 ⟨512 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_w8 (d : Fin 2048) (j : Fin 512) : View.ld (Val := Elt Ideal) (e' := .bf16) x2 r0_8 (ix2 d j) = x2 (ix2 d ⟨1024 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b9 (j : Fin 512) : View.ld (Val := Elt Ideal) (e' := .f32) x3 r0_9 (ix2 0 j) = x3 (ix2 0 ⟨1024 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_w10 (d : Fin 2048) (j : Fin 1024) : View.ld (Val := Elt Ideal) (e' := .bf16) x2 r0_10 (ix2 d j) = x2 (ix2 d ⟨3584 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b11 (j : Fin 1024) : View.ld (Val := Elt Ideal) (e' := .f32) x3 r0_11 (ix2 0 j) = x3 (ix2 0 ⟨3584 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_w13 (d : Fin 2048) (j : Fin 1024) : View.ld (Val := Elt Ideal) (e' := .bf16) x2 r0_13 (ix2 d j) = x2 (ix2 d ⟨1536 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b14 (j : Fin 1024) : View.ld (Val := Elt Ideal) (e' := .f32) x3 r0_14 (ix2 0 j) = x3 (ix2 0 ⟨1536 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_w15 (d : Fin 2048) (j : Fin 1024) : View.ld (Val := Elt Ideal) (e' := .bf16) x2 r0_15 (ix2 d j) = x2 (ix2 d ⟨2560 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_b16 (j : Fin 1024) : View.ld (Val := Elt Ideal) (e' := .f32) x3 r0_16 (ix2 0 j) = x3 (ix2 0 ⟨2560 + j, by omega⟩) :=
  View.ld_unit_apply_of _ _ _ _ _ _ fun a => match a with | ⟨0, _⟩ => (by first | rfl | exact (Nat.zero_add _).symm) | ⟨1, _⟩ => (by first | rfl | exact (Nat.zero_add _).symm)
theorem ld_t (i : Fin 512) (l : Fin 128) : View.ld (Val := Elt Ideal) (e' := .f32) x4 r0_17 (ix2 i l) = x4 (ix2 i l) :=
  View.ld_unit_apply_of _ _ _ _ _ _ fun a => match a with | ⟨0, _⟩ => (by first | rfl | exact (Nat.zero_add _).symm) | ⟨1, _⟩ => (by first | rfl | exact (Nat.zero_add _).symm)

theorem hidden_at (i : Fin 512) (d : Fin 2048) :
    k0_pay48 (F := Ideal) x0 x1 x2 x3 x4 x5 x6 (ix2 i d) = hid (fun d => x0 (ix2 i d)) (fun d => x1 (ix2 1 d)) (fun d => x1 (ix2 0 d)) d := by
  unfold k0_pay48
  rw [pay2_at]
  have x_e := ld_x x0
  have sc_e := ld_sc x1
  have sh_e := ld_sh x1
  simp only [x_e, sc_e, sh_e]

theorem pay3_at (x : FVec Ideal S512x2048 .f32) (sc sh : FVec Ideal S1x2048 .f32) (w : FVec Ideal S2048x512 .bf16) (b : FVec Ideal S1x512 .f32) (i : Fin 512) (j : Fin 512) :
    k0_pay3 (F := Ideal) x sc sh w b (ix2 i j) = ∑ d, k0_pay2 (F := Ideal) x sc sh (ix2 i d) * w (ix2 d j) + b (ix2 0 j) := by
  pointwise [k0_pay3]

theorem pay4_at (h : FVec Ideal S512x2048 .bf16) (w : FVec Ideal S2048x512 .bf16) (b : FVec Ideal S1x512 .f32) (w' : FVec Ideal S2048x512 .bf16) (b' : FVec Ideal S1x512 .f32) (i : Fin 512) (j : Fin 512) :
    k0_pay4 (F := Ideal) h w b w' b' (ix2 i j) = (∑ d, h (ix2 i d) * w (ix2 d j) + b (ix2 0 j)) * Ideal.logistic (∑ d, h (ix2 i d) * w' (ix2 d j) + b' (ix2 0 j)) := by
  pointwise [k0_pay4]

theorem pay5_at (h : FVec Ideal S512x2048 .bf16) (w : FVec Ideal S2048x1024 .bf16) (b : FVec Ideal S1x1024 .f32) (i : Fin 512) (j : Fin 1024) :
    k0_pay5 (F := Ideal) h w b (ix2 i j) = ∑ d, h (ix2 i d) * w (ix2 d j) + b (ix2 0 j) := by
  pointwise [k0_pay5]

theorem pay6_at (h : FVec Ideal S512x2048 .bf16) (w : FVec Ideal S2048x1024 .bf16) (b : FVec Ideal S1x1024 .f32) (i : Fin 512) (j : Fin 1024) :
    k0_pay6 (F := Ideal) h w b (ix2 i j) = ∑ d, h (ix2 i d) * w (ix2 d j) + b (ix2 0 j) := by
  pointwise [k0_pay6]

theorem pay7_at (h : FVec Ideal S512x2048 .bf16) (w : FVec Ideal S2048x1024 .bf16) (b : FVec Ideal S1x1024 .f32) (i : Fin 512) (j : Fin 1024) :
    k0_pay7 (F := Ideal) h w b (ix2 i j) = ∑ d, h (ix2 i d) * w (ix2 d j) + b (ix2 0 j) := by
  pointwise [k0_pay7]

theorem qlin_at (i : Fin 512) (j : Fin 1024) : k0_pay49 (F := Ideal) x0 x1 x2 x3 x4 x5 x6 (ix2 i j) = blin x0 x1 x2 x3 i ⟨1536 + j, by omega⟩ := by
  unfold k0_pay49
  rw [pay6_at]
  have w13_e := ld_w13 x2
  have b14_e := ld_b14 x3
  simp only [hidden_at, w13_e, b14_e]
  rfl

theorem klin_at (i : Fin 512) (j : Fin 1024) : k0_pay50 (F := Ideal) x0 x1 x2 x3 x4 x5 x6 (ix2 i j) = blin x0 x1 x2 x3 i ⟨2560 + j, by omega⟩ := by
  unfold k0_pay50
  rw [pay7_at]
  have w15_e := ld_w15 x2
  have b16_e := ld_b16 x3
  simp only [hidden_at, w15_e, b16_e]
  rfl

/-- The first result's block. -/
theorem out7_at (i : Fin 512) (j : Fin 512) : out0_7 (F := Ideal) x0 x1 x2 x3 x4 x5 x6 (ix2 i j) = blin x0 x1 x2 x3 i ⟨j, by omega⟩ := by
  canon_tiles z h
  idx_vars z
  obtain rfl : i = z0 := Fin.ext h0
  obtain rfl : j = z1 := Fin.ext h1
  rw [pay3_at]
  have x_e := ld_x x0
  have sc_e := ld_sc x1
  have sh_e := ld_sh x1
  have w3_e := ld_w3 x2
  have b4_e := ld_b4 x3
  simp only [pay2_at, x_e, sc_e, sh_e, w3_e, b4_e]
  rfl

/-- The second's. -/
theorem out8_at (i : Fin 512) (j : Fin 512) : out0_8 (F := Ideal) x0 x1 x2 x3 x4 x5 x6 (ix2 i j)
    = blin x0 x1 x2 x3 i ⟨512 + j, by omega⟩ * Ideal.logistic (blin x0 x1 x2 x3 i ⟨1024 + j, by omega⟩) := by
  canon_tiles z h
  idx_vars z
  obtain rfl : i = z0 := Fin.ext h0
  obtain rfl : j = z1 := Fin.ext h1
  rw [pay4_at]
  have w6_e := ld_w6 x2
  have b7_e := ld_b7 x3
  have w8_e := ld_w8 x2
  have b9_e := ld_b9 x3
  simp only [hidden_at, w6_e, b7_e, w8_e, b9_e]
  rfl

/-- The fifth's. -/
theorem out11_at (i : Fin 512) (j : Fin 1024) : out0_11 (F := Ideal) x0 x1 x2 x3 x4 x5 x6 (ix2 i j) = blin x0 x1 x2 x3 i ⟨3584 + j, by omega⟩ := by
  canon_tiles z h
  idx_vars z
  obtain rfl : i = z0 := Fin.ext h0
  obtain rfl : j = z1 := Fin.ext h1
  rw [pay5_at]
  have w10_e := ld_w10 x2
  have b11_e := ld_b11 x3
  simp only [hidden_at, w10_e, b11_e]
  rfl

theorem rolled_of (X : FVec Ideal S512x1024 .f32) (C A B : FVec Ideal S512x128 .f32) (i : Fin 512) (l : Fin 128) (j p0 p1 p2 : Fin 1024) (h : ℕ)
    (hj : (j : ℕ) = 128 * h + l) (e0 : (p0 : ℕ) = 128 * h + l) (e1 : (p1 : ℕ) = 128 * h + ((l : ℕ) + 32) % 128) (e2 : (p2 : ℕ) = 128 * h + ((l : ℕ) + 96) % 128) :
    X (ix2 i p0) * C (ix2 i l) + X (ix2 i p1) * A (ix2 i l) + X (ix2 i p2) * B (ix2 i l)
      = rolled (fun j => X (ix2 i j)) (fun l => C (ix2 i l)) (fun l => A (ix2 i l)) (fun l => B (ix2 i l)) j := by
  have f0 : j = p0 := Fin.ext (hj.trans e0.symm)
  have el : (⟨(j : ℕ) % 128, by omega⟩ : Fin 128) = l := Fin.ext (by dsimp only; omega)
  have f1 : (⟨(j : ℕ) / 128 * 128 + ((j : ℕ) % 128 + 32) % 128, by omega⟩ : Fin 1024) = p1 := Fin.ext (by dsimp only; omega)
  have f2 : (⟨(j : ℕ) / 128 * 128 + ((j : ℕ) % 128 + 96) % 128, by omega⟩ : Fin 1024) = p2 := Fin.ext (by dsimp only; omega)
  unfold rolled
  rw [f1, f2, el, f0]

/-- The third result's block: the queries' part rolled, and scaled. -/
theorem out9_at (i : Fin 512) (j : Fin 1024) : out0_9 (F := Ideal) x0 x1 x2 x3 x4 x5 x6 (ix2 i j)
    = rolled (fun j => blin x0 x1 x2 x3 i ⟨1536 + j, by omega⟩) (fun l => x4 (ix2 i l)) (fun l => x5 (ix2 i l)) (fun l => x6 (ix2 i l)) j * Ideal.ofBits .f32 0x3E38AA3B#32 := by
  have hX := qlin_at x0 x1 x2 x3 x4 x5 x6
  have h4 := ld_t x4
  have h5 := ld_t x5
  have h6 := ld_t x6
  have e : out0_9 (F := Ideal) x0 x1 x2 x3 x4 x5 x6 (ix2 i j)
      = rolled (fun j => k0_pay49 (F := Ideal) x0 x1 x2 x3 x4 x5 x6 (ix2 i j)) (fun l => View.ld (Val := Elt Ideal) (e' := .f32) x4 r0_17 (ix2 i l)) (fun l => View.ld (Val := Elt Ideal) (e' := .f32) x5 r0_17 (ix2 i l)) (fun l => View.ld (Val := Elt Ideal) (e' := .f32) x6 r0_17 (ix2 i l)) j * Ideal.ofBits .f32 0x3E38AA3B#32 := by
    unfold out0_9 k0_pay65 k0_pay63 k0_pay61 k0_pay60 k0_pay58 k0_pay57 k0_pay55 k0_pay54 k0_pay53 k0_pay52 k0_pay51
    generalize k0_pay49 (F := Ideal) x0 x1 x2 x3 x4 x5 x6 = X
    generalize View.ld (Val := Elt Ideal) (e' := .f32) x4 r0_17 = C
    generalize View.ld (Val := Elt Ideal) (e' := .f32) x5 r0_17 = A
    generalize View.ld (Val := Elt Ideal) (e' := .f32) x6 r0_17 = B
    canon_tiles z h
    case piece0 =>
      idx_vars z
      obtain rfl : i = z0 := Fin.ext h0
      pointwise [k0_pay45, k0_pay44, k0_pay42, k0_pay8, k0_pay9, k0_pay10]
      exact congrArg (· * _) (rolled_of X C A B i z1 j _ _ _ 7 (by omega) (by first | (dsimp only; done) | (dsimp only; omega) | omega) (by first | (dsimp only; done) | (dsimp only; omega) | omega) (by first | (dsimp only; done) | (dsimp only; omega) | omega))
    case piece1 =>
      idx_vars z
      obtain rfl : i = z0 := Fin.ext h0
      pointwise [k0_pay38, k0_pay8, k0_pay9, k0_pay10]
      exact congrArg (· * _) (rolled_of X C A B i z1 j _ _ _ 6 (by omega) (by first | (dsimp only; done) | (dsimp only; omega) | omega) (by first | (dsimp only; done) | (dsimp only; omega) | omega) (by first | (dsimp only; done) | (dsimp only; omega) | omega))
    case piece2 =>
      idx_vars z
      obtain rfl : i = z0 := Fin.ext h0
      pointwise [k0_pay36, k0_pay8, k0_pay9, k0_pay10]
      exact congrArg (· * _) (rolled_of X C A B i z1 j _ _ _ 5 (by omega) (by first | (dsimp only; done) | (dsimp only; omega) | omega) (by first | (dsimp only; done) | (dsimp only; omega) | omega) (by first | (dsimp only; done) | (dsimp only; omega) | omega))
    case piece3 =>
      idx_vars z
      obtain rfl : i = z0 := Fin.ext h0
      pointwise [k0_pay32, k0_pay31, k0_pay29, k0_pay8, k0_pay9, k0_pay10]
      exact congrArg (· * _) (rolled_of X C A B i z1 j _ _ _ 4 (by omega) (by first | (dsimp only; done) | (dsimp only; omega) | omega) (by first | (dsimp only; done) | (dsimp only; omega) | omega) (by first | (dsimp only; done) | (dsimp only; omega) | omega))
    case piece4 =>
      idx_vars z
      obtain rfl : i = z0 := Fin.ext h0
      pointwise [k0_pay25, k0_pay8, k0_pay9, k0_pay10]
      exact congrArg (· * _) (rolled_of X C A B i z1 j _ _ _ 3 (by omega) (by first | (dsimp only; done) | (dsimp only; omega) | omega) (by first | (dsimp only; done) | (dsimp only; omega) | omega) (by first | (dsimp only; done) | (dsimp only; omega) | omega))
    case piece5 =>
      idx_vars z
      obtain rfl : i = z0 := Fin.ext h0
      pointwise [k0_pay23, k0_pay22, k0_pay20, k0_pay8, k0_pay9, k0_pay10]
      exact congrArg (· * _) (rolled_of X C A B i z1 j _ _ _ 2 (by omega) (by first | (dsimp only; done) | (dsimp only; omega) | omega) (by first | (dsimp only; done) | (dsimp only; omega) | omega) (by first | (dsimp only; done) | (dsimp only; omega) | omega))
    case piece6 =>
      idx_vars z
      obtain rfl : i = z0 := Fin.ext h0
      pointwise [k0_pay16, k0_pay15, k0_pay8, k0_pay9, k0_pay10]
      exact congrArg (· * _) (rolled_of X C A B i z1 j _ _ _ 1 (by omega) (by first | (dsimp only; done) | (dsimp only; omega) | omega) (by first | (dsimp only; done) | (dsimp only; omega) | omega) (by first | (dsimp only; done) | (dsimp only; omega) | omega))
    case piece7 =>
      idx_vars z
      obtain rfl : i = z0 := Fin.ext h0
      pointwise [k0_pay11, k0_pay8, k0_pay9, k0_pay10]
      exact congrArg (· * _) (rolled_of X C A B i z1 j _ _ _ 0 (by omega) (by first | (dsimp only; done) | (dsimp only; omega) | omega) (by first | (dsimp only; done) | (dsimp only; omega) | omega) (by first | (dsimp only; done) | (dsimp only; omega) | omega))
  rw [e]
  simp only [hX, h4, h5, h6]

/-- The fourth's: the keys' part rolled. -/
theorem out10_at (i : Fin 512) (j : Fin 1024) : out0_10 (F := Ideal) x0 x1 x2 x3 x4 x5 x6 (ix2 i j)
    = rolled (fun j => blin x0 x1 x2 x3 i ⟨2560 + j, by omega⟩) (fun l => x4 (ix2 i l)) (fun l => x5 (ix2 i l)) (fun l => x6 (ix2 i l)) j := by
  have hX := klin_at x0 x1 x2 x3 x4 x5 x6
  have h4 := ld_t x4
  have h5 := ld_t x5
  have h6 := ld_t x6
  have e : out0_10 (F := Ideal) x0 x1 x2 x3 x4 x5 x6 (ix2 i j)
      = rolled (fun j => k0_pay50 (F := Ideal) x0 x1 x2 x3 x4 x5 x6 (ix2 i j)) (fun l => View.ld (Val := Elt Ideal) (e' := .f32) x4 r0_17 (ix2 i l)) (fun l => View.ld (Val := Elt Ideal) (e' := .f32) x5 r0_17 (ix2 i l)) (fun l => View.ld (Val := Elt Ideal) (e' := .f32) x6 r0_17 (ix2 i l)) j := by
    unfold out0_10 k0_pay64 k0_pay62 k0_pay59 k0_pay56 k0_pay53 k0_pay52 k0_pay51
    generalize hXe : k0_pay50 (F := Ideal) x0 x1 x2 x3 x4 x5 x6 = X
    generalize View.ld (Val := Elt Ideal) (e' := .f32) x4 r0_17 = C
    generalize View.ld (Val := Elt Ideal) (e' := .f32) x5 r0_17 = A
    generalize View.ld (Val := Elt Ideal) (e' := .f32) x6 r0_17 = B
    canon_tiles z h
    case piece0 =>
      idx_vars z
      obtain rfl : i = z0 := Fin.ext h0
      pointwise [k0_pay46, k0_pay43, k0_pay8, k0_pay9, k0_pay10]
      exact rolled_of X C A B i z1 j _ _ _ 7 (by omega) (by first | (dsimp only; done) | (dsimp only; omega) | omega) (by first | (dsimp only; done) | (dsimp only; omega) | omega) (by first | (dsimp only; done) | (dsimp only; omega) | omega)
    case piece1 =>
      idx_vars z
      obtain rfl : i = z0 := Fin.ext h0
      pointwise [k0_pay39, k0_pay8, k0_pay9, k0_pay10]
      exact rolled_of X C A B i z1 j _ _ _ 6 (by omega) (by first | (dsimp only; done) | (dsimp only; omega) | omega) (by first | (dsimp only; done) | (dsimp only; omega) | omega) (by first | (dsimp only; done) | (dsimp only; omega) | omega)
    case piece2 =>
      idx_vars z
      obtain rfl : i = z0 := Fin.ext h0
      pointwise [k0_pay37, k0_pay8, k0_pay9, k0_pay10]
      exact rolled_of X C A B i z1 j _ _ _ 5 (by omega) (by first | (dsimp only; done) | (dsimp only; omega) | omega) (by first | (dsimp only; done) | (dsimp only; omega) | omega) (by first | (dsimp only; done) | (dsimp only; omega) | omega)
    case piece3 =>
      idx_vars z
      obtain rfl : i = z0 := Fin.ext h0
      pointwise [k0_pay33, k0_pay30, k0_pay8, k0_pay9, k0_pay10]
      exact rolled_of X C A B i z1 j _ _ _ 4 (by omega) (by first | (dsimp only; done) | (dsimp only; omega) | omega) (by first | (dsimp only; done) | (dsimp only; omega) | omega) (by first | (dsimp only; done) | (dsimp only; omega) | omega)
    case piece4 =>
      idx_vars z
      obtain rfl : i = z0 := Fin.ext h0
      pointwise [k0_pay26, k0_pay8, k0_pay9, k0_pay10]
      exact rolled_of X C A B i z1 j _ _ _ 3 (by omega) (by first | (dsimp only; done) | (dsimp only; omega) | omega) (by first | (dsimp only; done) | (dsimp only; omega) | omega) (by first | (dsimp only; done) | (dsimp only; omega) | omega)
    case piece5 =>
      idx_vars z
      obtain rfl : i = z0 := Fin.ext h0
      pointwise [k0_pay24, k0_pay21, k0_pay8, k0_pay9, k0_pay10]
      exact rolled_of X C A B i z1 j _ _ _ 2 (by omega) (by first | (dsimp only; done) | (dsimp only; omega) | omega) (by first | (dsimp only; done) | (dsimp only; omega) | omega) (by first | (dsimp only; done) | (dsimp only; omega) | omega)
    case piece6 =>
      idx_vars z
      obtain rfl : i = z0 := Fin.ext h0
      pointwise [k0_pay17, k0_pay8, k0_pay9, k0_pay10]
      exact rolled_of X C A B i z1 j _ _ _ 1 (by omega) (by first | (dsimp only; done) | (dsimp only; omega) | omega) (by first | (dsimp only; done) | (dsimp only; omega) | omega) (by first | (dsimp only; done) | (dsimp only; omega) | omega)
    case piece7 =>
      idx_vars z
      obtain rfl : i = z0 := Fin.ext h0
      unfold k0_pay12
      rw [show k0_pay7 (F := Ideal) (k0_pay48 x0 x1 x2 x3 x4 x5 x6) (View.ld x2 r0_15) (View.ld x3 r0_16) = X from hXe]
      pointwise [k0_pay8, k0_pay9, k0_pay10]
      exact rolled_of X C A B i z1 j _ _ _ 0 (by omega) (by first | (dsimp only; done) | (dsimp only; omega) | omega) (by first | (dsimp only; done) | (dsimp only; omega) | omega) (by first | (dsimp only; done) | (dsimp only; omega) | omega)
  rw [e]
  simp only [hX, h4, h5, h6]

end Cert.Kernel2Ideal.Proj

end
-- ==== Proof.ProjHost.lean ====
/- What the host operations before the input projection leave: the modulation's rows, the weights, the bias, and the
   three tables of the rotation. -/
module

public import proofs.«01_k».proof.Proof.Gen.Kernel2Ideal.Value
public import proofs.«01_k».proof.Proof.ProjSpec
public import Idealize.ShloMosaic.Lib.Pointwise
public import Idealize.ShloMosaic.Lib.Claim
public import Idealize.ShloMosaic.Lib.Tactic
public import Idealize.ShloMosaic.Lib.Routing.OpsSet
public import Idealize.ShloMosaic.Lib.Routing.OpsPair

@[expose] public section

set_option maxRecDepth 16384

noncomputable section

namespace Cert.Kernel2Ideal.Proj

open Idealize.ShloMosaic Idealize.ShloMosaic.TcCoe Idealize.ShloMosaic.Tactic
open Cert.Kernel2Ideal Cert.Kernel2Ideal.Gen

/-- The turns' frequencies. -/
def freq : FVec Ideal S16 .f32 :=
  Host.divf (broadcastInDim S16 ![] bcast_S_S16 (constant S_ .f32 0x3F800000#32 : FVec Ideal S_ .f32))
    (Host.powf (broadcastInDim S16 ![] bcast_S_S16 (constant S_ .f32 0x461C4000#32 : FVec Ideal S_ .f32))
      (Host.divf (sitofp .f32 (iotaInDim S16 32 0)) (broadcastInDim S16 ![] bcast_S_S16 (constant S_ .f32 0x41800000#32 : FVec Ideal S_ .f32))))

/-- A position's multiples of the frequencies. -/
def multiples (p : IVec S16384 32) : FVec Ideal S16384x16 .f32 :=
  mulf (broadcastInDim S16384x16 ![0, 1] bcast_S16384x1_S16384x16_0_1 (broadcastInDim S16384x1 ![0] bcast_S16384_S16384x1_0 (sitofp .f32 p : FVec Ideal S16384 .f32)))
    (broadcastInDim S16384x16 ![0, 1] bcast_S1x16_S16384x16_0_1 (broadcastInDim S1x16 ![1] bcast_S16_S1x16_1 freq))

/-- The angles: by the row, then by the column of a token. -/
def ang : FVec Ideal S16384x32 .f32 :=
  concatenate S16384x32 1 [⟨S16384x16, multiples (shapeCast S16384 (broadcastInDim S256x64 ![0] bcast_S256_S256x64_0 (iotaInDim S256 32 0)) shapeCasts_S256x64_S16384)⟩,
    ⟨S16384x16, multiples (shapeCast S16384 (broadcastInDim S256x64 ![0, 1] bcast_S1x64_S256x64_0_1 (shapeCast S1x64 (iotaInDim S64 32 0) shapeCasts_S64_S1x64)) shapeCasts_S256x64_S16384)⟩]
    concatenates_S16384x16_S16384x16_S16384x32_d1

/-- No angle's sine. -/
def none32 : FVec Ideal S16384x32 .f32 := broadcastInDim S16384x32 ![] bcast_S_S16384x32 (constant S_ .f32 0x00000000#32 : FVec Ideal S_ .f32)

/-- The cosines four times. -/
def cosT (a : FVec Ideal S16384x32 .f32) : FVec Ideal S16384x128 .f32 :=
  shapeCast S16384x128 (broadcastInDim S1x16384x4x32 ![0, 1, 2, 3] bcast_S1x16384x1x32_S1x16384x4x32_0_1_2_3
    (shapeCast S1x16384x1x32 (Host.cos a) shapeCasts_S16384x32_S1x16384x1x32)) shapeCasts_S1x16384x4x32_S16384x128

/-- Two halves side by side, twice. -/
def pairT (a b : FVec Ideal S16384x32 .f32) : FVec Ideal S16384x128 .f32 :=
  shapeCast S16384x128 (broadcastInDim S1x16384x2x64 ![0, 1, 2, 3] bcast_S1x16384x1x64_S1x16384x2x64_0_1_2_3
    (shapeCast S1x16384x1x64 (concatenate S16384x64 1 [⟨S16384x32, a⟩, ⟨S16384x32, b⟩] concatenates_S16384x32_S16384x32_S16384x64_d1) shapeCasts_S16384x64_S1x16384x1x64)) shapeCasts_S1x16384x2x64_S16384x128

/-- A vector set into row `i`. -/
def setRow (x : FVec Ideal S8x2048 .f32) (i : BitVec 32) (u : FVec Ideal S2048 .f32) : FVec Ideal S8x2048 .f32 :=
  Host.scatter scatter_S8x2048_S1_S2048_0_0_0_0 (fun _ b => b) x (broadcastInDim S1 ![] bcast_S_S1 (constantI S_ 32 i)) u

/-- The modulation's six parts in six rows. -/
def modRows (u : FVec Ideal S12288 .f32) : FVec Ideal S8x2048 .f32 :=
  setRow (setRow (setRow (setRow (setRow (setRow (broadcastInDim S8x2048 ![] bcast_S_S8x2048 (constant S_ .f32 0x00000000#32 : FVec Ideal S_ .f32))
    0#32 (extractStridedSlice S2048 ![0] u slices_S12288_S2048_0)) 1#32 (extractStridedSlice S2048 ![2048] u slices_S12288_S2048_2048))
    2#32 (extractStridedSlice S2048 ![4096] u slices_S12288_S2048_4096)) 3#32 (extractStridedSlice S2048 ![6144] u slices_S12288_S2048_6144))
    4#32 (extractStridedSlice S2048 ![8192] u slices_S12288_S2048_8192)) 5#32 (extractStridedSlice S2048 ![10240] u slices_S12288_S2048_10240)

section
variable (W : Valuation τ sig (Elt Ideal))

theorem h_x : StableHlo.after (hostOps0 (F := Ideal)) W (Proc.devRef .tc main_arg0) = W (Proc.devRef .tc main_arg0) := by
  unfold_abbrev_sides
  after_results

theorem h_w : StableHlo.after (hostOps0 (F := Ideal)) W (Proc.devRef .tc main_v19) = (truncf .bf16 (W (Proc.devRef .tc main_arg2) : FVec Ideal S2048x4608 .f32) bitsLt_bf16_f32 : FVec Ideal S2048x4608 .bf16) := by
  unfold_abbrev_sides
  after_results

theorem h_b : StableHlo.after (hostOps0 (F := Ideal)) W (Proc.devRef .tc main_v62) = (shapeCast S1x4608 (W (Proc.devRef .tc main_arg3) : FVec Ideal S4608 .f32) shapeCasts_S4608_S1x4608 : FVec Ideal S1x4608 .f32) := by
  unfold_abbrev_sides
  after_results
  rfl

theorem h_mod : StableHlo.after (hostOps0 (F := Ideal)) W (Proc.devRef .tc main_v18) = modRows (W (Proc.devRef .tc main_arg1)) := by
  unfold_abbrev_sides
  after_results
  rfl

theorem h_cos : StableHlo.after (hostOps0 (F := Ideal)) W (Proc.devRef .tc main_v52) = cosT ang := by
  unfold_abbrev_sides
  after_results
  rfl

theorem h_sa : StableHlo.after (hostOps0 (F := Ideal)) W (Proc.devRef .tc main_v57) = pairT (Host.negf (Host.sin ang)) none32 := by
  unfold_abbrev_sides
  after_results
  rfl

theorem h_sb : StableHlo.after (hostOps0 (F := Ideal)) W (Proc.devRef .tc main_v61) = pairT none32 (Host.sin ang) := by
  unfold_abbrev_sides
  after_results
  rfl

end

theorem cosT_at (a : FVec Ideal S16384x32 .f32) (n : Fin 16384) (l : Fin 128) :
    cosT a (ix2 n l) = Ideal.cos (a (ix2 n ⟨(l : ℕ) % 32, by omega⟩)) := by
  pointwise [cosT]

theorem pairT_at (a b : FVec Ideal S16384x32 .f32) (n : Fin 16384) (l : Fin 128) :
    pairT a b (ix2 n l) = if (l : ℕ) % 64 < 32 then a (ix2 n ⟨(l : ℕ) % 32, by omega⟩) else b (ix2 n ⟨(l : ℕ) % 32, by omega⟩) := by
  pointwise [pairT]
  split
  · exact congrArg (fun k => a (ix2 n k)) (Fin.ext (by dsimp only; omega))
  · exact congrArg (fun k => b (ix2 n k)) (Fin.ext (by dsimp only; omega))

theorem sa_at (a : FVec Ideal S16384x32 .f32) (n : Fin 16384) (l : Fin 128) :
    pairT (Host.negf (Host.sin a)) none32 (ix2 n l) = if (l : ℕ) % 64 < 32 then -Ideal.sin (a (ix2 n ⟨(l : ℕ) % 32, by omega⟩)) else 0 := by
  rw [pairT_at]
  pointwise [none32]

theorem sb_at (a : FVec Ideal S16384x32 .f32) (n : Fin 16384) (l : Fin 128) :
    pairT none32 (Host.sin a) (ix2 n l) = if (l : ℕ) % 64 < 32 then 0 else Ideal.sin (a (ix2 n ⟨(l : ℕ) % 32, by omega⟩)) := by
  rw [pairT_at]
  pointwise [none32]

theorem row_idx (i : BitVec 32) : (broadcastInDim S1 ![] bcast_S_S1 (constantI S_ 32 i) : IVec S1 32) (ix1 (0 : Fin 1)) = i := by
  pointwise

/-- Update `k` of row `i` lands at entry `k` of that row. -/
theorem row_lands (i : Fin 8) (k : Fin 2048) (r : Fin 8) (e : Fin 2048) :
    scatter_S8x2048_S1_S2048_0_0_0_0.resultIdx? (ix1 k) (broadcastInDim S1 ![] bcast_S_S1 (constantI S_ 32 (BitVec.ofNat 32 i)) : IVec S1 32) = some (ix2 r e) ↔ r = i ∧ (e : ℕ) = k := by
  have h0 := row_idx (BitVec.ofNat 32 i)
  generalize (broadcastInDim S1 ![] bcast_S_S1 (constantI S_ 32 (BitVec.ofNat 32 i)) : IVec S1 32) = q at h0 ⊢
  have w0 : scatter_S8x2048_S1_S2048_0_0_0_0.window (ix1 k) 0 = 0 := rfl
  have w1 : scatter_S8x2048_S1_S2048_0_0_0_0.window (ix1 k) 1 = k := rfl
  have s0 : scatter_S8x2048_S1_S2048_0_0_0_0.start (ix1 k) q 0 = (i : ℕ) := by
    have e : scatter_S8x2048_S1_S2048_0_0_0_0.start (ix1 k) q 0 = (q (ix1 (0 : Fin 1))).toInt := by
      unfold ScatterDims.start
      rw [dif_pos (by decide)]
      refine congrArg (fun x => (q x).toInt) ?_
      funext a; match a with | ⟨0, _⟩ => rfl
    rw [e, h0, StableHlo.Predicate.toInt_ofNat_small _ (by omega)]
  have s1 : scatter_S8x2048_S1_S2048_0_0_0_0.start (ix1 k) q 1 = 0 := rfl
  refine (Routing.resultIdx?_ix2 _ _ _ r e).trans ?_
  rw [s0, s1, w0, w1, Fin.ext_iff]
  omega

/-- The row set, and the others. -/
theorem setRow_at (x : FVec Ideal S8x2048 .f32) (i : Fin 8) (u : FVec Ideal S2048 .f32) (r : Fin 8) (k : Fin 2048) :
    setRow x (BitVec.ofNat 32 i) u (ix2 r k) = if r = i then u (ix1 k) else x (ix2 r k) := by
  have lands : ∀ j : S2048.Idx, scatter_S8x2048_S1_S2048_0_0_0_0.resultIdx? j (broadcastInDim S1 ![] bcast_S_S1 (constantI S_ 32 (BitVec.ofNat 32 i)) : IVec S1 32) = some (ix2 r k) → r = i ∧ (k : ℕ) = (j 0).val := fun j hj =>
    (row_lands i (j 0) r k).1 ((congrArg (fun t => scatter_S8x2048_S1_S2048_0_0_0_0.resultIdx? t (broadcastInDim S1 ![] bcast_S_S1 (constantI S_ 32 (BitVec.ofNat 32 i)) : IVec S1 32)) (ValueIdx.eq_ix1 j)).symm.trans hj)
  split
  · rename_i h
    refine Routing.scatter_set_hit _ x _ u _ _ (fun j hj => ?_) (ix1 k) ((row_lands i k r k).2 ⟨h, rfl⟩)
    refine congrArg u ((ValueIdx.eq_ix1 j).trans ?_)
    exact congrArg ix1 (Fin.ext (lands j hj).2.symm)
  · rename_i h
    exact Routing.scatter_set_miss _ x _ u _ fun j hj => h (lands j hj).1

theorem slice0_at (u : FVec Ideal S12288 .f32) (d : Fin 2048) : (extractStridedSlice S2048 ![0] u slices_S12288_S2048_0) (ix1 d) = u (ix1 ⟨d, by omega⟩) := by
  pointwise

theorem slice1_at (u : FVec Ideal S12288 .f32) (d : Fin 2048) : (extractStridedSlice S2048 ![2048] u slices_S12288_S2048_2048) (ix1 d) = u (ix1 ⟨2048 + d, by omega⟩) := by
  pointwise

theorem mod0_at (u : FVec Ideal S12288 .f32) (d : Fin 2048) : modRows u (ix2 0 d) = u (ix1 ⟨d, by omega⟩) := by
  unfold modRows
  rw [show (5#32) = BitVec.ofNat 32 (5 : Fin 8) from rfl, setRow_at, if_neg (by decide), show (4#32) = BitVec.ofNat 32 (4 : Fin 8) from rfl, setRow_at, if_neg (by decide),
    show (3#32) = BitVec.ofNat 32 (3 : Fin 8) from rfl, setRow_at, if_neg (by decide), show (2#32) = BitVec.ofNat 32 (2 : Fin 8) from rfl, setRow_at, if_neg (by decide),
    show (1#32) = BitVec.ofNat 32 (1 : Fin 8) from rfl, setRow_at, if_neg (by decide), show (0#32) = BitVec.ofNat 32 (0 : Fin 8) from rfl, setRow_at, if_pos rfl, slice0_at]

theorem mod1_at (u : FVec Ideal S12288 .f32) (d : Fin 2048) : modRows u (ix2 1 d) = u (ix1 ⟨2048 + d, by omega⟩) := by
  unfold modRows
  rw [show (5#32) = BitVec.ofNat 32 (5 : Fin 8) from rfl, setRow_at, if_neg (by decide), show (4#32) = BitVec.ofNat 32 (4 : Fin 8) from rfl, setRow_at, if_neg (by decide),
    show (3#32) = BitVec.ofNat 32 (3 : Fin 8) from rfl, setRow_at, if_neg (by decide), show (2#32) = BitVec.ofNat 32 (2 : Fin 8) from rfl, setRow_at, if_neg (by decide),
    show (1#32) = BitVec.ofNat 32 (1 : Fin 8) from rfl, setRow_at, if_pos rfl, slice1_at]

theorem weight_at (x : FVec Ideal S2048x4608 .f32) (d : Fin 2048) (j : Fin 4608) :
    (truncf .bf16 x bitsLt_bf16_f32 : FVec Ideal S2048x4608 .bf16) (ix2 d j) = x (ix2 d j) := by
  pointwise

theorem bias_at (x : FVec Ideal S4608 .f32) (j : Fin 4608) :
    (shapeCast S1x4608 x shapeCasts_S4608_S1x4608 : FVec Ideal S1x4608 .f32) (ix2 0 j) = x (ix1 j) := by
  pointwise

end Cert.Kernel2Ideal.Proj

end
-- ==== Proof.ProjRef.lean ====
/- The input projection's reference in stages, each stage at an index. -/
module

public import proofs.«01_k».proof.Proof.Gen.Reference2Ideal
public import proofs.«01_k».proof.Proof.Gen.Reference2Ideal.Run
public import proofs.«01_k».proof.Proof.ProjSpec
public import Idealize.ShloMosaic.Lib.Pointwise
public import Idealize.ShloMosaic.Lib.Tactic

@[expose] public section

set_option maxRecDepth 16384

noncomputable section

namespace Cert.Reference2Ideal.Stages

open Idealize.ShloMosaic Idealize.ShloMosaic.TcCoe Idealize.ShloMosaic.Tactic
open Cert.Reference2Ideal Cert.Reference2Ideal.Gen
open Cert.Proj
open scoped BigOperators

/-- A number over every row. -/
def column (b : BitVec 32) : FVec Ideal S16384x1 .f32 := broadcastInDim S16384x1 ![] bcast_S_S16384x1 (constant S_ .f32 b : FVec Ideal S_ .f32)

/-- A row's mean. -/
def mean (x : FVec Ideal S16384x2048 .f32) : FVec Ideal S16384x1 .f32 :=
  Host.divf (broadcastInDim S16384x1 ![0] bcast_S16384_S16384x1_0 (Host.reduceAdd x (constant S_ .f32 0x00000000#32) reducesTo_S16384x2048_S16384_d1 h_S_ : FVec Ideal S16384 .f32)) (column 0x45000000#32)

/-- A row's number at each of its elements. -/
def across (x : FVec Ideal S16384x1 .f32) : FVec Ideal S16384x2048 .f32 := broadcastInDim S16384x2048 ![0, 1] bcast_S16384x1_S16384x2048_0_1 x

/-- The stream less its rows' means. -/
def less (x : FVec Ideal S16384x2048 .f32) : FVec Ideal S16384x2048 .f32 := subf x (across (mean x))

/-- A vector over every row. -/
def down (x : FVec Ideal S2048 .f32) : FVec Ideal S16384x2048 .f32 :=
  broadcastInDim S16384x2048 ![0, 1] bcast_S1x2048_S16384x2048_0_1 (broadcastInDim S1x2048 ![1] bcast_S2048_S1x2048_1 x)

/-- The normed stream. -/
def normal (x : FVec Ideal S16384x2048 .f32) : FVec Ideal S16384x2048 .f32 :=
  mulf (less x) (across (Host.rsqrt (addf (mean (mulf (less x) (less x))) (column 0x358637BD#32))))

/-- The modulated stream. -/
def modulated (x : FVec Ideal S16384x2048 .f32) (u : FVec Ideal S12288 .f32) : FVec Ideal S16384x2048 .f32 :=
  addf (mulf (normal x) (down (addf (broadcastInDim S2048 ![] bcast_S_S2048 (constant S_ .f32 0x3F800000#32 : FVec Ideal S_ .f32)) (extractStridedSlice S2048 ![2048] u slices_S12288_S2048_2048))))
    (down (extractStridedSlice S2048 ![0] u slices_S12288_S2048_0))

/-- The projection. -/
def projected (x : FVec Ideal S16384x2048 .f32) (u : FVec Ideal S12288 .f32) (w : FVec Ideal S2048x4608 .f32) (b : FVec Ideal S4608 .f32) : FVec Ideal S16384x4608 .f32 :=
  addf (Host.dotGeneral dot_S16384x2048_S2048x4608_S16384x4608_1_0_0_1_n_n none (modulated x u) w)
    (broadcastInDim S16384x4608 ![0, 1] bcast_S1x4608_S16384x4608_0_1 (broadcastInDim S1x4608 ![1] bcast_S4608_S1x4608_1 b))

/-- The turns' frequencies. -/
def rate : FVec Ideal S16 .f32 :=
  Host.divf (broadcastInDim S16 ![] bcast_S_S16 (constant S_ .f32 0x3F800000#32 : FVec Ideal S_ .f32))
    (Host.powf (broadcastInDim S16 ![] bcast_S_S16 (constant S_ .f32 0x461C4000#32 : FVec Ideal S_ .f32))
      (Host.divf (sitofp .f32 (iotaInDim S16 32 0)) (broadcastInDim S16 ![] bcast_S_S16 (constant S_ .f32 0x41800000#32 : FVec Ideal S_ .f32))))

/-- A position's multiples of the frequencies. -/
def times (p : IVec S16384 32) : FVec Ideal S16384x16 .f32 :=
  mulf (broadcastInDim S16384x16 ![0, 1] bcast_S16384x1_S16384x16_0_1 (broadcastInDim S16384x1 ![0] bcast_S16384_S16384x1_0 (sitofp .f32 p : FVec Ideal S16384 .f32)))
    (broadcastInDim S16384x16 ![0, 1] bcast_S1x16_S16384x16_0_1 (broadcastInDim S1x16 ![1] bcast_S16_S1x16_1 rate))

/-- The angles. -/
def angles : FVec Ideal S16384x32 .f32 :=
  concatenate S16384x32 1 [⟨S16384x16, times (shapeCast S16384 (broadcastInDim S256x64 ![0] bcast_S256_S256x64_0 (iotaInDim S256 32 0)) shapeCasts_S256x64_S16384)⟩,
    ⟨S16384x16, times (shapeCast S16384 (broadcastInDim S256x64 ![0, 1] bcast_S1x64_S256x64_0_1 (shapeCast S1x64 (iotaInDim S64 32 0) shapeCasts_S64_S1x64)) shapeCasts_S256x64_S16384)⟩]
    concatenates_S16384x16_S16384x16_S16384x32_d1

/-- A table over every head. -/
def heads (a : FVec Ideal S16384x32 .f32) : FVec Ideal S16384x16x32 .f32 :=
  broadcastInDim S16384x16x32 ![0, 1, 2] bcast_S16384x1x32_S16384x16x32_0_1_2 (broadcastInDim S16384x1x32 ![0, 2] bcast_S16384x32_S16384x1x32_0_2 a)

/-- A head's first half. -/
def lo (y : FVec Ideal S16384x1024 .f32) : FVec Ideal S16384x16x32 .f32 :=
  extractStridedSlice S16384x16x32 ![0, 0, 0] (shapeCast S16384x16x64 y shapeCasts_S16384x1024_S16384x16x64) slices_S16384x16x64_S16384x16x32_0_0_0

/-- A head's second half. -/
def hi (y : FVec Ideal S16384x1024 .f32) : FVec Ideal S16384x16x32 .f32 :=
  extractStridedSlice S16384x16x32 ![0, 0, 32] (shapeCast S16384x16x64 y shapeCasts_S16384x1024_S16384x16x64) slices_S16384x16x64_S16384x16x32_0_0_32

/-- The halves turned. -/
def turn (y : FVec Ideal S16384x1024 .f32) (a : FVec Ideal S16384x32 .f32) : FVec Ideal S16384x1024 .f32 :=
  shapeCast S16384x1024 (concatenate S16384x16x64 2
    [⟨S16384x16x32, subf (mulf (lo y) (heads (Host.cos a))) (mulf (hi y) (heads (Host.sin a)))⟩,
     ⟨S16384x16x32, addf (mulf (lo y) (heads (Host.sin a))) (mulf (hi y) (heads (Host.cos a)))⟩]
    concatenates_S16384x16x32_S16384x16x32_S16384x16x64_d2) shapeCasts_S16384x16x64_S16384x1024

/-- The five parts. -/
def part0 (y : FVec Ideal S16384x4608 .f32) : FVec Ideal S16384x512 .bf16 := truncf .bf16 (extractStridedSlice S16384x512 ![0, 0] y slices_S16384x4608_S16384x512_0_0 : FVec Ideal S16384x512 .f32) bitsLt_bf16_f32
def part1 (y : FVec Ideal S16384x4608 .f32) : FVec Ideal S16384x512 .bf16 :=
  truncf .bf16 (mulf (extractStridedSlice S16384x512 ![0, 512] y slices_S16384x4608_S16384x512_0_512)
    (Host.divf (broadcastInDim S16384x512 ![] bcast_S_S16384x512 (constant S_ .f32 0x3F800000#32 : FVec Ideal S_ .f32))
      (addf (broadcastInDim S16384x512 ![] bcast_S_S16384x512 (constant S_ .f32 0x3F800000#32 : FVec Ideal S_ .f32))
        (Host.exp (Host.negf (extractStridedSlice S16384x512 ![0, 1024] y slices_S16384x4608_S16384x512_0_1024))))) : FVec Ideal S16384x512 .f32) bitsLt_bf16_f32
def part2 (y : FVec Ideal S16384x4608 .f32) : FVec Ideal S16384x1024 .bf16 :=
  truncf .bf16 (mulf (turn (extractStridedSlice S16384x1024 ![0, 1536] y slices_S16384x4608_S16384x1024_0_1536) angles)
    (broadcastInDim S16384x1024 ![] bcast_S_S16384x1024 (constant S_ .f32 0x3E38AA3B#32 : FVec Ideal S_ .f32))) bitsLt_bf16_f32
def part3 (y : FVec Ideal S16384x4608 .f32) : FVec Ideal S16384x1024 .bf16 :=
  truncf .bf16 (turn (extractStridedSlice S16384x1024 ![0, 2560] y slices_S16384x4608_S16384x1024_0_2560) angles) bitsLt_bf16_f32
def part4 (y : FVec Ideal S16384x4608 .f32) : FVec Ideal S16384x1024 .bf16 := truncf .bf16 (extractStridedSlice S16384x1024 ![0, 3584] y slices_S16384x4608_S16384x1024_0_3584 : FVec Ideal S16384x1024 .f32) bitsLt_bf16_f32

section
variable (m : (ℓ : Loc nD τ sig) → Buf (Elt Ideal) ℓ) (c : Dev nD)

/-- The projection of the arguments. -/
def proj : FVec Ideal S16384x4608 .f32 :=
  projected (m ((c.tc : Thread nD τ).loc main_arg0)) (m ((c.tc : Thread nD τ).loc main_arg1)) (m ((c.tc : Thread nD τ).loc main_arg2)) (m ((c.tc : Thread nD τ).loc main_arg3))

theorem v109_eq : Value.res_main_v109 m c = part1 (proj m c) := by
  unfold Value.res_main_v109 part1 proj projected modulated normal less across mean down column
  rfl

theorem v110_eq : Value.res_main_v110 m c = part2 (proj m c) := by
  unfold Value.res_main_v110 part2 turn lo hi heads angles times rate proj projected modulated normal less across mean down column
  rfl

theorem v111_eq : Value.res_main_v111 m c = part3 (proj m c) := by
  unfold Value.res_main_v111 part3 turn lo hi heads angles times rate proj projected modulated normal less across mean down column
  rfl

end

theorem mean_at (x : FVec Ideal S16384x2048 .f32) (n : Fin 16384) : mean x (ix2 n 0) = Ideal.div (∑ k, x (ix2 n k)) (Ideal.ofBits .f32 0x45000000#32) := by
  pointwise [mean, column]

theorem less_at (x : FVec Ideal S16384x2048 .f32) (n : Fin 16384) (d : Fin 2048) : less x (ix2 n d) = centred (fun d => x (ix2 n d)) d := by
  pointwise [less, across, mean_at, centred]

theorem normal_at (x : FVec Ideal S16384x2048 .f32) (n : Fin 16384) (d : Fin 2048) : normal x (ix2 n d)
    = centred (fun d => x (ix2 n d)) d * Ideal.rsqrt (Ideal.div (∑ k, centred (fun d => x (ix2 n d)) k * centred (fun d => x (ix2 n d)) k) (Ideal.ofBits .f32 0x45000000#32) + Ideal.ofBits .f32 0x358637BD#32) := by
  pointwise [normal, across, column, mean_at, less_at]

theorem modulated_at (x : FVec Ideal S16384x2048 .f32) (u : FVec Ideal S12288 .f32) (n : Fin 16384) (d : Fin 2048) : modulated x u (ix2 n d)
    = hid (fun d => x (ix2 n d)) (fun d => u (ix1 ⟨2048 + d, by omega⟩)) (fun d => u (ix1 ⟨d, by omega⟩)) d := by
  pointwise [modulated, down, normal_at, hid]

theorem projected_at (x : FVec Ideal S16384x2048 .f32) (u : FVec Ideal S12288 .f32) (w : FVec Ideal S2048x4608 .f32) (b : FVec Ideal S4608 .f32) (n : Fin 16384) (j : Fin 4608) :
    projected x u w b (ix2 n j) = lin x u w b n j := by
  pointwise [projected, modulated_at, lin, prj]

theorem turn_at (y : FVec Ideal S16384x1024 .f32) (a : FVec Ideal S16384x32 .f32) (n : Fin 16384) (j : Fin 1024) :
    turn y a (ix2 n j) = turned (fun j => y (ix2 n j)) (fun p => a (ix2 n p)) j := by
  pointwise [turn, lo, hi, heads, turned]
  refine dite_congr rfl (fun h => ?_) (fun h => ?_)
  · have h' : (j : ℕ) % 64 < 32 := h
    rw [show (⟨(j : ℕ) / 64 * 64 + (32 + (j : ℕ) % 64), by omega⟩ : Fin 1024) = ⟨(j : ℕ) + 32, by omega⟩ from Fin.ext (by dsimp only; omega),
      show (⟨(j : ℕ) % 64, by omega⟩ : Fin 32) = ⟨(j : ℕ) % 32, by omega⟩ from Fin.ext (by dsimp only; omega)]
  · have h' : ¬ (j : ℕ) % 64 < 32 := h
    rw [show (⟨(j : ℕ) / 64 * 64 + ((j : ℕ) % 64 - 32), by omega⟩ : Fin 1024) = ⟨(j : ℕ) - 32, by omega⟩ from Fin.ext (by dsimp only; omega),
      show (⟨(j : ℕ) / 64 * 64 + (32 + ((j : ℕ) % 64 - 32)), by omega⟩ : Fin 1024) = j from Fin.ext (by dsimp only; omega),
      show (⟨(j : ℕ) % 64 - 32, by omega⟩ : Fin 32) = ⟨(j : ℕ) % 32, by omega⟩ from Fin.ext (by dsimp only; omega)]

theorem part0_at (y : FVec Ideal S16384x4608 .f32) (n : Fin 16384) (j : Fin 512) : part0 y (ix2 n j) = y (ix2 n ⟨j, by omega⟩) := by
  pointwise [part0]

theorem part1_at (y : FVec Ideal S16384x4608 .f32) (n : Fin 16384) (j : Fin 512) : part1 y (ix2 n j) = y (ix2 n ⟨512 + j, by omega⟩) * Ideal.logistic (y (ix2 n ⟨1024 + j, by omega⟩)) := by
  pointwise [part1, Ideal.logistic]

theorem part2_at (y : FVec Ideal S16384x4608 .f32) (n : Fin 16384) (j : Fin 1024) :
    part2 y (ix2 n j) = turned (fun j => y (ix2 n ⟨1536 + j, by omega⟩)) (fun p => angles (ix2 n p)) j * Ideal.ofBits .f32 0x3E38AA3B#32 := by
  unfold part2
  generalize angles = a
  pointwise [turn_at]

theorem part3_at (y : FVec Ideal S16384x4608 .f32) (n : Fin 16384) (j : Fin 1024) :
    part3 y (ix2 n j) = turned (fun j => y (ix2 n ⟨2560 + j, by omega⟩)) (fun p => angles (ix2 n p)) j := by
  unfold part3
  generalize angles = a
  pointwise [turn_at]

theorem part4_at (y : FVec Ideal S16384x4608 .f32) (n : Fin 16384) (j : Fin 1024) : part4 y (ix2 n j) = y (ix2 n ⟨3584 + j, by omega⟩) := by
  pointwise [part4]

end Cert.Reference2Ideal.Stages

end
-- ==== Proof.ProjValue.lean ====
/- The input projection's five results, from its arguments. -/
module

public import proofs.«01_k».proof.Proof.ProjBody
public import proofs.«01_k».proof.Proof.ProjHost
public import proofs.«01_k».proof.Proof.ProjRef

@[expose] public section

set_option maxRecDepth 16384

noncomputable section

namespace Cert.Kernel2Ideal.Proj

open Idealize.ShloMosaic Idealize.ShloMosaic.TcCoe Idealize.ShloMosaic.Tactic
open Cert.Kernel2Ideal Cert.Kernel2Ideal.Gen Cert.Kernel2Ideal.Value
open Cert.Proj
open scoped BigOperators

theorem angles_eq : Cert.Reference2Ideal.Stages.angles = ang := by
  unfold Cert.Reference2Ideal.Stages.angles ang Cert.Reference2Ideal.Stages.times multiples Cert.Reference2Ideal.Stages.rate freq
  rfl

/-- Where each window's block lies. -/
theorem idx0 : ∀ t : Fin cfg0.N, win0_0.index t = ![(grid0.coords t 0).val, 0] ∧ win0_1.index t = ![0, 0] ∧ win0_2.index t = ![0, 0] ∧ win0_3.index t = ![0, 0]
    ∧ win0_4.index t = ![(grid0.coords t 0).val, 0] ∧ win0_5.index t = ![(grid0.coords t 0).val, 0] ∧ win0_6.index t = ![(grid0.coords t 0).val, 0]
    ∧ win0_7.index t = ![(grid0.coords t 0).val, 0] ∧ win0_8.index t = ![(grid0.coords t 0).val, 0] ∧ win0_9.index t = ![(grid0.coords t 0).val, 0]
    ∧ win0_10.index t = ![(grid0.coords t 0).val, 0] ∧ win0_11.index t = ![(grid0.coords t 0).val, 0] :=
  (by decide +kernel : ∀ t : Fin grid0.N, _)

/-- A block is one of 32. -/
theorem blk_lt (t : Fin cfg0.N) : (grid0.coords t 0).val < 32 := (grid0.coords t 0).isLt

variable (m : (ℓ : Loc nD τ sig) → Buf (Elt Ideal) ℓ) (c : Dev nD) (t : Fin cfg0.N)

/-- A block's row in the stream. -/
def row (i : Fin 512) : Fin 16384 := ⟨512 * (grid0.coords t 0).val + i, by have := blk_lt t; omega⟩

theorem x_blk (i : Fin 512) (d : Fin 2048) : (iblk m c 0 t : FVec Ideal S512x2048 .f32) (ix2 i d) = (V m c main_arg0 : FVec Ideal S16384x2048 .f32) (ix2 (row t i) d) := by
  blk_ext [iblk, idx0 t, row]

theorem mod_blk (r : Fin 8) (d : Fin 2048) : (iblk m c 1 t : FVec Ideal S8x2048 .f32) (ix2 r d) = (V m c main_v18 : FVec Ideal S8x2048 .f32) (ix2 r d) := by
  blk_ext [iblk, idx0 t]

theorem w_blk (d : Fin 2048) (j : Fin 4608) : (iblk m c 2 t : FVec Ideal S2048x4608 .bf16) (ix2 d j) = (V m c main_v19 : FVec Ideal S2048x4608 .bf16) (ix2 d j) := by
  blk_ext [iblk, idx0 t]

theorem b_blk (j : Fin 4608) : (iblk m c 3 t : FVec Ideal S1x4608 .f32) (ix2 0 j) = (V m c main_v62 : FVec Ideal S1x4608 .f32) (ix2 0 j) := by
  blk_ext [iblk, idx0 t]

theorem cos_blk (i : Fin 512) (l : Fin 128) : (iblk m c 4 t : FVec Ideal S512x128 .f32) (ix2 i l) = (V m c main_v52 : FVec Ideal S16384x128 .f32) (ix2 (row t i) l) := by
  blk_ext [iblk, idx0 t, row]

theorem sa_blk (i : Fin 512) (l : Fin 128) : (iblk m c 5 t : FVec Ideal S512x128 .f32) (ix2 i l) = (V m c main_v57 : FVec Ideal S16384x128 .f32) (ix2 (row t i) l) := by
  blk_ext [iblk, idx0 t, row]

theorem sb_blk (i : Fin 512) (l : Fin 128) : (iblk m c 6 t : FVec Ideal S512x128 .f32) (ix2 i l) = (V m c main_v61 : FVec Ideal S16384x128 .f32) (ix2 (row t i) l) := by
  blk_ext [iblk, idx0 t, row]

/-- The projection of the arguments. -/
def whole : FVec Ideal Cert.Reference2Ideal.S16384x4608 .f32 :=
  Cert.Reference2Ideal.Stages.projected (m (c, Proc.devRef .tc main_arg0)) (m (c, Proc.devRef .tc main_arg1)) (m (c, Proc.devRef .tc main_arg2)) (m (c, Proc.devRef .tc main_arg3))

theorem blin_at (i : Fin 512) (j : Fin 4608) : blin (iblk m c 0 t) (iblk m c 1 t) (iblk m c 2 t) (iblk m c 3 t) i j = whole m c (ix2 (row t i) j) := by
  unfold whole
  refine Eq.trans ?_ (Cert.Reference2Ideal.Stages.projected_at _ _ _ _ (row t i) j).symm
  unfold blin lin
  have e0 : (fun d : Fin 2048 => (iblk m c 0 t : FVec Ideal S512x2048 .f32) (ix2 i d)) = fun d => (m (c, Proc.devRef .tc main_arg0) : FVec Ideal S16384x2048 .f32) (ix2 (row t i) d) :=
    funext fun d => (x_blk m c t i d).trans (congrFun (h_x _) _)
  have e1 : (fun d : Fin 2048 => (iblk m c 1 t : FVec Ideal S8x2048 .f32) (ix2 1 d)) = fun d : Fin 2048 => (m (c, Proc.devRef .tc main_arg1) : FVec Ideal S12288 .f32) (ix1 ⟨2048 + d, by omega⟩) :=
    funext fun d => (mod_blk m c t 1 d).trans ((congrFun (h_mod _) _).trans (mod1_at _ d))
  have e2 : (fun d : Fin 2048 => (iblk m c 1 t : FVec Ideal S8x2048 .f32) (ix2 0 d)) = fun d : Fin 2048 => (m (c, Proc.devRef .tc main_arg1) : FVec Ideal S12288 .f32) (ix1 ⟨d, by omega⟩) :=
    funext fun d => (mod_blk m c t 0 d).trans ((congrFun (h_mod _) _).trans (mod0_at _ d))
  have e3 : (fun d : Fin 2048 => (iblk m c 2 t : FVec Ideal S2048x4608 .bf16) (ix2 d j)) = fun d => (m (c, Proc.devRef .tc main_arg2) : FVec Ideal S2048x4608 .f32) (ix2 d j) :=
    funext fun d => (w_blk m c t d j).trans ((congrFun (h_w _) _).trans (weight_at _ d j))
  have e4 : (iblk m c 3 t : FVec Ideal S1x4608 .f32) (ix2 0 j) = (m (c, Proc.devRef .tc main_arg3) : FVec Ideal S4608 .f32) (ix1 j) :=
    (b_blk m c t j).trans ((congrFun (h_b _) _).trans (bias_at _ j))
  exact congr (congr (congr (congr (congrArg prj e0) e1) e2) e3) e4

theorem roll_at (y : Fin 1024 → EReal) (i : Fin 512) (j : Fin 1024) :
    rolled y (fun l => (iblk m c 4 t : FVec Ideal S512x128 .f32) (ix2 i l)) (fun l => (iblk m c 5 t : FVec Ideal S512x128 .f32) (ix2 i l)) (fun l => (iblk m c 6 t : FVec Ideal S512x128 .f32) (ix2 i l)) j
      = turned y (fun p => Cert.Reference2Ideal.Stages.angles (ix2 (row t i) p)) j := by
  rw [angles_eq]
  exact rolled_eq y _ _ _ _
    (fun l => (cos_blk m c t i l).trans ((congrFun (h_cos _) _).trans (cosT_at ang (row t i) l)))
    (fun l => (sa_blk m c t i l).trans ((congrFun (h_sa _) _).trans (sa_at ang (row t i) l)))
    (fun l => (sb_blk m c t i l).trans ((congrFun (h_sb _) _).trans (sb_at ang (row t i) l))) j

theorem value7 : (dats m 0 c).arrAt 7 cfg0.N = Cert.Reference2Ideal.Stages.part0 (whole m c) := by
  refine (dats m 0 c).arrAt_eq_of_covers 7 _ (by decide +kernel) fun t _ z => ?_
  blk_simp
  rw [after0_7]
  idx_vars z
  refine (out7_at _ _ _ _ _ _ _ z0 z1).trans (((blin_at m c t z0 _)).trans ?_)
  refine (Cert.Reference2Ideal.Stages.part0_at (whole m c) (row t z0) z1).symm.trans (congrArg (Cert.Reference2Ideal.Stages.part0 (whole m c)) ?_)
  refine Eq.trans ?_ (ValueIdx.eq_ix2 _).symm
  refine congrArg₂ ix2 (Fin.ext ?_) (Fin.ext ?_)
  · blk_simp [idx0 t, row]
    first | done | omega | (dsimp only; omega)
  · blk_simp [idx0 t]
    first | done | omega | (dsimp only; omega)

theorem value8 : (dats m 0 c).arrAt 8 cfg0.N = Cert.Reference2Ideal.Stages.part1 (whole m c) := by
  refine (dats m 0 c).arrAt_eq_of_covers 8 _ (by decide +kernel) fun t _ z => ?_
  blk_simp
  rw [after0_8]
  idx_vars z
  refine (out8_at _ _ _ _ _ _ _ z0 z1).trans (((congrArg₂ (fun a b : EReal => a * Ideal.logistic b) (blin_at m c t z0 _) (blin_at m c t z0 _))).trans ?_)
  refine (Cert.Reference2Ideal.Stages.part1_at (whole m c) (row t z0) z1).symm.trans (congrArg (Cert.Reference2Ideal.Stages.part1 (whole m c)) ?_)
  refine Eq.trans ?_ (ValueIdx.eq_ix2 _).symm
  refine congrArg₂ ix2 (Fin.ext ?_) (Fin.ext ?_)
  · blk_simp [idx0 t, row]
    first | done | omega | (dsimp only; omega)
  · blk_simp [idx0 t]
    first | done | omega | (dsimp only; omega)

theorem value9 : (dats m 0 c).arrAt 9 cfg0.N = Cert.Reference2Ideal.Stages.part2 (whole m c) := by
  refine (dats m 0 c).arrAt_eq_of_covers 9 _ (by decide +kernel) fun t _ z => ?_
  blk_simp
  rw [after0_9]
  idx_vars z
  refine (out9_at _ _ _ _ _ _ _ z0 z1).trans (((congrArg (fun a : EReal => a * Ideal.ofBits .f32 0x3E38AA3B#32) ((roll_at m c t _ z0 z1).trans (congrArg (fun y => turned y _ z1) (funext fun j => blin_at m c t z0 _))))).trans ?_)
  refine (Cert.Reference2Ideal.Stages.part2_at (whole m c) (row t z0) z1).symm.trans (congrArg (Cert.Reference2Ideal.Stages.part2 (whole m c)) ?_)
  refine Eq.trans ?_ (ValueIdx.eq_ix2 _).symm
  refine congrArg₂ ix2 (Fin.ext ?_) (Fin.ext ?_)
  · blk_simp [idx0 t, row]
    first | done | omega | (dsimp only; omega)
  · blk_simp [idx0 t]
    first | done | omega | (dsimp only; omega)

theorem value10 : (dats m 0 c).arrAt 10 cfg0.N = Cert.Reference2Ideal.Stages.part3 (whole m c) := by
  refine (dats m 0 c).arrAt_eq_of_covers 10 _ (by decide +kernel) fun t _ z => ?_
  blk_simp
  rw [after0_10]
  idx_vars z
  refine (out10_at _ _ _ _ _ _ _ z0 z1).trans ((((roll_at m c t _ z0 z1).trans (congrArg (fun y => turned y _ z1) (funext fun j => blin_at m c t z0 _)))).trans ?_)
  refine (Cert.Reference2Ideal.Stages.part3_at (whole m c) (row t z0) z1).symm.trans (congrArg (Cert.Reference2Ideal.Stages.part3 (whole m c)) ?_)
  refine Eq.trans ?_ (ValueIdx.eq_ix2 _).symm
  refine congrArg₂ ix2 (Fin.ext ?_) (Fin.ext ?_)
  · blk_simp [idx0 t, row]
    first | done | omega | (dsimp only; omega)
  · blk_simp [idx0 t]
    first | done | omega | (dsimp only; omega)

theorem value11 : (dats m 0 c).arrAt 11 cfg0.N = Cert.Reference2Ideal.Stages.part4 (whole m c) := by
  refine (dats m 0 c).arrAt_eq_of_covers 11 _ (by decide +kernel) fun t _ z => ?_
  blk_simp
  rw [after0_11]
  idx_vars z
  refine (out11_at _ _ _ _ _ _ _ z0 z1).trans (((blin_at m c t z0 _)).trans ?_)
  refine (Cert.Reference2Ideal.Stages.part4_at (whole m c) (row t z0) z1).symm.trans (congrArg (Cert.Reference2Ideal.Stages.part4 (whole m c)) ?_)
  refine Eq.trans ?_ (ValueIdx.eq_ix2 _).symm
  refine congrArg₂ ix2 (Fin.ext ?_) (Fin.ext ?_)
  · blk_simp [idx0 t, row]
    first | done | omega | (dsimp only; omega)
  · blk_simp [idx0 t]
    first | done | omega | (dsimp only; omega)

end Cert.Kernel2Ideal.Proj

end
-- ==== Proof.ProjAlgebra.lean ====
/- The input projection's frames, and the equality with its reference. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal.Run
public import proofs.«01_k».proof.Proof.ProjValue

@[expose] public section

noncomputable section

namespace Cert.Proof

open Idealize.ShloMosaic Idealize.SL.Sem

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_ref2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The reference's projection is the call's, on the same arguments. -/
theorem proj_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Stages.proj m' c = Cert.Kernel2Ideal.Proj.whole m c := by
  unfold Cert.Reference2Ideal.Stages.proj Cert.Kernel2Ideal.Proj.whole
  rw [e0, e1, e2, e3]

theorem algebra2 : Cert.algebraic_Kernel2Ideal_Reference2Ideal := fun m ρ m' ρ' _ agree => by
  have same : ∀ c : Dev Cert.Kernel2Ideal.nD, Cert.Reference2Ideal.Stages.proj m' c = Cert.Kernel2Ideal.Proj.whole m c := fun c => by
    obtain ⟨e0, e1, e2, e3⟩ := agree c
    exact proj_eq m m' c e0 e1 e2 e3
  refine ⟨fun c => Cert.Reference2Ideal.Stages.part0 (Cert.Kernel2Ideal.Proj.whole m c), fun c => Cert.Reference2Ideal.Stages.part1 (Cert.Kernel2Ideal.Proj.whole m c),
    fun c => Cert.Reference2Ideal.Stages.part2 (Cert.Kernel2Ideal.Proj.whole m c), fun c => Cert.Reference2Ideal.Stages.part3 (Cert.Kernel2Ideal.Proj.whole m c),
    fun c => Cert.Reference2Ideal.Stages.part4 (Cert.Kernel2Ideal.Proj.whole m c), ?_, ?_⟩
  · refine (θ_run Cert.Kernel2Ideal.defs _ _).mono (fun r h c => ?_) (Cert.Kernel2Ideal.Value.run_blocks (F := Ideal) m ρ)
    obtain ⟨h7, h8, h9, h10, h11, -, kept⟩ := h c
    exact ⟨h7.trans (Cert.Kernel2Ideal.Proj.value7 m c), h8.trans (Cert.Kernel2Ideal.Proj.value8 m c), h9.trans (Cert.Kernel2Ideal.Proj.value9 m c),
      h10.trans (Cert.Kernel2Ideal.Proj.value10 m c), h11.trans (Cert.Kernel2Ideal.Proj.value11 m c), kept⟩
  · refine (θ_run Cert.Reference2Ideal.defs _ _).mono (fun r h c => ?_) (Cert.Reference2Ideal.Value.run (F := Ideal) m' ρ')
    obtain ⟨h0, h1, h2, h3, h4, kept⟩ := h c
    have e0 : r.2.mem ((c.tc : Thread Cert.Reference2Ideal.nD Cert.Reference2Ideal.τ).loc Cert.Reference2Ideal.main_v108) = Cert.Reference2Ideal.Stages.part0 (Cert.Reference2Ideal.Stages.proj m' c) := h0
    have e4 : r.2.mem ((c.tc : Thread Cert.Reference2Ideal.nD Cert.Reference2Ideal.τ).loc Cert.Reference2Ideal.main_v112) = Cert.Reference2Ideal.Stages.part4 (Cert.Reference2Ideal.Stages.proj m' c) := h4
    exact ⟨e0.trans (congrArg Cert.Reference2Ideal.Stages.part0 (same c)), (h1.trans (Cert.Reference2Ideal.Stages.v109_eq m' c)).trans (congrArg Cert.Reference2Ideal.Stages.part1 (same c)),
      (h2.trans (Cert.Reference2Ideal.Stages.v110_eq m' c)).trans (congrArg Cert.Reference2Ideal.Stages.part2 (same c)),
      (h3.trans (Cert.Reference2Ideal.Stages.v111_eq m' c)).trans (congrArg Cert.Reference2Ideal.Stages.part3 (same c)),
      e4.trans (congrArg Cert.Reference2Ideal.Stages.part4 (same c)), kept⟩

end Cert.Proof

end
-- ==== Proof.lean ====
/- The proof of the claims about the attention and the input projection: their runs for the frames, and the values they return. -/
module

public import proofs.«01_k».proof.Defs
public import proofs.«01_k».proof.Proof.Frames
public import proofs.«01_k».proof.Proof.Algebra
public import proofs.«01_k».proof.Proof.ProjAlgebra

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite.Gen.facts,
    frame_kernel, frame_ideal, fun m ρ _ => frame_ideal m ρ trivial, frame_ref, fun m ρ _ => frame_ref m ρ trivial,
    frame_kernel2, frame_ideal2, frame_ref2, trivial, algebra, trivial, algebra2⟩

end Cert.Proof

end
